-- ==== Defs.lean ====
def Pre_Kernel [hPre_balanced_Kernel : Cert.Pre_balanced_Kernel.Facts] (m : (ℓ : Loc Cert.Kernel.nD Cert.Kernel.τ Cert.Kernel.sig) → Buf (Elt Bits) ℓ) : Prop :=
  ∀ c : Dev Cert.Kernel.nD,
    (Cert.Pre_balanced_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_balanced_Kernel : Cert.Pre_balanced_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_balanced_Kernel : Cert.Pre_balanced_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_balanced_Kernel : Cert.Pre_balanced_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_balanced_Kernel : Cert.Pre_balanced_Kernel.Facts) (hPre_balanced_ReferenceIdeal : Cert.Pre_balanced_ReferenceIdeal.Facts),
    quiescent_Kernel (hKernel := hKernel) (hPre_balanced_Kernel := hPre_balanced_Kernel)
    ∧ quiescent_KernelIdeal (hKernelIdeal := hKernelIdeal) (hPre_balanced_Kernel := hPre_balanced_Kernel)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal (hKernelIdeal := hKernelIdeal) (hReferenceIdeal := hReferenceIdeal) (hPre_balanced_Kernel := hPre_balanced_Kernel)
-- ==== Pre_balanced_Kernel.lean ====
abbrev S1024x512 : Shape := ⟨2, ![1024, 512]⟩
abbrev S1024 : Shape := ⟨1, ![1024]⟩
abbrev S16 : Shape := ⟨1, ![16]⟩
abbrev S1024x1 : Shape := ⟨2, ![1024, 1]⟩
abbrev S1x16 : Shape := ⟨2, ![1, 16]⟩
abbrev S1024x16 : Shape := ⟨2, ![1024, 16]⟩
abbrev S_ : Shape := ⟨0, ![]⟩

class Facts : Prop where
  bcast_S1024_S1024x1_0 : S1024.BroadcastsInDim S1024x1 (![0] : Fin 1 → Fin S1024x1.rank)
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  natLt_1_32 : 1 < 32
  reducesTo_S1024x16_S16_d0 : S1024x16.ReducesTo [0] S16
  h_S_ : 0 < S_.numel
  bcast_S_S16 : S_.BroadcastsInDim S16 (![] : Fin 0 → Fin S16.rank)

variable [Facts]

def fn {F : FTy → Type} [FloatOps F] (main_arg0 : FVec F S1024x512 .f32) (main_arg1 : IVec S1024 32) : IVec S16 1 :=
  let main_v0 : IVec S16 32 := iotaInDim S16 32 0
  let main_v1 : IVec S1024x1 32 := broadcastInDim S1024x1 ![0] bcast_S1024_S1024x1_0 main_arg1
  let main_v2 : IVec S1x16 32 := broadcastInDim S1x16 ![1] bcast_S16_S1x16_1 main_v0
  let main_v3 : IVec S1024x16 32 := broadcastInDim S1024x16 ![0, 1] bcast_S1024x1_S1024x16_0_1 main_v1
  let main_v4 : IVec S1024x16 32 := broadcastInDim S1024x16 ![0, 1] bcast_S1x16_S1024x16_0_1 main_v2
  let main_v5 : IVec S1024x16 1 := cmpi .eq main_v3 main_v4
  let main_v6 : IVec S1024x16 32 := (extui 32 · natLt_1_32) main_v5
  let main_c : IVec S_ 32 := constantI S_ 32 0#32
  let main_v7 : IVec S16 32 := (fun x v => Host.reduce IntOp.addi x v reducesTo_S1024x16_S16_d0 h_S_) main_v6 main_c
  let main_c_0 : IVec S_ 32 := constantI S_ 32 64#32
  let main_v8 : IVec S16 32 := broadcastInDim S16 ![] bcast_S_S16 main_c_0
  let main_v9 : IVec S16 1 := cmpi .eq main_v7 main_v8
  main_v9
-- ==== Pre_balanced_ReferenceIdeal.lean ====
abbrev S16384x512 : Shape := ⟨2, ![16384, 512]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S_ : Shape := ⟨0, ![]⟩

class Facts : Prop where
  bcast_S16384_S16384x1_0 : S16384.BroadcastsInDim S16384x1 (![0] : Fin 1 → Fin S16384x1.rank)
  bcast_S16_S1x16_1 : S16.BroadcastsInDim S1x16 (![1] : Fin 1 → Fin S1x16.rank)
  bcast_S16384x1_S16384x16_0_1 : S16384x1.BroadcastsInDim S16384x16 (![0, 1] : Fin 2 → Fin S16384x16.rank)
  bcast_S1x16_S16384x16_0_1 : S1x16.BroadcastsInDim S16384x16 (![0, 1] : Fin 2 → Fin S16384x16.rank)
  natLt_1_32 : 1 < 32
  reducesTo_S16384x16_S16_d0 : S16384x16.ReducesTo [0] S16
  h_S_ : 0 < S_.numel
  bcast_S_S16 : S_.BroadcastsInDim S16 (![] : Fin 0 → Fin S16.rank)

variable [Facts]

def fn {F : FTy → Type} [FloatOps F] (main_arg0 : FVec F S16384x512 .f32) (main_arg1 : IVec S16384 32) : IVec S16 1 :=
  let main_v0 : IVec S16 32 := iotaInDim S16 32 0
  let main_v1 : IVec S16384x1 32 := broadcastInDim S16384x1 ![0] bcast_S16384_S16384x1_0 main_arg1
  let main_v2 : IVec S1x16 32 := broadcastInDim S1x16 ![1] bcast_S16_S1x16_1 main_v0
  let main_v3 : IVec S16384x16 32 := broadcastInDim S16384x16 ![0, 1] bcast_S16384x1_S16384x16_0_1 main_v1
  let main_v4 : IVec S16384x16 32 := broadcastInDim S16384x16 ![0, 1] bcast_S1x16_S16384x16_0_1 main_v2
  let main_v5 : IVec S16384x16 1 := cmpi .eq main_v3 main_v4
  let main_v6 : IVec S16384x16 32 := (extui 32 · natLt_1_32) main_v5
  let main_c : IVec S_ 32 := constantI S_ 32 0#32
  let main_v7 : IVec S16 32 := (fun x v => Host.reduce IntOp.addi x v reducesTo_S16384x16_S16_d0 h_S_) main_v6 main_c
  let main_c_0 : IVec S_ 32 := constantI S_ 32 64#32
  let main_v8 : IVec S16 32 := broadcastInDim S16 ![] bcast_S_S16 main_c_0
  let main_v9 : IVec S16 1 := cmpi .eq main_v7 main_v8
  main_v9
-- ==== Kernel.lean ====
abbrev S1024x512 : Shape := ⟨2, ![1024, 512]⟩
abbrev S1024 : Shape := ⟨1, ![1024]⟩
abbrev S16 : Shape := ⟨1, ![16]⟩
abbrev S16x16 : Shape := ⟨2, ![16, 16]⟩
abbrev S_ : Shape := ⟨0, ![]⟩
abbrev S1 : Shape := ⟨1, ![1]⟩
abbrev S1x1 : Shape := ⟨2, ![1, 1]⟩
abbrev S1x16 : Shape := ⟨2, ![1, 16]⟩
abbrev S1x512 : Shape := ⟨2, ![1, 512]⟩

abbrev nBuf : Space → Nat
  | .hbm => 3
  | .vmem => 2
  | .smem => 5
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S1024x512, .f32⟩
  | .local _ .vmem, ⟨0, _⟩ => ⟨S1024x512, .f32⟩
  | .local _ .vmem, ⟨1, _⟩ => ⟨S1024x512, .f32⟩
  | .local _ .smem, ⟨0, _⟩ => ⟨S1024, .i32⟩
  | .local _ .smem, ⟨1, _⟩ => ⟨S16, .i32⟩
  | .local _ .smem, ⟨2, _⟩ => ⟨S1024, .i32⟩
  | .local _ .smem, ⟨3, _⟩ => ⟨S16x16, .i32⟩
  | .local _ .smem, ⟨4, _⟩ => ⟨S16, .i32⟩
  | _, _ => ⟨S1024x512, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 2 → Bool
  | ⟨0, _⟩ => false
  | ⟨1, _⟩ => true
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 2 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_scratch2 : Ref sig .tc := ⟨.smem, 3, rfl⟩
abbrev cc0_scratch3 : Ref sig .tc := ⟨.smem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_242 : BitVec 32 := 0#32
  let c0_i32_240 : BitVec 32 := 0#32
  let c1_i32_241 : BitVec 32 := 1#32
  let v333 : BitVec 32 := Scalar.muli c0_i32_240 c1_i32_241
  let v334 : BitVec 32 := Scalar.addi c0_i32_242 v333
  v334.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_242 : BitVec 32 := 0#32
  let c1_i32_240 : BitVec 32 := 1#32
  let c1_i32_241 : BitVec 32 := 1#32
  let v333 : BitVec 32 := Scalar.muli c1_i32_240 c1_i32_241
  let v334 : BitVec 32 := Scalar.addi c0_i32_242 v333
  v334.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_242 : BitVec 32 := 0#32
  let c2_i32_240 : BitVec 32 := 2#32
  let c1_i32_241 : BitVec 32 := 1#32
  let v333 : BitVec 32 := Scalar.muli c2_i32_240 c1_i32_241
  let v334 : BitVec 32 := Scalar.addi c0_i32_242 v333
  v334.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_242 : BitVec 32 := 0#32
  let c3_i32_240 : BitVec 32 := 3#32
  let c1_i32_241 : BitVec 32 := 1#32
  let v333 : BitVec 32 := Scalar.muli c3_i32_240 c1_i32_241
  let v334 : BitVec 32 := Scalar.addi c0_i32_242 v333
  v334.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_242 : BitVec 32 := 0#32
  let c4_i32_240 : BitVec 32 := 4#32
  let c1_i32_241 : BitVec 32 := 1#32
  let v333 : BitVec 32 := Scalar.muli c4_i32_240 c1_i32_241
  let v334 : BitVec 32 := Scalar.addi c0_i32_242 v333
  v334.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_242 : BitVec 32 := 0#32
  let c5_i32_240 : BitVec 32 := 5#32
  let c1_i32_241 : BitVec 32 := 1#32
  let v333 : BitVec 32 := Scalar.muli c5_i32_240 c1_i32_241
  let v334 : BitVec 32 := Scalar.addi c0_i32_242 v333
  v334.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_242 : BitVec 32 := 0#32
  let c6_i32_240 : BitVec 32 := 6#32
  let c1_i32_241 : BitVec 32 := 1#32
  let v333 : BitVec 32 := Scalar.muli c6_i32_240 c1_i32_241
  let v334 : BitVec 32 := Scalar.addi c0_i32_242 v333
  v334.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_242 : BitVec 32 := 0#32
  let c7_i32_240 : BitVec 32 := 7#32
  let c1_i32_241 : BitVec 32 := 1#32
  let v333 : BitVec 32 := Scalar.muli c7_i32_240 c1_i32_241
  let v334 : BitVec 32 := Scalar.addi c0_i32_242 v333
  v334.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_242 : BitVec 32 := 0#32
  let c8_i32_240 : BitVec 32 := 8#32
  let c1_i32_241 : BitVec 32 := 1#32
  let v333 : BitVec 32 := Scalar.muli c8_i32_240 c1_i32_241
  let v334 : BitVec 32 := Scalar.addi c0_i32_242 v333
  v334.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_242 : BitVec 32 := 0#32
  let c9_i32_240 : BitVec 32 := 9#32
  let c1_i32_241 : BitVec 32 := 1#32
  let v333 : BitVec 32 := Scalar.muli c9_i32_240 c1_i32_241
  let v334 : BitVec 32 := Scalar.addi c0_i32_242 v333
  v334.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_242 : BitVec 32 := 0#32
  let c10_i32_240 : BitVec 32 := 10#32
  let c1_i32_241 : BitVec 32 := 1#32
  let v333 : BitVec 32 := Scalar.muli c10_i32_240 c1_i32_241
  let v334 : BitVec 32 := Scalar.addi c0_i32_242 v333
  v334.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_242 : BitVec 32 := 0#32
  let c11_i32_240 : BitVec 32 := 11#32
  let c1_i32_241 : BitVec 32 := 1#32
  let v333 : BitVec 32 := Scalar.muli c11_i32_240 c1_i32_241
  let v334 : BitVec 32 := Scalar.addi c0_i32_242 v333
  v334.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_242 : BitVec 32 := 0#32
  let c12_i32_240 : BitVec 32 := 12#32
  let c1_i32_241 : BitVec 32 := 1#32
  let v333 : BitVec 32 := Scalar.muli c12_i32_240 c1_i32_241
  let v334 : BitVec 32 := Scalar.addi c0_i32_242 v333
  v334.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_242 : BitVec 32 := 0#32
  let c13_i32_240 : BitVec 32 := 13#32
  let c1_i32_241 : BitVec 32 := 1#32
  let v333 : BitVec 32 := Scalar.muli c13_i32_240 c1_i32_241
  let v334 : BitVec 32 := Scalar.addi c0_i32_242 v333
  v334.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_242 : BitVec 32 := 0#32
  let c14_i32_240 : BitVec 32 := 14#32
  let c1_i32_241 : BitVec 32 := 1#32
  let v333 : BitVec 32 := Scalar.muli c14_i32_240 c1_i32_241
  let v334 : BitVec 32 := Scalar.addi c0_i32_242 v333
  v334.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_242 : BitVec 32 := 0#32
  let c15_i32_240 : BitVec 32 := 15#32
  let c1_i32_241 : BitVec 32 := 1#32
  let v333 : BitVec 32 := Scalar.muli c15_i32_240 c1_i32_241
  let v334 : BitVec 32 := Scalar.addi c0_i32_242 v333
  v334.toNat
@[reducible] def k0_t1_loop : Scf.Loop 32 :=
  let c0_i32_34 : BitVec 32 := 0#32
  let c1024_i32 : BitVec 32 := 1024#32
  let v68 : BitVec 32 := Scalar.addi c0_i32_34 c1024_i32
  let c1_i32_35 : BitVec 32 := 1#32
  ⟨c0_i32_34, v68, c1_i32_35⟩
def k0_off1 (k0_t1 : Fin k0_t1_loop.trips) : Fin 1 → Nat :=
  let c0_i32_34 : BitVec 32 := 0#32
  let c1_i32_35 : BitVec 32 := 1#32
  let arg12 : BitVec 32 := Scf.iv c0_i32_34 c1_i32_35 k0_t1
  let v333 : Index := Scalar.indexCast arg12
  ![v333.toNat]
def k0_off2 (v334 : BitVec 32) : Fin 1 → Nat :=
  let v335 : Index := Scalar.indexCast v334
  ![v335.toNat]

def k0_chk1 (v334 : BitVec 32) : Prop :=
  (∀ a, (k0_off2 v334) a + S1.size a ≤ S16.size a)
theorem k0_off2_inb : ∀ (v334 : BitVec 32) (k0_hw1 : k0_chk1 v334), ∀ a, (k0_off2 v334) a + S1.size a ≤ S16.size a := fun v334 k0_hw1 => k0_hw1

def k0_off3 (k0_t1 : Fin k0_t1_loop.trips) : Fin 1 → Nat :=
  let c0_i32_34 : BitVec 32 := 0#32
  let c1_i32_35 : BitVec 32 := 1#32
  let arg12 : BitVec 32 := Scf.iv c0_i32_34 c1_i32_35 k0_t1
  let v337 : Index := Scalar.indexCast arg12
  ![v337.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : Index := Scalar.indexCast v2
  let c0_38 : Index := 0#32
  ![v70.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v73 : Index := Scalar.indexCast v2
  let c1_40 : Index := 1#32
  ![v73.toNat, 1]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v76 : Index := Scalar.indexCast v2
  let c2_42 : Index := 2#32
  ![v76.toNat, 2]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v79 : Index := Scalar.indexCast v2
  let c3_44 : Index := 3#32
  ![v79.toNat, 3]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v82 : Index := Scalar.indexCast v2
  let c4_46 : Index := 4#32
  ![v82.toNat, 4]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v85 : Index := Scalar.indexCast v2
  let c5_48 : Index := 5#32
  ![v85.toNat, 5]
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v88 : Index := Scalar.indexCast v2
  let c6_50 : Index := 6#32
  ![v88.toNat, 6]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v91 : Index := Scalar.indexCast v2
  let c7_52 : Index := 7#32
  ![v91.toNat, 7]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v94 : Index := Scalar.indexCast v2
  let c8_54 : Index := 8#32
  ![v94.toNat, 8]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v97 : Index := Scalar.indexCast v2
  let c9_56 : Index := 9#32
  ![v97.toNat, 9]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v100 : Index := Scalar.indexCast v2
  let c10_58 : Index := 10#32
  ![v100.toNat, 10]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v103 : Index := Scalar.indexCast v2
  let c11_60 : Index := 11#32
  ![v103.toNat, 11]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v106 : Index := Scalar.indexCast v2
  let c12_62 : Index := 12#32
  ![v106.toNat, 12]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v109 : Index := Scalar.indexCast v2
  let c13_64 : Index := 13#32
  ![v109.toNat, 13]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v112 : Index := Scalar.indexCast v2
  let c14_66 : Index := 14#32
  ![v112.toNat, 14]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v115 : Index := Scalar.indexCast v2
  let c15_68 : Index := 15#32
  ![v115.toNat, 15]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_69 : BitVec 32 := 0#32
  let v117 : BitVec 1 := Scalar.cmpi .ne v2 c0_i32_69
  let v118 : BitVec 32 := Scalar.extui v117
  let c0_i32_70 : BitVec 32 := 0#32
  let v119 : BitVec 1 := Scalar.cmpi .ne v118 c0_i32_70
  v119

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev17 : Nat :=
  let c0_i32_242 : BitVec 32 := 0#32
  let c0_i32_240 : BitVec 32 := 0#32
  let c1_i32_241 : BitVec 32 := 1#32
  let v333 : BitVec 32 := Scalar.muli c0_i32_240 c1_i32_241
  let v334 : BitVec 32 := Scalar.addi c0_i32_242 v333
  v334.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_71 : BitVec 32 := 1#32
  let v120 : BitVec 1 := Scalar.cmpi .ne v2 c1_i32_71
  let v121 : BitVec 32 := Scalar.extui v120
  let c0_i32_72 : BitVec 32 := 0#32
  let v122 : BitVec 1 := Scalar.cmpi .ne v121 c0_i32_72
  v122

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev18 : Nat :=
  let c0_i32_242 : BitVec 32 := 0#32
  let c1_i32_240 : BitVec 32 := 1#32
  let c1_i32_241 : BitVec 32 := 1#32
  let v333 : BitVec 32 := Scalar.muli c1_i32_240 c1_i32_241
  let v334 : BitVec 32 := Scalar.addi c0_i32_242 v333
  v334.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_73 : BitVec 32 := 2#32
  let v123 : BitVec 1 := Scalar.cmpi .ne v2 c2_i32_73
  let v124 : BitVec 32 := Scalar.extui v123
  let c0_i32_74 : BitVec 32 := 0#32
  let v125 : BitVec 1 := Scalar.cmpi .ne v124 c0_i32_74
  v125

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev19 : Nat :=
  let c0_i32_242 : BitVec 32 := 0#32
  let c2_i32_240 : BitVec 32 := 2#32
  let c1_i32_241 : BitVec 32 := 1#32
  let v333 : BitVec 32 := Scalar.muli c2_i32_240 c1_i32_241
  let v334 : BitVec 32 := Scalar.addi c0_i32_242 v333
  v334.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_75 : BitVec 32 := 3#32
  let v126 : BitVec 1 := Scalar.cmpi .ne v2 c3_i32_75
  let v127 : BitVec 32 := Scalar.extui v126
  let c0_i32_76 : BitVec 32 := 0#32
  let v128 : BitVec 1 := Scalar.cmpi .ne v127 c0_i32_76
  v128

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev20 : Nat :=
  let c0_i32_242 : BitVec 32 := 0#32
  let c3_i32_240 : BitVec 32 := 3#32
  let c1_i32_241 : BitVec 32 := 1#32
  let v333 : BitVec 32 := Scalar.muli c3_i32_240 c1_i32_241
  let v334 : BitVec 32 := Scalar.addi c0_i32_242 v333
  v334.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_77 : BitVec 32 := 4#32
  let v129 : BitVec 1 := Scalar.cmpi .ne v2 c4_i32_77
  let v130 : BitVec 32 := Scalar.extui v129
  let c0_i32_78 : BitVec 32 := 0#32
  let v131 : BitVec 1 := Scalar.cmpi .ne v130 c0_i32_78
  v131

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev21 : Nat :=
  let c0_i32_242 : BitVec 32 := 0#32
  let c4_i32_240 : BitVec 32 := 4#32
  let c1_i32_241 : BitVec 32 := 1#32
  let v333 : BitVec 32 := Scalar.muli c4_i32_240 c1_i32_241
  let v334 : BitVec 32 := Scalar.addi c0_i32_242 v333
  v334.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_79 : BitVec 32 := 5#32
  let v132 : BitVec 1 := Scalar.cmpi .ne v2 c5_i32_79
  let v133 : BitVec 32 := Scalar.extui v132
  let c0_i32_80 : BitVec 32 := 0#32
  let v134 : BitVec 1 := Scalar.cmpi .ne v133 c0_i32_80
  v134

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev22 : Nat :=
  let c0_i32_242 : BitVec 32 := 0#32
  let c5_i32_240 : BitVec 32 := 5#32
  let c1_i32_241 : BitVec 32 := 1#32
  let v333 : BitVec 32 := Scalar.muli c5_i32_240 c1_i32_241
  let v334 : BitVec 32 := Scalar.addi c0_i32_242 v333
  v334.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_81 : BitVec 32 := 6#32
  let v135 : BitVec 1 := Scalar.cmpi .ne v2 c6_i32_81
  let v136 : BitVec 32 := Scalar.extui v135
  let c0_i32_82 : BitVec 32 := 0#32
  let v137 : BitVec 1 := Scalar.cmpi .ne v136 c0_i32_82
  v137

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev23 : Nat :=
  let c0_i32_242 : BitVec 32 := 0#32
  let c6_i32_240 : BitVec 32 := 6#32
  let c1_i32_241 : BitVec 32 := 1#32
  let v333 : BitVec 32 := Scalar.muli c6_i32_240 c1_i32_241
  let v334 : BitVec 32 := Scalar.addi c0_i32_242 v333
  v334.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_83 : BitVec 32 := 7#32
  let v138 : BitVec 1 := Scalar.cmpi .ne v2 c7_i32_83
  let v139 : BitVec 32 := Scalar.extui v138
  let c0_i32_84 : BitVec 32 := 0#32
  let v140 : BitVec 1 := Scalar.cmpi .ne v139 c0_i32_84
  v140

def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev24 : Nat :=
  let c0_i32_242 : BitVec 32 := 0#32
  let c7_i32_240 : BitVec 32 := 7#32
  let c1_i32_241 : BitVec 32 := 1#32
  let v333 : BitVec 32 := Scalar.muli c7_i32_240 c1_i32_241
  let v334 : BitVec 32 := Scalar.addi c0_i32_242 v333
  v334.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_85 : BitVec 32 := 8#32
  let v141 : BitVec 1 := Scalar.cmpi .ne v2 c8_i32_85
  let v142 : BitVec 32 := Scalar.extui v141
  let c0_i32_86 : BitVec 32 := 0#32
  let v143 : BitVec 1 := Scalar.cmpi .ne v142 c0_i32_86
  v143

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev25 : Nat :=
  let c0_i32_242 : BitVec 32 := 0#32
  let c8_i32_240 : BitVec 32 := 8#32
  let c1_i32_241 : BitVec 32 := 1#32
  let v333 : BitVec 32 := Scalar.muli c8_i32_240 c1_i32_241
  let v334 : BitVec 32 := Scalar.addi c0_i32_242 v333
  v334.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_87 : BitVec 32 := 9#32
  let v144 : BitVec 1 := Scalar.cmpi .ne v2 c9_i32_87
  let v145 : BitVec 32 := Scalar.extui v144
  let c0_i32_88 : BitVec 32 := 0#32
  let v146 : BitVec 1 := Scalar.cmpi .ne v145 c0_i32_88
  v146

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev26 : Nat :=
  let c0_i32_242 : BitVec 32 := 0#32
  let c9_i32_240 : BitVec 32 := 9#32
  let c1_i32_241 : BitVec 32 := 1#32
  let v333 : BitVec 32 := Scalar.muli c9_i32_240 c1_i32_241
  let v334 : BitVec 32 := Scalar.addi c0_i32_242 v333
  v334.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_89 : BitVec 32 := 10#32
  let v147 : BitVec 1 := Scalar.cmpi .ne v2 c10_i32_89
  let v148 : BitVec 32 := Scalar.extui v147
  let c0_i32_90 : BitVec 32 := 0#32
  let v149 : BitVec 1 := Scalar.cmpi .ne v148 c0_i32_90
  v149

def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev27 : Nat :=
  let c0_i32_242 : BitVec 32 := 0#32
  let c10_i32_240 : BitVec 32 := 10#32
  let c1_i32_241 : BitVec 32 := 1#32
  let v333 : BitVec 32 := Scalar.muli c10_i32_240 c1_i32_241
  let v334 : BitVec 32 := Scalar.addi c0_i32_242 v333
  v334.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_91 : BitVec 32 := 11#32
  let v150 : BitVec 1 := Scalar.cmpi .ne v2 c11_i32_91
  let v151 : BitVec 32 := Scalar.extui v150
  let c0_i32_92 : BitVec 32 := 0#32
  let v152 : BitVec 1 := Scalar.cmpi .ne v151 c0_i32_92
  v152

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev28 : Nat :=
  let c0_i32_242 : BitVec 32 := 0#32
  let c11_i32_240 : BitVec 32 := 11#32
  let c1_i32_241 : BitVec 32 := 1#32
  let v333 : BitVec 32 := Scalar.muli c11_i32_240 c1_i32_241
  let v334 : BitVec 32 := Scalar.addi c0_i32_242 v333
  v334.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_93 : BitVec 32 := 12#32
  let v153 : BitVec 1 := Scalar.cmpi .ne v2 c12_i32_93
  let v154 : BitVec 32 := Scalar.extui v153
  let c0_i32_94 : BitVec 32 := 0#32
  let v155 : BitVec 1 := Scalar.cmpi .ne v154 c0_i32_94
  v155

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev29 : Nat :=
  let c0_i32_242 : BitVec 32 := 0#32
  let c12_i32_240 : BitVec 32 := 12#32
  let c1_i32_241 : BitVec 32 := 1#32
  let v333 : BitVec 32 := Scalar.muli c12_i32_240 c1_i32_241
  let v334 : BitVec 32 := Scalar.addi c0_i32_242 v333
  v334.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_95 : BitVec 32 := 13#32
  let v156 : BitVec 1 := Scalar.cmpi .ne v2 c13_i32_95
  let v157 : BitVec 32 := Scalar.extui v156
  let c0_i32_96 : BitVec 32 := 0#32
  let v158 : BitVec 1 := Scalar.cmpi .ne v157 c0_i32_96
  v158

def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev30 : Nat :=
  let c0_i32_242 : BitVec 32 := 0#32
  let c13_i32_240 : BitVec 32 := 13#32
  let c1_i32_241 : BitVec 32 := 1#32
  let v333 : BitVec 32 := Scalar.muli c13_i32_240 c1_i32_241
  let v334 : BitVec 32 := Scalar.addi c0_i32_242 v333
  v334.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_97 : BitVec 32 := 14#32
  let v159 : BitVec 1 := Scalar.cmpi .ne v2 c14_i32_97
  let v160 : BitVec 32 := Scalar.extui v159
  let c0_i32_98 : BitVec 32 := 0#32
  let v161 : BitVec 1 := Scalar.cmpi .ne v160 c0_i32_98
  v161

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev31 : Nat :=
  let c0_i32_242 : BitVec 32 := 0#32
  let c14_i32_240 : BitVec 32 := 14#32
  let c1_i32_241 : BitVec 32 := 1#32
  let v333 : BitVec 32 := Scalar.muli c14_i32_240 c1_i32_241
  let v334 : BitVec 32 := Scalar.addi c0_i32_242 v333
  v334.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_99 : BitVec 32 := 15#32
  let v162 : BitVec 1 := Scalar.cmpi .ne v2 c15_i32_99
  let v163 : BitVec 32 := Scalar.extui v162
  let c0_i32_100 : BitVec 32 := 0#32
  let v164 : BitVec 1 := Scalar.cmpi .ne v163 c0_i32_100
  v164

def k0_off50 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_243 : BitVec 32 := 0#32
  ![v2.toNat, 0]
def k0_dev32 : Nat :=
  let c0_i32_242 : BitVec 32 := 0#32
  let c15_i32_240 : BitVec 32 := 15#32
  let c1_i32_241 : BitVec 32 := 1#32
  let v333 : BitVec 32 := Scalar.muli c15_i32_240 c1_i32_241
  let v334 : BitVec 32 := Scalar.addi c0_i32_242 v333
  v334.toNat
@[reducible] def k0_t2_loop (d0 : Dev nD) : Scf.Loop 32 :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_168 : BitVec 32 := 1#32
  ⟨c0_i32_166, v233, c1_i32_168⟩
def k0_off52 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v334 : Index := Scalar.indexCast arg12
  let c0_240 : Index := 0#32
  ![v334.toNat, 0]
def k0_off53 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v339 : Index := Scalar.indexCast arg12
  let c1_243 : Index := 1#32
  ![v339.toNat, 1]
def k0_off54 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v344 : Index := Scalar.indexCast arg12
  let c2_246 : Index := 2#32
  ![v344.toNat, 2]
def k0_off55 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v349 : Index := Scalar.indexCast arg12
  let c3_249 : Index := 3#32
  ![v349.toNat, 3]
def k0_off56 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v354 : Index := Scalar.indexCast arg12
  let c4_252 : Index := 4#32
  ![v354.toNat, 4]
def k0_off57 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v359 : Index := Scalar.indexCast arg12
  let c5_255 : Index := 5#32
  ![v359.toNat, 5]
def k0_off58 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v364 : Index := Scalar.indexCast arg12
  let c6_258 : Index := 6#32
  ![v364.toNat, 6]
def k0_off59 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v369 : Index := Scalar.indexCast arg12
  let c7_261 : Index := 7#32
  ![v369.toNat, 7]
def k0_off60 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v374 : Index := Scalar.indexCast arg12
  let c8_264 : Index := 8#32
  ![v374.toNat, 8]
def k0_off61 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v379 : Index := Scalar.indexCast arg12
  let c9_267 : Index := 9#32
  ![v379.toNat, 9]
def k0_off62 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v384 : Index := Scalar.indexCast arg12
  let c10_270 : Index := 10#32
  ![v384.toNat, 10]
def k0_off63 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v389 : Index := Scalar.indexCast arg12
  let c11_273 : Index := 11#32
  ![v389.toNat, 11]
def k0_off64 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v394 : Index := Scalar.indexCast arg12
  let c12_276 : Index := 12#32
  ![v394.toNat, 12]
def k0_off65 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v399 : Index := Scalar.indexCast arg12
  let c13_279 : Index := 13#32
  ![v399.toNat, 13]
def k0_off66 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v404 : Index := Scalar.indexCast arg12
  let c14_282 : Index := 14#32
  ![v404.toNat, 14]
def k0_off67 (d0 : Dev nD) (k0_t2 : Fin (k0_t2_loop d0).trips) : Fin 2 → Nat :=
  let c0_i32_166 : BitVec 32 := 0#32
  let c1_i32_168 : BitVec 32 := 1#32
  let arg12 : BitVec 32 := Scf.iv c0_i32_166 c1_i32_168 k0_t2
  let v409 : Index := Scalar.indexCast arg12
  let c15_285 : Index := 15#32
  ![v409.toNat, 15]
@[reducible] def k0_t3_loop (d0 : Dev nD) : Scf.Loop 32 :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let v230 : BitVec 32 := Scalar.addi c0_i32_166 v229
  let c1_i32_169 : BitVec 32 := 1#32
  ⟨v233, v230, c1_i32_169⟩
def k0_off68 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v334 : Index := Scalar.indexCast arg12
  let c0_240 : Index := 0#32
  ![v334.toNat, 0]
def k0_off69 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v339 : Index := Scalar.indexCast arg12
  let c1_243 : Index := 1#32
  ![v339.toNat, 1]
def k0_off70 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v344 : Index := Scalar.indexCast arg12
  let c2_246 : Index := 2#32
  ![v344.toNat, 2]
def k0_off71 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v349 : Index := Scalar.indexCast arg12
  let c3_249 : Index := 3#32
  ![v349.toNat, 3]
def k0_off72 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v354 : Index := Scalar.indexCast arg12
  let c4_252 : Index := 4#32
  ![v354.toNat, 4]
def k0_off73 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v359 : Index := Scalar.indexCast arg12
  let c5_255 : Index := 5#32
  ![v359.toNat, 5]
def k0_off74 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v364 : Index := Scalar.indexCast arg12
  let c6_258 : Index := 6#32
  ![v364.toNat, 6]
def k0_off75 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v369 : Index := Scalar.indexCast arg12
  let c7_261 : Index := 7#32
  ![v369.toNat, 7]
def k0_off76 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v374 : Index := Scalar.indexCast arg12
  let c8_264 : Index := 8#32
  ![v374.toNat, 8]
def k0_off77 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v379 : Index := Scalar.indexCast arg12
  let c9_267 : Index := 9#32
  ![v379.toNat, 9]
def k0_off78 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v384 : Index := Scalar.indexCast arg12
  let c10_270 : Index := 10#32
  ![v384.toNat, 10]
def k0_off79 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v389 : Index := Scalar.indexCast arg12
  let c11_273 : Index := 11#32
  ![v389.toNat, 11]
def k0_off80 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v394 : Index := Scalar.indexCast arg12
  let c12_276 : Index := 12#32
  ![v394.toNat, 12]
def k0_off81 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v399 : Index := Scalar.indexCast arg12
  let c13_279 : Index := 13#32
  ![v399.toNat, 13]
def k0_off82 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v404 : Index := Scalar.indexCast arg12
  let c14_282 : Index := 14#32
  ![v404.toNat, 14]
def k0_off83 (d0 : Dev nD) (k0_t3 : Fin (k0_t3_loop d0).trips) : Fin 2 → Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.subi v2 c0_i32_166
  let c1_i32_167 : BitVec 32 := 1#32
  let v231 : BitVec 32 := Scalar.divsi v229 c1_i32_167
  let v232 : BitVec 32 := Scalar.muli v231 c1_i32_167
  let v233 : BitVec 32 := Scalar.addi c0_i32_166 v232
  let c1_i32_169 : BitVec 32 := 1#32
  let arg12 : BitVec 32 := Scf.iv v233 c1_i32_169 k0_t3
  let v409 : Index := Scalar.indexCast arg12
  let c15_285 : Index := 15#32
  ![v409.toNat, 15]
@[reducible] def k0_t4_loop : Scf.Loop 32 :=
  let c0_i32_170 : BitVec 32 := 0#32
  let c1024_i32_171 : BitVec 32 := 1024#32
  let v234 : BitVec 32 := Scalar.addi c0_i32_170 c1024_i32_171
  let c1_i32_172 : BitVec 32 := 1#32
  ⟨c0_i32_170, v234, c1_i32_172⟩
def k0_off84 (k0_t4 : Fin k0_t4_loop.trips) : Fin 1 → Nat :=
  let c0_i32_170 : BitVec 32 := 0#32
  let c1_i32_172 : BitVec 32 := 1#32
  let arg12 : BitVec 32 := Scf.iv c0_i32_170 c1_i32_172 k0_t4
  let v333 : Index := Scalar.indexCast arg12
  ![v333.toNat]
def k0_off85 (v334 : BitVec 32) : Fin 1 → Nat :=
  let v335 : Index := Scalar.indexCast v334
  ![v335.toNat]

def k0_off86 (k0_t4 : Fin k0_t4_loop.trips) : Fin 1 → Nat :=
  let c0_i32_170 : BitVec 32 := 0#32
  let c1_i32_172 : BitVec 32 := 1#32
  let arg12 : BitVec 32 := Scf.iv c0_i32_170 c1_i32_172 k0_t4
  let v337 : Index := Scalar.indexCast arg12
  ![v337.toNat]
def k0_off87 (v336 : BitVec 32) (v338 : BitVec 32) : Fin 2 → Nat :=
  let v339 : BitVec 32 := Scalar.addi v336 v338
  let c0_i32_241 : BitVec 32 := 0#32
  ![v339.toNat, 0]
def k0_cond49 (d0 : Dev nD) (v334 : BitVec 32) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v340 : BitVec 1 := Scalar.cmpi .eq v334 v2
  let v341 : BitVec 32 := Scalar.extui v340
  let c0_i32_239 : BitVec 32 := 0#32
  let v342 : BitVec 1 := Scalar.cmpi .ne v341 c0_i32_239
  v342

def k0_off88 (k0_t4 : Fin k0_t4_loop.trips) : Fin 2 → Nat :=
  let c0_i32_170 : BitVec 32 := 0#32
  let c1_i32_172 : BitVec 32 := 1#32
  let arg12 : BitVec 32 := Scf.iv c0_i32_170 c1_i32_172 k0_t4
  let c0_i32_242 : BitVec 32 := 0#32
  ![arg12.toNat, 0]
def k0_off89 (v336 : BitVec 32) (v338 : BitVec 32) : Fin 2 → Nat :=
  let v339 : BitVec 32 := Scalar.addi v336 v338
  let c0_i32_243 : BitVec 32 := 0#32
  ![v339.toNat, 0]
def k0_cond50 (d0 : Dev nD) (v334 : BitVec 32) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 1 := Scalar.cmpi .ne v334 v2
  let v344 : BitVec 32 := Scalar.extui v343
  let c0_i32_240 : BitVec 32 := 0#32
  let v345 : BitVec 1 := Scalar.cmpi .ne v344 c0_i32_240
  v345

def k0_chk3 (d0 : Dev nD) (v334 : BitVec 32) (v336 : BitVec 32) (v338 : BitVec 32) : Prop :=
  (∀ (k0_h49 : k0_cond49 d0 v334 = 1#1), ∀ a, (k0_off87 v336 v338) a + S1x512.size a ≤ S1024x512.size a) ∧
  (∀ (k0_h50 : k0_cond50 d0 v334 = 1#1), ∀ a, (k0_off89 v336 v338) a + S1x512.size a ≤ S1024x512.size a)
theorem k0_off87_inb : ∀ (d0 : Dev nD) (v334 : BitVec 32) (v336 : BitVec 32) (v338 : BitVec 32) (k0_hw3 : k0_chk3 d0 v334 v336 v338), ∀ (k0_h49 : k0_cond49 d0 v334 = 1#1), ∀ a, (k0_off87 v336 v338) a + S1x512.size a ≤ S1024x512.size a := fun d0 v334 v336 v338 k0_hw3 k0_h49 => k0_hw3.1 k0_h49
theorem k0_off89_inb : ∀ (d0 : Dev nD) (v334 : BitVec 32) (v336 : BitVec 32) (v338 : BitVec 32) (k0_hw3 : k0_chk3 d0 v334 v336 v338), ∀ (k0_h50 : k0_cond50 d0 v334 = 1#1), ∀ a, (k0_off89 v336 v338) a + S1x512.size a ≤ S1024x512.size a := fun d0 v334 v336 v338 k0_hw3 k0_h50 => k0_hw3.2 k0_h50

def k0_off90 (k0_t4 : Fin k0_t4_loop.trips) : Fin 2 → Nat :=
  let c0_i32_170 : BitVec 32 := 0#32
  let c1_i32_172 : BitVec 32 := 1#32
  let arg12 : BitVec 32 := Scf.iv c0_i32_170 c1_i32_172 k0_t4
  let c0_i32_244 : BitVec 32 := 0#32
  ![arg12.toNat, 0]
def k0_dev33 (v334 : BitVec 32) : Nat :=
  let c0_i32_242 : BitVec 32 := 0#32
  let c1_i32_241 : BitVec 32 := 1#32
  let v346 : BitVec 32 := Scalar.muli v334 c1_i32_241
  let v347 : BitVec 32 := Scalar.addi c0_i32_242 v346
  v347.toNat

def k0_chk2 (d0 : Dev nD) (v334 : BitVec 32) : Prop :=
  (∀ a, (k0_off85 v334) a + S1.size a ≤ S16.size a) ∧
  (∀ (k0_h50 : k0_cond50 d0 v334 = 1#1), (k0_dev33 v334) < nD)
theorem k0_off85_inb : ∀ (d0 : Dev nD) (v334 : BitVec 32) (k0_hw2 : k0_chk2 d0 v334), ∀ a, (k0_off85 v334) a + S1.size a ≤ S16.size a := fun d0 v334 k0_hw2 => k0_hw2.1
theorem k0_dev33_lt : ∀ (d0 : Dev nD) (v334 : BitVec 32) (k0_hw2 : k0_chk2 d0 v334), ∀ (k0_h50 : k0_cond50 d0 v334 = 1#1), (k0_dev33 v334) < nD := fun d0 v334 k0_hw2 k0_h50 => k0_hw2.2 k0_h50

def k0_off91 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v235 : Index := Scalar.indexCast v2
  ![v235.toNat]
def k0_off92 (d0 : Dev nD) : Fin 2 → Nat :=
  let c0_175 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v238 : Index := Scalar.indexCast v2
  ![0, v238.toNat]
def k0_off93 (d0 : Dev nD) : Fin 2 → Nat :=
  let c1_179 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v243 : Index := Scalar.indexCast v2
  ![1, v243.toNat]
def k0_off94 (d0 : Dev nD) : Fin 2 → Nat :=
  let c2_182 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v248 : Index := Scalar.indexCast v2
  ![2, v248.toNat]
def k0_off95 (d0 : Dev nD) : Fin 2 → Nat :=
  let c3_185 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v253 : Index := Scalar.indexCast v2
  ![3, v253.toNat]
def k0_off96 (d0 : Dev nD) : Fin 2 → Nat :=
  let c4_188 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v258 : Index := Scalar.indexCast v2
  ![4, v258.toNat]
def k0_off97 (d0 : Dev nD) : Fin 2 → Nat :=
  let c5_191 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v263 : Index := Scalar.indexCast v2
  ![5, v263.toNat]
def k0_off98 (d0 : Dev nD) : Fin 2 → Nat :=
  let c6_194 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v268 : Index := Scalar.indexCast v2
  ![6, v268.toNat]
def k0_off99 (d0 : Dev nD) : Fin 2 → Nat :=
  let c7_197 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v273 : Index := Scalar.indexCast v2
  ![7, v273.toNat]
def k0_off100 (d0 : Dev nD) : Fin 2 → Nat :=
  let c8_200 : Index := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v278 : Index := Scalar.indexCast v2
  ![8, v278.toNat]
def k0_off101 (d0 : Dev nD) : Fin 2 → Nat :=
  let c9_203 : Index := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v283 : Index := Scalar.indexCast v2
  ![9, v283.toNat]
def k0_off102 (d0 : Dev nD) : Fin 2 → Nat :=
  let c10_206 : Index := 10#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v288 : Index := Scalar.indexCast v2
  ![10, v288.toNat]
def k0_off103 (d0 : Dev nD) : Fin 2 → Nat :=
  let c11_209 : Index := 11#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v293 : Index := Scalar.indexCast v2
  ![11, v293.toNat]
def k0_off104 (d0 : Dev nD) : Fin 2 → Nat :=
  let c12_212 : Index := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v298 : Index := Scalar.indexCast v2
  ![12, v298.toNat]
def k0_off105 (d0 : Dev nD) : Fin 2 → Nat :=
  let c13_215 : Index := 13#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v303 : Index := Scalar.indexCast v2
  ![13, v303.toNat]
def k0_off106 (d0 : Dev nD) : Fin 2 → Nat :=
  let c14_218 : Index := 14#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v308 : Index := Scalar.indexCast v2
  ![14, v308.toNat]
def k0_off107 (d0 : Dev nD) : Fin 2 → Nat :=
  let c15_221 : Index := 15#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v313 : Index := Scalar.indexCast v2
  ![15, v313.toNat]
@[reducible] def k0_t5_loop (v236 : BitVec 32) : Scf.Loop 32 :=
  let c0_i32_224 : BitVec 32 := 0#32
  let v317 : BitVec 32 := Scalar.subi v236 c0_i32_224
  let c1_i32_225 : BitVec 32 := 1#32
  let v319 : BitVec 32 := Scalar.divsi v317 c1_i32_225
  let v320 : BitVec 32 := Scalar.muli v319 c1_i32_225
  let v321 : BitVec 32 := Scalar.addi c0_i32_224 v320
  let c1_i32_226 : BitVec 32 := 1#32
  ⟨c0_i32_224, v321, c1_i32_226⟩

@[reducible] def k0_t6_loop (v236 : BitVec 32) : Scf.Loop 32 :=
  let c0_i32_224 : BitVec 32 := 0#32
  let v317 : BitVec 32 := Scalar.subi v236 c0_i32_224
  let c1_i32_225 : BitVec 32 := 1#32
  let v319 : BitVec 32 := Scalar.divsi v317 c1_i32_225
  let v320 : BitVec 32 := Scalar.muli v319 c1_i32_225
  let v321 : BitVec 32 := Scalar.addi c0_i32_224 v320
  let v318 : BitVec 32 := Scalar.addi c0_i32_224 v317
  let c1_i32_227 : BitVec 32 := 1#32
  ⟨v321, v318, c1_i32_227⟩
@[reducible] def k0_t7_loop (v236 : BitVec 32) : Scf.Loop 32 :=
  let c0_i32_230 : BitVec 32 := 0#32
  let c1024_i32_228 : BitVec 32 := 1024#32
  let v322 : BitVec 32 := Scalar.subi c1024_i32_228 v236
  let v323 : BitVec 32 := Scalar.subi v322 c0_i32_230
  let c1_i32_231 : BitVec 32 := 1#32
  let v325 : BitVec 32 := Scalar.divsi v323 c1_i32_231
  let v326 : BitVec 32 := Scalar.muli v325 c1_i32_231
  let v327 : BitVec 32 := Scalar.addi c0_i32_230 v326
  let c1_i32_232 : BitVec 32 := 1#32
  ⟨c0_i32_230, v327, c1_i32_232⟩
@[reducible] def k0_t8_loop (v236 : BitVec 32) : Scf.Loop 32 :=
  let c0_i32_230 : BitVec 32 := 0#32
  let c1024_i32_228 : BitVec 32 := 1024#32
  let v322 : BitVec 32 := Scalar.subi c1024_i32_228 v236
  let v323 : BitVec 32 := Scalar.subi v322 c0_i32_230
  let c1_i32_231 : BitVec 32 := 1#32
  let v325 : BitVec 32 := Scalar.divsi v323 c1_i32_231
  let v326 : BitVec 32 := Scalar.muli v325 c1_i32_231
  let v327 : BitVec 32 := Scalar.addi c0_i32_230 v326
  let v324 : BitVec 32 := Scalar.addi c0_i32_230 v323
  let c1_i32_233 : BitVec 32 := 1#32
  ⟨v327, v324, c1_i32_233⟩

def k0_chk4 (v236 : BitVec 32) : Prop :=
  ((k0_t5_loop v236).OK) ∧
  ((k0_t6_loop v236).OK) ∧
  ((k0_t7_loop v236).OK) ∧
  ((k0_t8_loop v236).OK)
theorem k0_t5_ok : ∀ (v236 : BitVec 32) (k0_hw4 : k0_chk4 v236), (k0_t5_loop v236).OK := fun v236 k0_hw4 => k0_hw4.1
theorem k0_t6_ok : ∀ (v236 : BitVec 32) (k0_hw4 : k0_chk4 v236), (k0_t6_loop v236).OK := fun v236 k0_hw4 => k0_hw4.2.1
theorem k0_t7_ok : ∀ (v236 : BitVec 32) (k0_hw4 : k0_chk4 v236), (k0_t7_loop v236).OK := fun v236 k0_hw4 => k0_hw4.2.2.1
theorem k0_t8_ok : ∀ (v236 : BitVec 32) (k0_hw4 : k0_chk4 v236), (k0_t8_loop v236).OK := fun v236 k0_hw4 => k0_hw4.2.2.2

@[reducible] def k0_t9_loop (d0 : Dev nD) (v239 : BitVec 32) (v244 : BitVec 32) (v249 : BitVec 32) (v254 : BitVec 32) (v259 : BitVec 32) (v264 : BitVec 32) (v269 : BitVec 32) (v274 : BitVec 32) (v279 : BitVec 32) (v284 : BitVec 32) (v289 : BitVec 32) (v294 : BitVec 32) (v299 : BitVec 32) (v304 : BitVec 32) (v309 : BitVec 32) (v314 : BitVec 32) : Scf.Loop 32 :=
  let c0_i32_235 : BitVec 32 := 0#32
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_174 : BitVec 32 := 0#32
  let v237 : BitVec 1 := Scalar.cmpi .ne v2 c0_i32_174
  let c0_i32_176 : BitVec 32 := 0#32
  let v240 : BitVec 32 := Scalar.select v237 v239 c0_i32_176
  let v241 : BitVec 32 := Scalar.addi c0_i32_177 v240
  let c1_i32_178 : BitVec 32 := 1#32
  let v242 : BitVec 1 := Scalar.cmpi .ne v2 c1_i32_178
  let c0_i32_180 : BitVec 32 := 0#32
  let v245 : BitVec 32 := Scalar.select v242 v244 c0_i32_180
  let v246 : BitVec 32 := Scalar.addi v241 v245
  let c2_i32_181 : BitVec 32 := 2#32
  let v247 : BitVec 1 := Scalar.cmpi .ne v2 c2_i32_181
  let c0_i32_183 : BitVec 32 := 0#32
  let v250 : BitVec 32 := Scalar.select v247 v249 c0_i32_183
  let v251 : BitVec 32 := Scalar.addi v246 v250
  let c3_i32_184 : BitVec 32 := 3#32
  let v252 : BitVec 1 := Scalar.cmpi .ne v2 c3_i32_184
  let c0_i32_186 : BitVec 32 := 0#32
  let v255 : BitVec 32 := Scalar.select v252 v254 c0_i32_186
  let v256 : BitVec 32 := Scalar.addi v251 v255
  let c4_i32_187 : BitVec 32 := 4#32
  let v257 : BitVec 1 := Scalar.cmpi .ne v2 c4_i32_187
  let c0_i32_189 : BitVec 32 := 0#32
  let v260 : BitVec 32 := Scalar.select v257 v259 c0_i32_189
  let v261 : BitVec 32 := Scalar.addi v256 v260
  let c5_i32_190 : BitVec 32 := 5#32
  let v262 : BitVec 1 := Scalar.cmpi .ne v2 c5_i32_190
  let c0_i32_192 : BitVec 32 := 0#32
  let v265 : BitVec 32 := Scalar.select v262 v264 c0_i32_192
  let v266 : BitVec 32 := Scalar.addi v261 v265
  let c6_i32_193 : BitVec 32 := 6#32
  let v267 : BitVec 1 := Scalar.cmpi .ne v2 c6_i32_193
  let c0_i32_195 : BitVec 32 := 0#32
  let v270 : BitVec 32 := Scalar.select v267 v269 c0_i32_195
  let v271 : BitVec 32 := Scalar.addi v266 v270
  let c7_i32_196 : BitVec 32 := 7#32
  let v272 : BitVec 1 := Scalar.cmpi .ne v2 c7_i32_196
  let c0_i32_198 : BitVec 32 := 0#32
  let v275 : BitVec 32 := Scalar.select v272 v274 c0_i32_198
  let v276 : BitVec 32 := Scalar.addi v271 v275
  let c8_i32_199 : BitVec 32 := 8#32
  let v277 : BitVec 1 := Scalar.cmpi .ne v2 c8_i32_199
  let c0_i32_201 : BitVec 32 := 0#32
  let v280 : BitVec 32 := Scalar.select v277 v279 c0_i32_201
  let v281 : BitVec 32 := Scalar.addi v276 v280
  let c9_i32_202 : BitVec 32 := 9#32
  let v282 : BitVec 1 := Scalar.cmpi .ne v2 c9_i32_202
  let c0_i32_204 : BitVec 32 := 0#32
  let v285 : BitVec 32 := Scalar.select v282 v284 c0_i32_204
  let v286 : BitVec 32 := Scalar.addi v281 v285
  let c10_i32_205 : BitVec 32 := 10#32
  let v287 : BitVec 1 := Scalar.cmpi .ne v2 c10_i32_205
  let c0_i32_207 : BitVec 32 := 0#32
  let v290 : BitVec 32 := Scalar.select v287 v289 c0_i32_207
  let v291 : BitVec 32 := Scalar.addi v286 v290
  let c11_i32_208 : BitVec 32 := 11#32
  let v292 : BitVec 1 := Scalar.cmpi .ne v2 c11_i32_208
  let c0_i32_210 : BitVec 32 := 0#32
  let v295 : BitVec 32 := Scalar.select v292 v294 c0_i32_210
  let v296 : BitVec 32 := Scalar.addi v291 v295
  let c12_i32_211 : BitVec 32 := 12#32
  let v297 : BitVec 1 := Scalar.cmpi .ne v2 c12_i32_211
  let c0_i32_213 : BitVec 32 := 0#32
  let v300 : BitVec 32 := Scalar.select v297 v299 c0_i32_213
  let v301 : BitVec 32 := Scalar.addi v296 v300
  let c13_i32_214 : BitVec 32 := 13#32
  let v302 : BitVec 1 := Scalar.cmpi .ne v2 c13_i32_214
  let c0_i32_216 : BitVec 32 := 0#32
  let v305 : BitVec 32 := Scalar.select v302 v304 c0_i32_216
  let v306 : BitVec 32 := Scalar.addi v301 v305
  let c14_i32_217 : BitVec 32 := 14#32
  let v307 : BitVec 1 := Scalar.cmpi .ne v2 c14_i32_217
  let c0_i32_219 : BitVec 32 := 0#32
  let v310 : BitVec 32 := Scalar.select v307 v309 c0_i32_219
  let v311 : BitVec 32 := Scalar.addi v306 v310
  let c15_i32_220 : BitVec 32 := 15#32
  let v312 : BitVec 1 := Scalar.cmpi .ne v2 c15_i32_220
  let c0_i32_222 : BitVec 32 := 0#32
  let v315 : BitVec 32 := Scalar.select v312 v314 c0_i32_222
  let v316 : BitVec 32 := Scalar.addi v311 v315
  let v328 : BitVec 32 := Scalar.subi v316 c0_i32_235
  let c1_i32_236 : BitVec 32 := 1#32
  let v330 : BitVec 32 := Scalar.divsi v328 c1_i32_236
  let v331 : BitVec 32 := Scalar.muli v330 c1_i32_236
  let v332 : BitVec 32 := Scalar.addi c0_i32_235 v331
  let c1_i32_237 : BitVec 32 := 1#32
  ⟨c0_i32_235, v332, c1_i32_237⟩

@[reducible] def k0_t10_loop (d0 : Dev nD) (v239 : BitVec 32) (v244 : BitVec 32) (v249 : BitVec 32) (v254 : BitVec 32) (v259 : BitVec 32) (v264 : BitVec 32) (v269 : BitVec 32) (v274 : BitVec 32) (v279 : BitVec 32) (v284 : BitVec 32) (v289 : BitVec 32) (v294 : BitVec 32) (v299 : BitVec 32) (v304 : BitVec 32) (v309 : BitVec 32) (v314 : BitVec 32) : Scf.Loop 32 :=
  let c0_i32_235 : BitVec 32 := 0#32
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_174 : BitVec 32 := 0#32
  let v237 : BitVec 1 := Scalar.cmpi .ne v2 c0_i32_174
  let c0_i32_176 : BitVec 32 := 0#32
  let v240 : BitVec 32 := Scalar.select v237 v239 c0_i32_176
  let v241 : BitVec 32 := Scalar.addi c0_i32_177 v240
  let c1_i32_178 : BitVec 32 := 1#32
  let v242 : BitVec 1 := Scalar.cmpi .ne v2 c1_i32_178
  let c0_i32_180 : BitVec 32 := 0#32
  let v245 : BitVec 32 := Scalar.select v242 v244 c0_i32_180
  let v246 : BitVec 32 := Scalar.addi v241 v245
  let c2_i32_181 : BitVec 32 := 2#32
  let v247 : BitVec 1 := Scalar.cmpi .ne v2 c2_i32_181
  let c0_i32_183 : BitVec 32 := 0#32
  let v250 : BitVec 32 := Scalar.select v247 v249 c0_i32_183
  let v251 : BitVec 32 := Scalar.addi v246 v250
  let c3_i32_184 : BitVec 32 := 3#32
  let v252 : BitVec 1 := Scalar.cmpi .ne v2 c3_i32_184
  let c0_i32_186 : BitVec 32 := 0#32
  let v255 : BitVec 32 := Scalar.select v252 v254 c0_i32_186
  let v256 : BitVec 32 := Scalar.addi v251 v255
  let c4_i32_187 : BitVec 32 := 4#32
  let v257 : BitVec 1 := Scalar.cmpi .ne v2 c4_i32_187
  let c0_i32_189 : BitVec 32 := 0#32
  let v260 : BitVec 32 := Scalar.select v257 v259 c0_i32_189
  let v261 : BitVec 32 := Scalar.addi v256 v260
  let c5_i32_190 : BitVec 32 := 5#32
  let v262 : BitVec 1 := Scalar.cmpi .ne v2 c5_i32_190
  let c0_i32_192 : BitVec 32 := 0#32
  let v265 : BitVec 32 := Scalar.select v262 v264 c0_i32_192
  let v266 : BitVec 32 := Scalar.addi v261 v265
  let c6_i32_193 : BitVec 32 := 6#32
  let v267 : BitVec 1 := Scalar.cmpi .ne v2 c6_i32_193
  let c0_i32_195 : BitVec 32 := 0#32
  let v270 : BitVec 32 := Scalar.select v267 v269 c0_i32_195
  let v271 : BitVec 32 := Scalar.addi v266 v270
  let c7_i32_196 : BitVec 32 := 7#32
  let v272 : BitVec 1 := Scalar.cmpi .ne v2 c7_i32_196
  let c0_i32_198 : BitVec 32 := 0#32
  let v275 : BitVec 32 := Scalar.select v272 v274 c0_i32_198
  let v276 : BitVec 32 := Scalar.addi v271 v275
  let c8_i32_199 : BitVec 32 := 8#32
  let v277 : BitVec 1 := Scalar.cmpi .ne v2 c8_i32_199
  let c0_i32_201 : BitVec 32 := 0#32
  let v280 : BitVec 32 := Scalar.select v277 v279 c0_i32_201
  let v281 : BitVec 32 := Scalar.addi v276 v280
  let c9_i32_202 : BitVec 32 := 9#32
  let v282 : BitVec 1 := Scalar.cmpi .ne v2 c9_i32_202
  let c0_i32_204 : BitVec 32 := 0#32
  let v285 : BitVec 32 := Scalar.select v282 v284 c0_i32_204
  let v286 : BitVec 32 := Scalar.addi v281 v285
  let c10_i32_205 : BitVec 32 := 10#32
  let v287 : BitVec 1 := Scalar.cmpi .ne v2 c10_i32_205
  let c0_i32_207 : BitVec 32 := 0#32
  let v290 : BitVec 32 := Scalar.select v287 v289 c0_i32_207
  let v291 : BitVec 32 := Scalar.addi v286 v290
  let c11_i32_208 : BitVec 32 := 11#32
  let v292 : BitVec 1 := Scalar.cmpi .ne v2 c11_i32_208
  let c0_i32_210 : BitVec 32 := 0#32
  let v295 : BitVec 32 := Scalar.select v292 v294 c0_i32_210
  let v296 : BitVec 32 := Scalar.addi v291 v295
  let c12_i32_211 : BitVec 32 := 12#32
  let v297 : BitVec 1 := Scalar.cmpi .ne v2 c12_i32_211
  let c0_i32_213 : BitVec 32 := 0#32
  let v300 : BitVec 32 := Scalar.select v297 v299 c0_i32_213
  let v301 : BitVec 32 := Scalar.addi v296 v300
  let c13_i32_214 : BitVec 32 := 13#32
  let v302 : BitVec 1 := Scalar.cmpi .ne v2 c13_i32_214
  let c0_i32_216 : BitVec 32 := 0#32
  let v305 : BitVec 32 := Scalar.select v302 v304 c0_i32_216
  let v306 : BitVec 32 := Scalar.addi v301 v305
  let c14_i32_217 : BitVec 32 := 14#32
  let v307 : BitVec 1 := Scalar.cmpi .ne v2 c14_i32_217
  let c0_i32_219 : BitVec 32 := 0#32
  let v310 : BitVec 32 := Scalar.select v307 v309 c0_i32_219
  let v311 : BitVec 32 := Scalar.addi v306 v310
  let c15_i32_220 : BitVec 32 := 15#32
  let v312 : BitVec 1 := Scalar.cmpi .ne v2 c15_i32_220
  let c0_i32_222 : BitVec 32 := 0#32
  let v315 : BitVec 32 := Scalar.select v312 v314 c0_i32_222
  let v316 : BitVec 32 := Scalar.addi v311 v315
  let v328 : BitVec 32 := Scalar.subi v316 c0_i32_235
  let c1_i32_236 : BitVec 32 := 1#32
  let v330 : BitVec 32 := Scalar.divsi v328 c1_i32_236
  let v331 : BitVec 32 := Scalar.muli v330 c1_i32_236
  let v332 : BitVec 32 := Scalar.addi c0_i32_235 v331
  let v329 : BitVec 32 := Scalar.addi c0_i32_235 v328
  let c1_i32_238 : BitVec 32 := 1#32
  ⟨v332, v329, c1_i32_238⟩

def k0_chk5 (d0 : Dev nD) (v239 : BitVec 32) (v244 : BitVec 32) (v249 : BitVec 32) (v254 : BitVec 32) (v259 : BitVec 32) (v264 : BitVec 32) (v269 : BitVec 32) (v274 : BitVec 32) (v279 : BitVec 32) (v284 : BitVec 32) (v289 : BitVec 32) (v294 : BitVec 32) (v299 : BitVec 32) (v304 : BitVec 32) (v309 : BitVec 32) (v314 : BitVec 32) : Prop :=
  ((k0_t9_loop d0 v239 v244 v249 v254 v259 v264 v269 v274 v279 v284 v289 v294 v299 v304 v309 v314).OK) ∧
  ((k0_t10_loop d0 v239 v244 v249 v254 v259 v264 v269 v274 v279 v284 v289 v294 v299 v304 v309 v314).OK)
theorem k0_t9_ok : ∀ (d0 : Dev nD) (v239 : BitVec 32) (v244 : BitVec 32) (v249 : BitVec 32) (v254 : BitVec 32) (v259 : BitVec 32) (v264 : BitVec 32) (v269 : BitVec 32) (v274 : BitVec 32) (v279 : BitVec 32) (v284 : BitVec 32) (v289 : BitVec 32) (v294 : BitVec 32) (v299 : BitVec 32) (v304 : BitVec 32) (v309 : BitVec 32) (v314 : BitVec 32) (k0_hw5 : k0_chk5 d0 v239 v244 v249 v254 v259 v264 v269 v274 v279 v284 v289 v294 v299 v304 v309 v314), (k0_t9_loop d0 v239 v244 v249 v254 v259 v264 v269 v274 v279 v284 v289 v294 v299 v304 v309 v314).OK := fun d0 v239 v244 v249 v254 v259 v264 v269 v274 v279 v284 v289 v294 v299 v304 v309 v314 k0_hw5 => k0_hw5.1
theorem k0_t10_ok : ∀ (d0 : Dev nD) (v239 : BitVec 32) (v244 : BitVec 32) (v249 : BitVec 32) (v254 : BitVec 32) (v259 : BitVec 32) (v264 : BitVec 32) (v269 : BitVec 32) (v274 : BitVec 32) (v279 : BitVec 32) (v284 : BitVec 32) (v289 : BitVec 32) (v294 : BitVec 32) (v299 : BitVec 32) (v304 : BitVec 32) (v309 : BitVec 32) (v314 : BitVec 32) (k0_hw5 : k0_chk5 d0 v239 v244 v249 v254 v259 v264 v269 v274 v279 v284 v289 v294 v299 v304 v309 v314), (k0_t10_loop d0 v239 v244 v249 v254 v259 v264 v269 v274 v279 v284 v289 v294 v299 v304 v309 v314).OK := fun d0 v239 v244 v249 v254 v259 v264 v269 v274 v279 v284 v289 v294 v299 v304 v309 v314 k0_hw5 => k0_hw5.2

def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_239_r0 : BitVec 32 := 0#32
  let v334_r0 : BitVec 1 := Scalar.cmpi .ne v2 c0_i32_239_r0
  let v335_r0 : BitVec 32 := Scalar.extui v334_r0
  let c0_i32_240_r0 : BitVec 32 := 0#32
  let v336_r0 : BitVec 1 := Scalar.cmpi .ne v335_r0 c0_i32_240_r0
  v336_r0

def k0_dev34 : Nat :=
  let c0_i32_276_r0 : BitVec 32 := 0#32
  let c0_i32_274_r0 : BitVec 32 := 0#32
  let c1_i32_275_r0 : BitVec 32 := 1#32
  let v382_r0 : BitVec 32 := Scalar.muli c0_i32_274_r0 c1_i32_275_r0
  let v383_r0 : BitVec 32 := Scalar.addi c0_i32_276_r0 v382_r0
  v383_r0.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_241_r0 : BitVec 32 := 1#32
  let v337_r0 : BitVec 1 := Scalar.cmpi .ne v2 c1_i32_241_r0
  let v338_r0 : BitVec 32 := Scalar.extui v337_r0
  let c0_i32_242_r0 : BitVec 32 := 0#32
  let v339_r0 : BitVec 1 := Scalar.cmpi .ne v338_r0 c0_i32_242_r0
  v339_r0

def k0_dev35 : Nat :=
  let c0_i32_276_r0 : BitVec 32 := 0#32
  let c1_i32_274_r0 : BitVec 32 := 1#32
  let c1_i32_275_r0 : BitVec 32 := 1#32
  let v382_r0 : BitVec 32 := Scalar.muli c1_i32_274_r0 c1_i32_275_r0
  let v383_r0 : BitVec 32 := Scalar.addi c0_i32_276_r0 v382_r0
  v383_r0.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_243_r0 : BitVec 32 := 2#32
  let v340_r0 : BitVec 1 := Scalar.cmpi .ne v2 c2_i32_243_r0
  let v341_r0 : BitVec 32 := Scalar.extui v340_r0
  let c0_i32_244_r0 : BitVec 32 := 0#32
  let v342_r0 : BitVec 1 := Scalar.cmpi .ne v341_r0 c0_i32_244_r0
  v342_r0

def k0_dev36 : Nat :=
  let c0_i32_276_r0 : BitVec 32 := 0#32
  let c2_i32_274_r0 : BitVec 32 := 2#32
  let c1_i32_275_r0 : BitVec 32 := 1#32
  let v382_r0 : BitVec 32 := Scalar.muli c2_i32_274_r0 c1_i32_275_r0
  let v383_r0 : BitVec 32 := Scalar.addi c0_i32_276_r0 v382_r0
  v383_r0.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_245_r0 : BitVec 32 := 3#32
  let v343_r0 : BitVec 1 := Scalar.cmpi .ne v2 c3_i32_245_r0
  let v344_r0 : BitVec 32 := Scalar.extui v343_r0
  let c0_i32_246_r0 : BitVec 32 := 0#32
  let v345_r0 : BitVec 1 := Scalar.cmpi .ne v344_r0 c0_i32_246_r0
  v345_r0

def k0_dev37 : Nat :=
  let c0_i32_276_r0 : BitVec 32 := 0#32
  let c3_i32_274_r0 : BitVec 32 := 3#32
  let c1_i32_275_r0 : BitVec 32 := 1#32
  let v382_r0 : BitVec 32 := Scalar.muli c3_i32_274_r0 c1_i32_275_r0
  let v383_r0 : BitVec 32 := Scalar.addi c0_i32_276_r0 v382_r0
  v383_r0.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_247_r0 : BitVec 32 := 4#32
  let v346_r0 : BitVec 1 := Scalar.cmpi .ne v2 c4_i32_247_r0
  let v347_r0 : BitVec 32 := Scalar.extui v346_r0
  let c0_i32_248_r0 : BitVec 32 := 0#32
  let v348_r0 : BitVec 1 := Scalar.cmpi .ne v347_r0 c0_i32_248_r0
  v348_r0

def k0_dev38 : Nat :=
  let c0_i32_276_r0 : BitVec 32 := 0#32
  let c4_i32_274_r0 : BitVec 32 := 4#32
  let c1_i32_275_r0 : BitVec 32 := 1#32
  let v382_r0 : BitVec 32 := Scalar.muli c4_i32_274_r0 c1_i32_275_r0
  let v383_r0 : BitVec 32 := Scalar.addi c0_i32_276_r0 v382_r0
  v383_r0.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_249_r0 : BitVec 32 := 5#32
  let v349_r0 : BitVec 1 := Scalar.cmpi .ne v2 c5_i32_249_r0
  let v350_r0 : BitVec 32 := Scalar.extui v349_r0
  let c0_i32_250_r0 : BitVec 32 := 0#32
  let v351_r0 : BitVec 1 := Scalar.cmpi .ne v350_r0 c0_i32_250_r0
  v351_r0

def k0_dev39 : Nat :=
  let c0_i32_276_r0 : BitVec 32 := 0#32
  let c5_i32_274_r0 : BitVec 32 := 5#32
  let c1_i32_275_r0 : BitVec 32 := 1#32
  let v382_r0 : BitVec 32 := Scalar.muli c5_i32_274_r0 c1_i32_275_r0
  let v383_r0 : BitVec 32 := Scalar.addi c0_i32_276_r0 v382_r0
  v383_r0.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_251_r0 : BitVec 32 := 6#32
  let v352_r0 : BitVec 1 := Scalar.cmpi .ne v2 c6_i32_251_r0
  let v353_r0 : BitVec 32 := Scalar.extui v352_r0
  let c0_i32_252_r0 : BitVec 32 := 0#32
  let v354_r0 : BitVec 1 := Scalar.cmpi .ne v353_r0 c0_i32_252_r0
  v354_r0

def k0_dev40 : Nat :=
  let c0_i32_276_r0 : BitVec 32 := 0#32
  let c6_i32_274_r0 : BitVec 32 := 6#32
  let c1_i32_275_r0 : BitVec 32 := 1#32
  let v382_r0 : BitVec 32 := Scalar.muli c6_i32_274_r0 c1_i32_275_r0
  let v383_r0 : BitVec 32 := Scalar.addi c0_i32_276_r0 v382_r0
  v383_r0.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_253_r0 : BitVec 32 := 7#32
  let v355_r0 : BitVec 1 := Scalar.cmpi .ne v2 c7_i32_253_r0
  let v356_r0 : BitVec 32 := Scalar.extui v355_r0
  let c0_i32_254_r0 : BitVec 32 := 0#32
  let v357_r0 : BitVec 1 := Scalar.cmpi .ne v356_r0 c0_i32_254_r0
  v357_r0

def k0_dev41 : Nat :=
  let c0_i32_276_r0 : BitVec 32 := 0#32
  let c7_i32_274_r0 : BitVec 32 := 7#32
  let c1_i32_275_r0 : BitVec 32 := 1#32
  let v382_r0 : BitVec 32 := Scalar.muli c7_i32_274_r0 c1_i32_275_r0
  let v383_r0 : BitVec 32 := Scalar.addi c0_i32_276_r0 v382_r0
  v383_r0.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_255_r0 : BitVec 32 := 8#32
  let v358_r0 : BitVec 1 := Scalar.cmpi .ne v2 c8_i32_255_r0
  let v359_r0 : BitVec 32 := Scalar.extui v358_r0
  let c0_i32_256_r0 : BitVec 32 := 0#32
  let v360_r0 : BitVec 1 := Scalar.cmpi .ne v359_r0 c0_i32_256_r0
  v360_r0

def k0_dev42 : Nat :=
  let c0_i32_276_r0 : BitVec 32 := 0#32
  let c8_i32_274_r0 : BitVec 32 := 8#32
  let c1_i32_275_r0 : BitVec 32 := 1#32
  let v382_r0 : BitVec 32 := Scalar.muli c8_i32_274_r0 c1_i32_275_r0
  let v383_r0 : BitVec 32 := Scalar.addi c0_i32_276_r0 v382_r0
  v383_r0.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_257_r0 : BitVec 32 := 9#32
  let v361_r0 : BitVec 1 := Scalar.cmpi .ne v2 c9_i32_257_r0
  let v362_r0 : BitVec 32 := Scalar.extui v361_r0
  let c0_i32_258_r0 : BitVec 32 := 0#32
  let v363_r0 : BitVec 1 := Scalar.cmpi .ne v362_r0 c0_i32_258_r0
  v363_r0

def k0_dev43 : Nat :=
  let c0_i32_276_r0 : BitVec 32 := 0#32
  let c9_i32_274_r0 : BitVec 32 := 9#32
  let c1_i32_275_r0 : BitVec 32 := 1#32
  let v382_r0 : BitVec 32 := Scalar.muli c9_i32_274_r0 c1_i32_275_r0
  let v383_r0 : BitVec 32 := Scalar.addi c0_i32_276_r0 v382_r0
  v383_r0.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_259_r0 : BitVec 32 := 10#32
  let v364_r0 : BitVec 1 := Scalar.cmpi .ne v2 c10_i32_259_r0
  let v365_r0 : BitVec 32 := Scalar.extui v364_r0
  let c0_i32_260_r0 : BitVec 32 := 0#32
  let v366_r0 : BitVec 1 := Scalar.cmpi .ne v365_r0 c0_i32_260_r0
  v366_r0

def k0_dev44 : Nat :=
  let c0_i32_276_r0 : BitVec 32 := 0#32
  let c10_i32_274_r0 : BitVec 32 := 10#32
  let c1_i32_275_r0 : BitVec 32 := 1#32
  let v382_r0 : BitVec 32 := Scalar.muli c10_i32_274_r0 c1_i32_275_r0
  let v383_r0 : BitVec 32 := Scalar.addi c0_i32_276_r0 v382_r0
  v383_r0.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_261_r0 : BitVec 32 := 11#32
  let v367_r0 : BitVec 1 := Scalar.cmpi .ne v2 c11_i32_261_r0
  let v368_r0 : BitVec 32 := Scalar.extui v367_r0
  let c0_i32_262_r0 : BitVec 32 := 0#32
  let v369_r0 : BitVec 1 := Scalar.cmpi .ne v368_r0 c0_i32_262_r0
  v369_r0

def k0_dev45 : Nat :=
  let c0_i32_276_r0 : BitVec 32 := 0#32
  let c11_i32_274_r0 : BitVec 32 := 11#32
  let c1_i32_275_r0 : BitVec 32 := 1#32
  let v382_r0 : BitVec 32 := Scalar.muli c11_i32_274_r0 c1_i32_275_r0
  let v383_r0 : BitVec 32 := Scalar.addi c0_i32_276_r0 v382_r0
  v383_r0.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_263_r0 : BitVec 32 := 12#32
  let v370_r0 : BitVec 1 := Scalar.cmpi .ne v2 c12_i32_263_r0
  let v371_r0 : BitVec 32 := Scalar.extui v370_r0
  let c0_i32_264_r0 : BitVec 32 := 0#32
  let v372_r0 : BitVec 1 := Scalar.cmpi .ne v371_r0 c0_i32_264_r0
  v372_r0

def k0_dev46 : Nat :=
  let c0_i32_276_r0 : BitVec 32 := 0#32
  let c12_i32_274_r0 : BitVec 32 := 12#32
  let c1_i32_275_r0 : BitVec 32 := 1#32
  let v382_r0 : BitVec 32 := Scalar.muli c12_i32_274_r0 c1_i32_275_r0
  let v383_r0 : BitVec 32 := Scalar.addi c0_i32_276_r0 v382_r0
  v383_r0.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_265_r0 : BitVec 32 := 13#32
  let v373_r0 : BitVec 1 := Scalar.cmpi .ne v2 c13_i32_265_r0
  let v374_r0 : BitVec 32 := Scalar.extui v373_r0
  let c0_i32_266_r0 : BitVec 32 := 0#32
  let v375_r0 : BitVec 1 := Scalar.cmpi .ne v374_r0 c0_i32_266_r0
  v375_r0

def k0_dev47 : Nat :=
  let c0_i32_276_r0 : BitVec 32 := 0#32
  let c13_i32_274_r0 : BitVec 32 := 13#32
  let c1_i32_275_r0 : BitVec 32 := 1#32
  let v382_r0 : BitVec 32 := Scalar.muli c13_i32_274_r0 c1_i32_275_r0
  let v383_r0 : BitVec 32 := Scalar.addi c0_i32_276_r0 v382_r0
  v383_r0.toNat
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_267_r0 : BitVec 32 := 14#32
  let v376_r0 : BitVec 1 := Scalar.cmpi .ne v2 c14_i32_267_r0
  let v377_r0 : BitVec 32 := Scalar.extui v376_r0
  let c0_i32_268_r0 : BitVec 32 := 0#32
  let v378_r0 : BitVec 1 := Scalar.cmpi .ne v377_r0 c0_i32_268_r0
  v378_r0

def k0_dev48 : Nat :=
  let c0_i32_276_r0 : BitVec 32 := 0#32
  let c14_i32_274_r0 : BitVec 32 := 14#32
  let c1_i32_275_r0 : BitVec 32 := 1#32
  let v382_r0 : BitVec 32 := Scalar.muli c14_i32_274_r0 c1_i32_275_r0
  let v383_r0 : BitVec 32 := Scalar.addi c0_i32_276_r0 v382_r0
  v383_r0.toNat
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_269_r0 : BitVec 32 := 15#32
  let v379_r0 : BitVec 1 := Scalar.cmpi .ne v2 c15_i32_269_r0
  let v380_r0 : BitVec 32 := Scalar.extui v379_r0
  let c0_i32_270_r0 : BitVec 32 := 0#32
  let v381_r0 : BitVec 1 := Scalar.cmpi .ne v380_r0 c0_i32_270_r0
  v381_r0

def k0_dev49 : Nat :=
  let c0_i32_276_r0 : BitVec 32 := 0#32
  let c15_i32_274_r0 : BitVec 32 := 15#32
  let c1_i32_275_r0 : BitVec 32 := 1#32
  let v382_r0 : BitVec 32 := Scalar.muli c15_i32_274_r0 c1_i32_275_r0
  let v383_r0 : BitVec 32 := Scalar.addi c0_i32_276_r0 v382_r0
  v383_r0.toNat
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x512 : Shape := ⟨2, ![16384, 512]⟩
abbrev S16384 : Shape := ⟨1, ![16384]⟩
abbrev S_ : Shape := ⟨0, ![]⟩
abbrev S16384x1 : Shape := ⟨2, ![16384, 1]⟩

abbrev nBuf : Space → Nat
  | .hbm => 14
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Pos.lean ====
/-
# Where each row goes: counting rows by destination

Sixteen devices hold 1024 rows each, and row `j` of device `c` has a destination `Dt c j`. The rows of one destination
are ordered by device, then by row number; `pos c j` is the place of row `j` of device `c` in that order. When every
destination gets 1024 rows in all, `(c, j) ↦ (Dt c j, pos c j)` is a bijection, and `src` is its inverse.
-/
module

public import Mathlib.Data.Fintype.Prod
public import Mathlib.Data.Fintype.EquivFin
public import Mathlib.Algebra.BigOperators.Fin
public import Mathlib.Algebra.Order.BigOperators.Group.Finset
public import Idealize.ShloMosaic.Lib.Tactic

@[expose] public section

namespace Cert.AllToAll

/-- The destination of every row of every device. -/
abbrev Dests : Type := Fin 16 → Fin 1024 → Fin 16

variable (Dt : Dests)

/-- How many of the first `k` rows of device `s` go to `d`. -/
def cntTo (s d : Fin 16) (k : ℕ) : ℕ := (Finset.univ.filter fun j : Fin 1024 => j.val < k ∧ Dt s j = d).card
/-- How many rows of device `s` go to `d`. -/
def cnt (s d : Fin 16) : ℕ := (Finset.univ.filter fun j : Fin 1024 => Dt s j = d).card
/-- How many rows of the first `k` devices go to `d`. -/
def baseTo (k : ℕ) (d : Fin 16) : ℕ := ∑ s ∈ Finset.univ.filter (fun s : Fin 16 => s.val < k), cnt Dt s d
/-- The number of earlier rows of the same device with the same destination. -/
def rank (c : Fin 16) (j : Fin 1024) : ℕ := cntTo Dt c (Dt c j) j.val
/-- The place of row `j` of device `c` among the rows of its destination. -/
def pos (c : Fin 16) (j : Fin 1024) : ℕ := baseTo Dt c.val (Dt c j) + rank Dt c j
/-- Every destination gets 1024 rows in all. -/
def Balanced : Prop := ∀ d, ∑ s, cnt Dt s d = 1024

theorem cntTo_zero (s d) : cntTo Dt s d 0 = 0 := by simp [cntTo]

theorem cntTo_succ (s d) (k : Fin 1024) : cntTo Dt s d (k.val + 1) = cntTo Dt s d k.val + if Dt s k = d then 1 else 0 := by
  unfold cntTo
  by_cases h : Dt s k = d
  · rw [if_pos h, show (Finset.univ.filter fun j : Fin 1024 => j.val < k.val + 1 ∧ Dt s j = d)
      = insert k (Finset.univ.filter fun j : Fin 1024 => j.val < k.val ∧ Dt s j = d) from ?_, Finset.card_insert_of_notMem (by simp)]
    ext j
    simp only [Finset.mem_filter, Finset.mem_univ, true_and, Finset.mem_insert]
    constructor
    · rintro ⟨h1, h2⟩
      by_cases e : j = k
      · exact .inl e
      · exact .inr ⟨by have : j.val ≠ k.val := fun x => e (Fin.ext x); omega, h2⟩
    · rintro (rfl | ⟨h1, h2⟩)
      · exact ⟨by omega, h⟩
      · exact ⟨by omega, h2⟩
  · rw [if_neg h]
    refine Eq.trans (congrArg Finset.card ?_) (Nat.add_zero _).symm
    ext j
    simp only [Finset.mem_filter, Finset.mem_univ, true_and]
    constructor
    · rintro ⟨h1, h2⟩
      refine ⟨?_, h2⟩
      have : j.val ≠ k.val := fun x => h (by rw [← Fin.ext x]; exact h2)
      omega
    · rintro ⟨h1, h2⟩; exact ⟨by omega, h2⟩

theorem cntTo_all (s d) : cntTo Dt s d 1024 = cnt Dt s d := by
  unfold cntTo cnt; congr 1; ext j; simp only [Finset.mem_filter, Finset.mem_univ, true_and]
  exact ⟨fun h => h.2, fun h => ⟨j.isLt, h⟩⟩

theorem cntTo_mono (s d) {k k' : ℕ} (h : k ≤ k') : cntTo Dt s d k ≤ cntTo Dt s d k' := by
  unfold cntTo
  apply Finset.card_le_card
  intro j hj
  simp only [Finset.mem_filter, Finset.mem_univ, true_and] at hj ⊢
  exact ⟨by omega, hj.2⟩

theorem cntTo_le (s d k) : cntTo Dt s d k ≤ cnt Dt s d := by
  unfold cntTo cnt
  apply Finset.card_le_card
  intro j hj
  simp only [Finset.mem_filter, Finset.mem_univ, true_and] at hj ⊢
  exact hj.2

theorem cnt_le (s d) : cnt Dt s d ≤ 1024 := by
  unfold cnt; exact (Finset.card_le_univ _).trans (by simp)

theorem rank_lt (c j) : rank Dt c j < cnt Dt c (Dt c j) := by
  have h := cntTo_le Dt c (Dt c j) (j.val + 1)
  rw [cntTo_succ, if_pos rfl] at h
  exact h

theorem baseTo_zero (d) : baseTo Dt 0 d = 0 := by simp [baseTo]

theorem baseTo_succ (k : Fin 16) (d) : baseTo Dt (k.val + 1) d = baseTo Dt k.val d + cnt Dt k d := by
  unfold baseTo
  rw [show (Finset.univ.filter fun s : Fin 16 => s.val < k.val + 1)
      = insert k (Finset.univ.filter fun s : Fin 16 => s.val < k.val) from ?_, Finset.sum_insert (by simp), add_comm]
  ext j
  simp only [Finset.mem_filter, Finset.mem_univ, true_and, Finset.mem_insert]
  constructor
  · intro h1
    by_cases e : j = k
    · exact .inl e
    · exact .inr (by have : j.val ≠ k.val := fun x => e (Fin.ext x); omega)
  · rintro (rfl | h1) <;> omega

theorem baseTo_all (d) : baseTo Dt 16 d = ∑ s, cnt Dt s d := by
  unfold baseTo; refine Finset.sum_congr ?_ fun _ _ => rfl; ext j; simp

theorem baseTo_mono (d) {k k' : ℕ} (h : k ≤ k') : baseTo Dt k d ≤ baseTo Dt k' d := by
  unfold baseTo
  apply Finset.sum_le_sum_of_subset
  intro j hj
  simp only [Finset.mem_filter, Finset.mem_univ, true_and] at hj ⊢
  omega

variable {Dt}

/-- Within a destination, later rows have later places. -/
theorem pos_lt_pos {c c' : Fin 16} {j j' : Fin 1024} (hd : Dt c j = Dt c' j') (h : c < c' ∨ c = c' ∧ j < j') :
    pos Dt c j < pos Dt c' j' := by
  rcases h with h | ⟨rfl, h⟩
  · have h1 : baseTo Dt c.val (Dt c j) + cnt Dt c (Dt c j) ≤ baseTo Dt c'.val (Dt c j) := by
      rw [← baseTo_succ]; exact baseTo_mono Dt _ h
    have h2 := rank_lt Dt c j
    unfold pos; rw [← hd]; omega
  · have h1 : cntTo Dt c (Dt c j) (j.val + 1) ≤ cntTo Dt c (Dt c j) j'.val := cntTo_mono Dt _ _ h
    rw [cntTo_succ, if_pos rfl] at h1
    unfold pos rank; rw [← hd]; omega

variable (Dt) in
theorem pos_injective : Function.Injective (fun q : Fin 16 × Fin 1024 => (Dt q.1 q.2, pos Dt q.1 q.2)) := by
  rintro ⟨c, j⟩ ⟨c', j'⟩ h
  obtain ⟨hd, hp⟩ := Prod.mk.inj h
  simp only at hd hp
  rcases lt_trichotomy c c' with hc | rfl | hc
  · have := pos_lt_pos hd (.inl hc); omega
  · rcases lt_trichotomy j j' with hj | rfl | hj
    · have := pos_lt_pos hd (.inr ⟨rfl, hj⟩); omega
    · rfl
    · have := pos_lt_pos hd.symm (.inr ⟨rfl, hj⟩); omega
  · have := pos_lt_pos hd.symm (.inl hc); omega

variable (hB : Balanced Dt)

include hB in
theorem base_add_cnt_le (c d : Fin 16) : baseTo Dt c.val d + cnt Dt c d ≤ 1024 := by
  rw [← baseTo_succ, ← hB d, ← baseTo_all]; exact baseTo_mono Dt d c.isLt

include hB in
theorem pos_lt (c j) : pos Dt c j < 1024 := by
  have h1 := rank_lt Dt c j
  have h2 := base_add_cnt_le hB c (Dt c j)
  unfold pos; omega

/-- The place, as a row number. -/
def posF (c : Fin 16) (j : Fin 1024) : Fin 1024 := ⟨pos Dt c j, pos_lt hB c j⟩

/-- Every row of every device, sent to its destination and its place there: a bijection. -/
noncomputable def place : Fin 16 × Fin 1024 ≃ Fin 16 × Fin 1024 :=
  Equiv.ofBijective (fun q => (Dt q.1 q.2, posF hB q.1 q.2)) <| by
    rw [Fintype.bijective_iff_injective_and_card]
    refine ⟨fun q q' h => pos_injective Dt ?_, rfl⟩
    obtain ⟨h1, h2⟩ := Prod.mk.inj h
    exact Prod.ext h1 (congrArg Fin.val h2)

theorem place_apply (c j) : place hB (c, j) = (Dt c j, posF hB c j) := rfl

/-- The row that ends at place `r` of device `d`: its device and its number there. -/
noncomputable def src (d : Fin 16) (r : Fin 1024) : Fin 16 × Fin 1024 := (place hB).symm (d, r)

theorem src_place (c j) : src hB (Dt c j) (posF hB c j) = (c, j) := by
  unfold src; rw [← place_apply, Equiv.symm_apply_apply]

theorem dest_src (d r) : Dt (src hB d r).1 (src hB d r).2 = d :=
  congrArg Prod.fst ((place hB).apply_symm_apply (d, r))

theorem pos_src (d r) : posF hB (src hB d r).1 (src hB d r).2 = r :=
  congrArg Prod.snd ((place hB).apply_symm_apply (d, r))

/-- The rows of device `d` come from earlier rows first. -/
theorem src_lt_src (d : Fin 16) {r r' : Fin 1024} (h : r < r') :
    (src hB d r).1 < (src hB d r').1 ∨ (src hB d r).1 = (src hB d r').1 ∧ (src hB d r).2 < (src hB d r').2 := by
  have hr := pos_src hB d r; have hr' := pos_src hB d r'
  have hd := dest_src hB d r; have hd' := dest_src hB d r'
  generalize src hB d r = q at *; generalize src hB d r' = q' at *
  by_contra hn
  push Not at hn
  have hlt : posF hB q.1 q.2 < posF hB q'.1 q'.2 := by rw [hr, hr']; exact h
  have hle : pos Dt q'.1 q'.2 ≤ pos Dt q.1 q.2 := by
    rcases lt_or_eq_of_le hn.1 with hc | hc
    · exact (pos_lt_pos (hd'.trans hd.symm) (.inl hc)).le
    · rcases lt_or_eq_of_le (hn.2 hc.symm) with hj | hj
      · exact (pos_lt_pos (hd'.trans hd.symm) (.inr ⟨hc, hj⟩)).le
      · rw [hc, hj]
  exact absurd hlt (Nat.not_lt.mpr hle)

/-- How many rows of all devices go to `d`: all the places of `d`. -/
theorem card_dest (d : Fin 16) : (Finset.univ.filter fun q : Fin 16 × Fin 1024 => Dt q.1 q.2 = d).card = ∑ s, cnt Dt s d := by
  rw [Finset.card_filter, Fintype.sum_prod_type]
  refine Finset.sum_congr rfl fun s _ => ?_
  unfold cnt; rw [Finset.card_filter]

end Cert.AllToAll

end
-- ==== Proof.Sched.lean ====
/-
# The protocol: buffers, semaphore cells and what each completion hands over

One device's rows, counts and semaphores, and the schedule of the rounds library over them. Each semaphore cell has one
round. A duty is a pair: the device that pays it, and a row number (row 0 where a device pays only once).

* barrier: every other device `s` hands over the rows of its output that are to come from here, and the row of its count
  table that this device fills;
* count sent / count received: the count vector comes back to its owner / a row of the count table is filled;
* data sent / data received / local copy: a row of the input comes back / a row of the output is filled / both;
* exit: nothing.
-/
module

public import proofs.«01_k».proof.Proof.Pos
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A duty: who pays it, and for which of its rows. -/
abbrev Duty : Type := Fin 16 × Fin 1024
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Indices -/

/-- The index `k` of a vector of `n` elements. -/
def ix1 {n : ℕ} (k : Fin n) : (⟨1, ![n]⟩ : Shape).Idx := fun a => ⟨k.val, by
  have : a = 0 := Subsingleton.elim _ _
  subst this; exact k.isLt⟩
/-- The index `(i, j)` of a matrix of `n` rows and `p` columns. -/
def ix2 {n p : ℕ} (i : Fin n) (j : Fin p) : (⟨2, ![n, p]⟩ : Shape).Idx := fun a =>
  match a with
  | 0 => ⟨i.val, i.isLt⟩
  | 1 => ⟨j.val, j.isLt⟩
/-- The coordinate of a vector index. -/
def at1 {n : ℕ} (i : (⟨1, ![n]⟩ : Shape).Idx) : Fin n := ⟨(i 0).val, (i 0).isLt⟩
/-- The row of a matrix index. -/
def rowOf {n p : ℕ} (i : (⟨2, ![n, p]⟩ : Shape).Idx) : Fin n := ⟨(i 0).val, (i 0).isLt⟩
/-- The column of a matrix index. -/
def colOf {n p : ℕ} (i : (⟨2, ![n, p]⟩ : Shape).Idx) : Fin p := ⟨(i 1).val, (i 1).isLt⟩

@[simp] theorem at1_ix1 {n : ℕ} (k : Fin n) : at1 (ix1 k) = k := rfl
@[simp] theorem ix1_at1 {n : ℕ} (i : (⟨1, ![n]⟩ : Shape).Idx) : ix1 (at1 i) = i := by
  funext a; have : a = 0 := Subsingleton.elim _ _
  subst this; rfl
@[simp] theorem rowOf_ix2 {n p : ℕ} (i : Fin n) (j : Fin p) : rowOf (ix2 i j) = i := rfl
@[simp] theorem colOf_ix2 {n p : ℕ} (i : Fin n) (j : Fin p) : colOf (ix2 i j) = j := rfl
@[simp] theorem ix2_eta {n p : ℕ} (i : (⟨2, ![n, p]⟩ : Shape).Idx) : ix2 (rowOf i) (colOf i) = i := by
  funext a
  match a with
  | 0 => rfl
  | 1 => rfl

/-- The elements of row `r` of a matrix. -/
def rowSet {n p : ℕ} (r : Fin n) : Finset (⟨2, ![n, p]⟩ : Shape).Idx := Finset.univ.filter fun i => rowOf i = r
theorem mem_rowSet {n p : ℕ} {r : Fin n} {i : (⟨2, ![n, p]⟩ : Shape).Idx} : i ∈ rowSet r ↔ rowOf i = r := by simp [rowSet]
theorem rowSet_disjoint {n p : ℕ} {r r' : Fin n} (h : r ≠ r') : Disjoint (rowSet (p := p) r) (rowSet r') :=
  Finset.disjoint_left.mpr fun i hi hi' => h ((mem_rowSet.mp hi).symm.trans (mem_rowSet.mp hi'))
theorem biUnion_rowSet {n p : ℕ} : (Finset.univ.biUnion fun r : Fin n => rowSet (p := p) r) = Finset.univ :=
  Finset.eq_univ_iff_forall.mpr fun i => Finset.mem_biUnion.mpr ⟨rowOf i, Finset.mem_univ _, mem_rowSet.mpr rfl⟩

/-! ## The input of one run -/

/-- What device `c` finds staged as its destinations. -/
def dstg (m : (ℓ : Loc nD τ sig) → Buf (Elt F) ℓ) (c : Dev nD) : (cc0_stg0_0 : Ref sig .tc).ty.Contents (Elt F) :=
  (win0_0.blk (0 : Fin 1)).view.read (Elt F) (m ((c : Thread nD τ).loc main_arg1))
/-- What device `c` finds staged as its rows. -/
def xstg (m : (ℓ : Loc nD τ sig) → Buf (Elt F) ℓ) (c : Dev nD) : (cc0_stg1_0 : Ref sig .tc).ty.Contents (Elt F) :=
  (win0_1.blk (0 : Fin 1)).view.read (Elt F) (m ((c : Thread nD τ).loc main_arg0))

/-- A launch memory whose destination words are device numbers, every destination 1024 times in all. -/
structure Inp (F : FTy → Type) where
  /-- the memory at launch -/
  m : (ℓ : Loc nD τ sig) → Buf (Elt F) ℓ
  /-- the destinations as device numbers -/
  Dt : Dests
  /-- every destination gets 1024 rows -/
  bal : Balanced Dt
  /-- the staged words are the destinations -/
  words : ∀ (c : Fin 16) (j : Fin 1024), dstg m c (ix1 j) = BitVec.ofNat 32 (Dt c j).val

variable (A : Inp F)

/-- The rows device `c` starts with. -/
abbrev Inp.X (c : Dev nD) : S1024x512.Idx → Elt F .f32 := xstg A.m c
/-- The rows device `d` ends with. -/
def Inp.OA (d : Dev nD) : S1024x512.Idx → Elt F .f32 := fun i =>
  A.X (src A.bal d (rowOf i)).1 (ix2 (src A.bal d (rowOf i)).2 (colOf i))
/-- The count vector of device `c`. -/
def Inp.MC (c : Dev nD) : S16.Idx → BitVec 32 := fun i => BitVec.ofNat 32 (cnt A.Dt c (at1 i))
/-- The table of all counts. -/
def Inp.CA : S16x16.Idx → BitVec 32 := fun i => BitVec.ofNat 32 (cnt A.Dt (rowOf i) (colOf i))
/-- The place of row `j` of device `c` at its destination. -/
abbrev Inp.at (c : Dev nD) (j : Fin 1024) : Fin 1024 := posF A.bal c j

/-! ## The semaphores -/

/-- The kernel's own semaphores by use. -/
inductive Own where
  /-- count sent to device `p` -/
  | cs (p : Fin 16)
  /-- count received from device `p` -/
  | cr (p : Fin 16)
  /-- rows sent -/
  | ds
  /-- rows received -/
  | dr
  /-- rows copied locally -/
  | lo
  /-- exit barrier -/
  | ex
deriving DecidableEq

instance : Fintype Own where
  elems := Finset.univ.image Own.cs ∪ Finset.univ.image Own.cr ∪ {Own.ds, Own.dr, Own.lo, Own.ex}
  complete k := by cases k <;> simp

abbrev barS : Sem sig := (SemArray.scalar (sig.barrier 0 rfl) : Sems sig S_).sem
abbrev exS : Sem sig := (cc0_scoped0 : Sems sig S_).sem

theorem nDma_eq : sig.nDmaSem = 38 := rfl

/-- The semaphore of each use. -/
def osem : Own → SemLoc sig
  | .cs p => .dma ⟨3 + p.val, by rw [nDma_eq]; omega⟩
  | .cr p => .dma ⟨19 + p.val, by rw [nDma_eq]; omega⟩
  | .ds => .dma (cc0_scratch6 : DmaSems sig S_).sem
  | .dr => .dma (cc0_scratch7 : DmaSems sig S_).sem
  | .lo => .dma (cc0_scratch8 : DmaSems sig S_).sem
  | .ex => .reg exS

/-- The barrier semaphore (`none`) and the kernel's own ones. -/
def csem : Option Own → SemLoc sig
  | none => .reg barS
  | some k => osem k

theorem ownSemFacts : Pipeline.OwnSemFacts cfg0.spec osem := by decide
theorem osem_ne_bar (k : Own) : osem k ≠ .reg barS := by revert k; decide

theorem csem_injective : Function.Injective csem := by
  rintro (_ | k) (_ | k') h
  · rfl
  · exact absurd h.symm (osem_ne_bar k')
  · exact absurd h (osem_ne_bar k)
  · exact congrArg some (ownSemFacts.inj h)

/-- A cell: a device and a use. -/
abbrev kcell (ck : Dev nD × Option Own) : GSem nD τ sig := ((ck.1 : Thread nD τ), csem ck.2)

theorem kcell_injective : Function.Injective kcell := by
  rintro ⟨c, k⟩ ⟨c', k'⟩ h
  obtain ⟨h1, h2⟩ := Prod.mk.inj h
  have hc : c = c' := congrArg Prod.fst h1
  have hk : k = k' := csem_injective h2
  rw [hc, hk]

open Classical in
/-- The use of a semaphore, if it has one. -/
def dec (s : SemLoc sig) : Option (Option Own) := if h : ∃ k, csem k = s then some h.choose else none

theorem dec_csem (k : Option Own) : dec (csem k) = some k := by
  have h : ∃ k', csem k' = csem k := ⟨k, rfl⟩
  unfold dec; rw [dif_pos h]; exact congrArg some (csem_injective h.choose_spec)

/-! ## Points-tos -/

abbrev ℓd (c : Dev nD) : Loc nD τ sig := (c : Thread nD τ).loc cc0_stg0_0
abbrev ℓx (c : Dev nD) : Loc nD τ sig := (c : Thread nD τ).loc cc0_stg1_0
abbrev ℓo (c : Dev nD) : Loc nD τ sig := (c : Thread nD τ).loc cc0_stg2_0
abbrev ℓc (c : Dev nD) : Loc nD τ sig := (c : Thread nD τ).loc cc0_scratch0
abbrev ℓr (c : Dev nD) : Loc nD τ sig := (c : Thread nD τ).loc cc0_scratch1
abbrev ℓt (c : Dev nD) : Loc nD τ sig := (c : Thread nD τ).loc cc0_scratch2
abbrev ℓb (c : Dev nD) : Loc nD τ sig := (c : Thread nD τ).loc cc0_scratch3

/-- Row `r` of device `c`'s input. -/
def xRow (c : Dev nD) (r : Fin 1024) (f : S1024x512.Idx → Elt F .f32) : sProp 𝕄 := (ℓx c) ↦[rowSet (n := 1024) (p := 512) r]{fullShare} f
/-- Row `r` of device `c`'s output. -/
def oRow (c : Dev nD) (r : Fin 1024) (f : S1024x512.Idx → Elt F .f32) : sProp 𝕄 := (ℓo c) ↦[rowSet (n := 1024) (p := 512) r]{fullShare} f
/-- Row `s` of device `c`'s count table. -/
def tRow (c : Dev nD) (s : Fin 16) (f : S16x16.Idx → Elt F .i32) : sProp 𝕄 := (ℓt c) ↦[rowSet (n := 16) (p := 16) s]{fullShare} f
/-- The share of device `c`'s count vector that the copy to `p` reads. -/
def cTok (c : Dev nD) (p : Fin 16) (f : S16.Idx → Elt F .i32) : sProp 𝕄 := (ℓc c) ↦[Finset.univ]{Transfers.shareTok fullShare 16 p} f

instance (c r f) : BI.Storable (upEmb : UEmb _ 𝕄) (xRow (F := F) c r f) := by unfold xRow; infer_instance
instance (c r f) : BI.Storable (upEmb : UEmb _ 𝕄) (oRow (F := F) c r f) := by unfold oRow; infer_instance
instance (c r f) : BI.Storable (upEmb : UEmb _ 𝕄) (tRow (F := F) c r f) := by unfold tRow; infer_instance
instance (c r f) : BI.Storable (upEmb : UEmb _ 𝕄) (cTok (F := F) c r f) := by unfold cTok; infer_instance

/-! ## Amounts -/

theorem rowInb (r : Fin 1024) : ∀ a, (![r.val, 0] : Fin 2 → ℕ) a + S1x512.size a ≤ S1024x512.size a := by
  intro a; match a with
  | 0 => exact r.isLt
  | 1 => exact Nat.le_refl 512
theorem tabInb (r : Fin 16) : ∀ a, (![r.val, 0] : Fin 2 → ℕ) a + S1x16.size a ≤ S16x16.size a := by
  intro a; match a with
  | 0 => exact r.isLt
  | 1 => exact Nat.le_refl 16

abbrev Mx : Memref sig .tc .vmem S1024x512 .f32 := Memref.whole cc0_stg1_0
abbrev Mo : Memref sig .tc .vmem S1024x512 .f32 := Memref.whole cc0_stg2_0
abbrev Md : Memref sig .tc .smem S1024 .i32 := Memref.whole cc0_stg0_0
abbrev Mc : Memref sig .tc .smem S16 .i32 := Memref.whole cc0_scratch0
abbrev Mr : Memref sig .tc .smem S1024 .i32 := Memref.whole cc0_scratch1
abbrev Mt : Memref sig .tc .smem S16x16 .i32 := Memref.whole cc0_scratch2
abbrev Mb : Memref sig .tc .smem S16 .i32 := Memref.whole cc0_scratch3

/-- The credit of one row's copy. -/
abbrev NR : ℕ := (Mo.slice (Rect.unit (s := S1024x512) ![0, 0] S1x512.size inb_S1024x512_S1x512_0_0) (fun _ => rfl)).view.dmaCredit
/-- The credit of one count vector's copy. -/
abbrev NC : ℕ := Mc.view.dmaCredit
theorem NR_pos : 0 < NR := View.dmaCredit_pos _ (by decide)
theorem NC_pos : 0 < NC := View.dmaCredit_pos _ (by decide)

/-! ## The schedule -/

/-- The duties of a cell of device `c`. -/
def dutyOf (Dt : Dests) (c : Fin 16) : Option Own → Finset Duty
  | none => Finset.univ.filter fun d => d.2 = 0 ∧ d.1 ≠ c
  | some .ex => Finset.univ.filter fun d => d.2 = 0 ∧ d.1 ≠ c
  | some (.cs p) => Finset.univ.filter fun d => d = (c, 0) ∧ p ≠ c
  | some (.cr s) => Finset.univ.filter fun d => d = (s, 0) ∧ s ≠ c
  | some .ds => Finset.univ.filter fun d => d.1 = c ∧ Dt d.1 d.2 ≠ c
  | some .dr => Finset.univ.filter fun d => d.1 ≠ c ∧ Dt d.1 d.2 = c
  | some .lo => Finset.univ.filter fun d => d.1 = c ∧ Dt d.1 d.2 = c

/-- The units one duty of a cell brings. -/
def amtOf : Option Own → ℕ
  | none => 1
  | some .ex => 1
  | some (.cs _) => NC
  | some (.cr _) => NC
  | some .ds => NR
  | some .dr => NR
  | some .lo => NR

/-- What device `c` gets from device `s` at the barrier: the output rows of `s` to fill, and its row of the count table of `s`. -/
def barPay (c s : Dev nD) : sProp 𝕄 :=
  iprop(bigSep (Finset.univ.filter fun j => A.Dt c j = s) (fun j => iprop(∃ f, oRow s (A.at c j) f)) ∗ ∃ f, tRow s c f)

/-- What a duty of a cell of device `c` hands over. -/
def payOf (c : Dev nD) : Option Own → Duty → sProp 𝕄
  | none => fun d => barPay A c d.1
  | some .ex => fun _ => iprop(emp)
  | some (.cs p) => fun _ => cTok c p (A.MC c)
  | some (.cr s) => fun _ => tRow c s A.CA
  | some .ds => fun d => xRow c d.2 (A.X c)
  | some .dr => fun d => oRow c (A.at d.1 d.2) (A.OA c)
  | some .lo => fun d => iprop(xRow c d.2 (A.X c) ∗ oRow c (A.at d.1 d.2) (A.OA c))

/-- The schedule: one round per cell. -/
def Rd : Rounds.Schedule (GSem nD τ sig) Duty 𝕄 where
  duties g r := if r = 0 ∧ g.1.2 = .tc then (match dec g.2 with | none => ∅ | some k => dutyOf A.Dt g.1.1 k) else ∅
  unitless _ := False
  amount g _ _ := match dec g.2 with | none => 1 | some k => amtOf k
  payload g _ d := match dec g.2 with | none => iprop(emp) | some k => payOf A g.1.1 k d
  amount_pos g _ _ _ := by
    rcases dec g.2 with _ | k
    · exact Nat.one_pos
    · rcases k with _ | k
      · exact Nat.one_pos
      · cases k <;> first | exact Nat.one_pos | exact NC_pos | exact NR_pos

instance payOf_storable (c k d) : BI.Storable (upEmb : UEmb _ 𝕄) (payOf A c k d) := by
  rcases k with _ | k
  · unfold payOf barPay; infer_instance
  · cases k <;> · unfold payOf; infer_instance

instance Rd_payload_storable (g : GSem nD τ sig) (r : ℕ) (d : Duty) :
    BI.Storable (upEmb : UEmb _ 𝕄) ((Rd A).payload g r d) := by
  show BI.Storable upEmb (match dec g.2 with | none => iprop(emp) | some k => payOf A g.1.1 k d)
  rcases dec g.2 with _ | k <;> infer_instance

theorem duties_eq (c : Dev nD) (k) : (Rd A).duties (kcell (c, k)) 0 = dutyOf A.Dt c k := by
  dsimp only [Rd]
  rw [if_pos ⟨rfl, rfl⟩, dec_csem]

theorem duties_later (g : GSem nD τ sig) : ∀ r, 1 ≤ r → (Rd A).duties g r = ∅ :=
  fun r hr => by dsimp only [Rd]; rw [if_neg fun h => by omega]

theorem amount_eq (c : Dev nD) (k) (r : ℕ) (d : Duty) : (Rd A).amount (kcell (c, k)) r d = amtOf k := by
  show (match dec (csem k) with | none => 1 | some k => amtOf k) = _
  rw [dec_csem]

theorem payload_eq (c : Dev nD) (k) (r : ℕ) (d : Duty) : (Rd A).payload (kcell (c, k)) r d = payOf A c k d := by
  show (match dec (csem k) with | none => iprop(emp) | some k => payOf A c k d) = _
  rw [dec_csem]

theorem expect_eq (c : Dev nD) (k) : (Rd A).expect (kcell (c, k)) 0 = (dutyOf A.Dt c k).card * amtOf k := by
  unfold Schedule.expect Schedule.amountOf
  rw [duties_eq, Finset.sum_congr rfl fun d _ => amount_eq A c k 0 d, Finset.sum_const, smul_eq_mul]

/-! ## What each device owes at launch; the levels -/

/-- The indices from `k` on that satisfy `p`. -/
abbrev from' {n : ℕ} (k : ℕ) (p : Fin n → Prop) [DecidablePred p] : Finset (Fin n) := Finset.univ.filter fun i => k ≤ i.val ∧ p i
/-- The indices below `k` that satisfy `p`. -/
abbrev upto {n : ℕ} (k : ℕ) (p : Fin n → Prop) [DecidablePred p] : Finset (Fin n) := Finset.univ.filter fun i => i.val < k ∧ p i

/-- The signals on the cells `K` of the devices from `k` on. -/
def owSig (K : Option Own) (c : Dev nD) (k : ℕ) : CellTallies nD τ sig Unit := ∑ p ∈ from' (n := 16) k (· ≠ c), tallyAt (kcell (p, K)) () 1
/-- The count vectors still to send. -/
def owCnt (c : Dev nD) (k : ℕ) : CellTallies nD τ sig Unit := ∑ p ∈ from' (n := 16) k (· ≠ c), tallyAt (kcell (p, some (.cr c))) () NC
/-- The rows still to send. -/
def owRow (c : Dev nD) (k : ℕ) : CellTallies nD τ sig Unit :=
  ∑ j ∈ from' (n := 1024) k (fun j => A.Dt c j ≠ c), tallyAt (kcell (A.Dt c j, some .dr)) () NR

/-- After the barrier, the counts and the rows: the exit signals. -/
def O₃ (c : Dev nD) : CellTallies nD τ sig Unit := owSig (some .ex) c 0
def O₂ (c : Dev nD) : CellTallies nD τ sig Unit := owRow A c 0 + O₃ c
def O₁ (c : Dev nD) : CellTallies nD τ sig Unit := owCnt c 0 + O₂ A c
def O₀ (c : Dev nD) : CellTallies nD τ sig Unit := owSig none c 0 + O₁ A c

def L (g : GSem nD τ sig) : Finset Unit := if g.1.2 = .tc then {()} else ∅
/-- The level of each use: a device waits only below what it still owes. -/
def lvOf : Option Own → ℕ
  | none => 1
  | some (.cr _) => 2
  | some .dr => 3
  | some .ex => 4
  | _ => 0
def lv (g : GSem nD τ sig) (_ : Unit) : ℕ := match dec g.2 with | none => 0 | some k => lvOf k

theorem lv_eq (c : Dev nD) (k) (u : Unit) : lv (kcell (c, k)) u = lvOf k := by
  show (match dec (csem k) with | none => 0 | some k => lvOf k) = _
  rw [dec_csem]
theorem L_of_ne (g : GSem nD τ sig) (h : g.1.2 ≠ .tc) : L g = ∅ := if_neg h
theorem L_tc (c : Dev nD) (s : SemLoc sig) : L ((c : Thread nD τ), s) = {()} := if_pos rfl

theorem from_succ {n : ℕ} (k : Fin n) (p : Fin n → Prop) [DecidablePred p] (h : p k) :
    from' k.val p = insert k (from' (k.val + 1) p) := by
  ext i; simp only [from', Finset.mem_filter, Finset.mem_univ, true_and, Finset.mem_insert]
  constructor
  · rintro ⟨h1, h2⟩
    by_cases e : i = k
    · exact .inl e
    · exact .inr ⟨by have : i.val ≠ k.val := fun x => e (Fin.ext x); omega, h2⟩
  · rintro (rfl | ⟨h1, h2⟩)
    · exact ⟨le_refl _, h⟩
    · exact ⟨by omega, h2⟩
theorem from_succ_neg {n : ℕ} (k : Fin n) (p : Fin n → Prop) [DecidablePred p] (h : ¬ p k) :
    from' k.val p = from' (k.val + 1) p := by
  ext i; simp only [from', Finset.mem_filter, Finset.mem_univ, true_and]
  constructor
  · rintro ⟨h1, h2⟩
    exact ⟨by have : i.val ≠ k.val := fun x => h (by rw [← Fin.ext x]; exact h2)
              omega, h2⟩
  · rintro ⟨h1, h2⟩; exact ⟨by omega, h2⟩
theorem not_mem_from_succ {n : ℕ} (k : Fin n) (p : Fin n → Prop) [DecidablePred p] : k ∉ from' (k.val + 1) p := by simp [from']
theorem from_all {n : ℕ} (p : Fin n → Prop) [DecidablePred p] : from' 0 p = Finset.univ.filter p := by ext; simp [from']
theorem from_end {n : ℕ} (p : Fin n → Prop) [DecidablePred p] : from' n p = ∅ := by
  ext i; simp [from']
theorem upto_succ {n : ℕ} (k : Fin n) (p : Fin n → Prop) [DecidablePred p] (h : p k) :
    upto (k.val + 1) p = insert k (upto k.val p) := by
  ext i; simp only [upto, Finset.mem_filter, Finset.mem_univ, true_and, Finset.mem_insert]
  constructor
  · rintro ⟨h1, h2⟩
    by_cases e : i = k
    · exact .inl e
    · exact .inr ⟨by have : i.val ≠ k.val := fun x => e (Fin.ext x); omega, h2⟩
  · rintro (rfl | ⟨h1, h2⟩)
    · exact ⟨by omega, h⟩
    · exact ⟨by omega, h2⟩
theorem upto_succ_neg {n : ℕ} (k : Fin n) (p : Fin n → Prop) [DecidablePred p] (h : ¬ p k) :
    upto (k.val + 1) p = upto k.val p := by
  ext i; simp only [upto, Finset.mem_filter, Finset.mem_univ, true_and]
  constructor
  · rintro ⟨h1, h2⟩
    exact ⟨by have : i.val ≠ k.val := fun x => h (by rw [← Fin.ext x]; exact h2)
              omega, h2⟩
  · rintro ⟨h1, h2⟩; exact ⟨by omega, h2⟩
theorem not_mem_upto {n : ℕ} (k : Fin n) (p : Fin n → Prop) [DecidablePred p] : k ∉ upto k.val p := by simp [upto]
theorem upto_zero {n : ℕ} (p : Fin n → Prop) [DecidablePred p] : upto 0 p = ∅ := by ext; simp [upto]
theorem upto_all {n : ℕ} (p : Fin n → Prop) [DecidablePred p] : upto n p = Finset.univ.filter p := by
  ext i; simp [upto]

/-- A cell owed something in a sum of tallies is one of the sum's cells. -/
theorem sum_tally_pos {I : Type} (s : Finset I) (g : I → GSem nD τ sig) (n : ℕ) {x : GSem nD τ sig} {u : Unit}
    (h : 0 < (∑ i ∈ s, tallyAt (g i) () n : CellTallies nD τ sig Unit) x u) : ∃ i ∈ s, x = g i := by
  classical
  induction s using Finset.induction_on with
  | empty => exact absurd h (by simp)
  | insert a s ha ih =>
    rw [Finset.sum_insert ha] at h
    have h' : 0 < (tallyAt (g a) () n : CellTallies nD τ sig Unit) x u + (∑ i ∈ s, tallyAt (g i) () n : CellTallies nD τ sig Unit) x u := h
    by_cases h1 : 0 < (tallyAt (g a) () n : CellTallies nD τ sig Unit) x u
    · refine ⟨a, Finset.mem_insert_self _ _, ?_⟩
      rw [tallyAt_apply] at h1
      by_contra hne
      rw [if_neg (fun hh => hne hh.1)] at h1
      exact absurd h1 (Nat.lt_irrefl 0)
    · obtain ⟨i, hi, e⟩ := ih (by omega)
      exact ⟨i, Finset.mem_insert_of_mem hi, e⟩

/-- The cells of `O` are cells of a use at level above `b`. -/
def Above (b : ℕ) (O : CellTallies nD τ sig Unit) : Prop := ∀ (g : GSem nD τ sig) (u : Unit), 0 < O g u → ∃ ck, g = kcell ck ∧ b < lvOf ck.2

theorem Above.add {b : ℕ} {O O' : CellTallies nD τ sig Unit} (h : Above b O) (h' : Above b O') : Above b (O + O') := by
  intro g u hg
  have hg' : 0 < O g u + O' g u := hg
  by_cases h1 : 0 < O g u
  · exact h g u h1
  · exact h' g u (by omega)
theorem Above.mono {b b' : ℕ} {O : CellTallies nD τ sig Unit} (h : Above b O) (hb : b' ≤ b) : Above b' O := fun g u hg => by
  obtain ⟨ck, e, hl⟩ := h g u hg; exact ⟨ck, e, by omega⟩
theorem Above.zero {b : ℕ} : Above b 0 := fun g u hg => absurd hg (by simp)
theorem above_sum {I : Type} (s : Finset I) (f : I → Dev nD × Option Own) (n b : ℕ) (h : ∀ i, b < lvOf (f i).2) :
    Above b (∑ i ∈ s, tallyAt (kcell (f i)) () n) := fun g u hg => by
  obtain ⟨i, -, e⟩ := sum_tally_pos s (fun i => kcell (f i)) n hg
  exact ⟨f i, e, h i⟩

theorem above_bar (c k) : Above 0 (owSig none c k) := above_sum _ (fun p => (p, none)) _ _ fun _ => Nat.one_pos
theorem above_ex (c k) : Above 3 (owSig (some .ex) c k) := above_sum _ (fun p => (p, some .ex)) _ _ fun _ => by
  show 3 < 4; decide
theorem above_cnt (c : Dev nD) (k) : Above 1 (owCnt c k) := above_sum _ (fun p => (p, some (.cr c))) _ _ fun _ => by
  show 1 < 2; decide
theorem above_row (c k) : Above 2 (owRow A c k) := above_sum _ (fun j => (A.Dt c j, some .dr)) _ _ fun _ => by
  show 2 < 3; decide
theorem above_O₃ (c) : Above 3 (O₃ c) := above_ex c 0
theorem above_O₂ (c) : Above 2 (O₂ A c) := (above_row A c 0).add ((above_O₃ c).mono (by decide))
theorem above_O₁ (c) : Above 1 (O₁ A c) := (above_cnt c 0).add ((above_O₂ A c).mono (by decide))
theorem above_O₀ (c) : Above 0 (O₀ A c) := (above_bar c 0).add ((above_O₁ A c).mono (by decide))

/-- A device may wait on a cell whose level is below all it owes. -/
theorem mayWait (c : Dev nD) (s : SemLoc sig) (b : ℕ) {O : CellTallies nD τ sig Unit} (hO : Above b O) (hs : lv ((c : Thread nD τ), s) () ≤ b) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by obtain ⟨ck, e, _⟩ := hO g u hg; rw [e, L_tc]; exact Finset.mem_singleton_self _)
    (fun p hp => by rw [Finset.mem_singleton.mp hp]; exact hs)
    (fun g u hg => by obtain ⟨ck, e, hl⟩ := hO g u hg; rw [e, show ck = (ck.1, ck.2) from rfl, lv_eq]; exact hl)

end Cert.AllToAll

end
-- ==== Proof.Smem.lean ====
/-
# One step at a time: elements of scalar memory

Loading or storing one element of a whole scalar-memory buffer, and the load-then-store pairs the kernel is written with,
as steps on "the elements below `k` hold `g`".
-/
module

public import proofs.«01_k».proof.Proof.Sched

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The weakest precondition of a program of device `c`'s core. -/
abbrev wpK {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Elements

variable {c : Dev nD} {α : Type} {s : Shape} {e : EltTy} {m : Memref sig .tc .smem s e} {r : Rect s}

/-- Loading one element, with a frame. -/
theorem get_step {Q : α → sProp 𝕄} {R : sProp 𝕄} {q : PosShare TreeShare} {h1 : r.shape.numel = 1} {hp : e.packing = 1}
    {k : Elt F e → Prog (TpuEff nD τ sig (Elt F) Λ₀ .tc) α}
    {S : Finset (Idx (m.view.loc (c : Thread nD τ)))} {f : Buf (Elt F) (m.view.loc (c : Thread nD τ))} {v : Elt F e}
    (hS : ∀ y, (m.access r).emb y ∈ S) (hv : ∀ y, (m.access r).read (Elt F) f y = v)
    (h : iprop((m.view.loc (c : Thread nD τ) ↦[S]{q} f) ∗ R) ⊢ wpK c (k v) Q) :
    iprop((m.view.loc (c : Thread nD τ) ↦[S]{q} f) ∗ R) ⊢ wpK c (smemLoad m r h1 hp >>= k) Q := by
  have h' := wp_smemLoadElt (defs := defs₀ (F := F)) 𝒱₀ (c : Thread nD τ) none (Γ := .empty) Set.univ (Q := Q)
    (m := m) (r := r) (hw := View.loads_smem_one hp h1)
    (x := Shape.Idx.first (h1.symm ▸ Nat.one_pos)) (k := k) (q := q) (f := f) (S := S)
    (by intro y hy; obtain ⟨z, -, rfl⟩ := Finset.mem_map.mp hy; exact hS z)
  rw [hv] at h'
  iintro ⟨H, HR⟩
  iapply h' $$ H
  iintro H
  iapply h
  isplitl [H]; · iexact H
  iexact HR

/-- Storing one element, with a frame. -/
theorem put_step {Q : α → sProp 𝕄} {R : sProp 𝕄} {w : r.shape.Idx → Elt F e} {hx hm}
    {k : PUnit → Prog (TpuEff nD τ sig (Elt F) Λ₀ .tc) α}
    {S : Finset (Idx (m.view.loc (c : Thread nD τ)))} {f f' : Buf (Elt F) (m.view.loc (c : Thread nD τ))}
    (hS : ∀ y, (m.access r).emb y ∈ S) (hf : (m.access r).write (Elt F) f w Finset.univ = f')
    (h : iprop((m.view.loc (c : Thread nD τ) ↦[S]{fullShare} f') ∗ R) ⊢ wpK c (k ⟨⟩) Q) :
    iprop((m.view.loc (c : Thread nD τ) ↦[S]{fullShare} f) ∗ R)
      ⊢ wpK c (Prog.lift (.store m r w Finset.univ hx hm) >>= k) Q := by
  have h' := wp_store (defs := defs₀ (F := F)) 𝒱₀ (c : Thread nD τ) none (Γ := .empty) Set.univ (Q := Q)
    (m := m) (r := r) (w := w) (Mk := Finset.univ) (hx := hx) (hm := hm) (k := k) (f := f) (S := S)
    (by intro y hy; obtain ⟨z, -, rfl⟩ := Finset.mem_map.mp hy; exact hS z)
  rw [hf] at h'
  iintro ⟨H, HR⟩
  iapply h' $$ H
  iintro H
  iapply h
  isplitl [H]; · iexact H
  iexact HR

omit [FloatOps F] in
/-- Writing a word through a rectangle of one element updates the contents there. -/
theorem write_one {f : Buf (Elt F) (m.view.loc (c : Thread nD τ))} {w : r.shape.Idx → Elt F e} (x : Idx (m.view.loc (c : Thread nD τ)))
    (hx : ∀ y, (m.access r).emb y = x) (y₀ : r.shape.Idx) (v : Elt F (m.view.ty.elt))
    (hv : ∀ f, (m.access r).write (Elt F) f w Finset.univ ((m.access r).emb y₀) = v) :
    (m.access r).write (Elt F) f w Finset.univ = Function.update f x v := by
  funext z
  by_cases hz : z = x
  · subst hz
    rw [Function.update_self]
    exact (congrArg _ (hx y₀).symm).trans (hv f)
  · rw [Function.update_of_ne hz]
    exact View.write_of_not_mem _ _ _ fun hm => by
      obtain ⟨y, -, e⟩ := Finset.mem_map.mp hm
      exact hz (e.symm.trans (hx y))

end Elements

end Cert.AllToAll

end
-- ==== Proof.Views.lean ====
/-
# Rows as views

The slices the kernel copies: a row of the input, of the output and of the count table; what they cover, what they read and
write, and the credits of copies to them. Also the cells of the semaphore arrays.
-/
module

public import proofs.«01_k».proof.Proof.Sched

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rows of the input and the output -/

section Rows

variable {i : Fin (sig.nNear .tc .vmem)} {hκ : sig.names .tc .vmem i = true}

/-- Row `off 0` of a vector-memory matrix of 1024 rows. -/
abbrev vrow (b : Memref sig .tc .vmem S1024x512 .f32) (off : Fin 2 → ℕ) (inb : ∀ a, off a + S1x512.size a ≤ S1024x512.size a) :
    Memref sig .tc .vmem S1x512 .f32 :=
  b.slice (Rect.unit (s := S1024x512) off S1x512.size inb) (fun _ => rfl)

theorem rect_emb_row {off : Fin 2 → ℕ} {inb : ∀ a, off a + S1x512.size a ≤ S1024x512.size a} (r : Fin 1024) (ho : off = ![r.val, 0])
    (y : S1x512.Idx) : (Rect.unit (s := S1024x512) off S1x512.size inb).emb y = ix2 r (colOf y) := by
  subst ho
  funext a; apply Fin.ext
  match a with
  | 0 =>
    have h1 : (y 0).val < 1 := (y 0).isLt
    show r.val + 1 * (y 0).val = r.val; omega
  | 1 => show 0 + 1 * (y 1).val = (y 1).val; omega

theorem row_mem_iff {off : Fin 2 → ℕ} {inb : ∀ a, off a + S1x512.size a ≤ S1024x512.size a} (r : Fin 1024) (ho : off = ![r.val, 0]) :
    Finset.univ.map (Rect.unit (s := S1024x512) off S1x512.size inb).emb = rowSet r := by
  ext x
  rw [mem_rowSet]
  constructor
  · intro h; obtain ⟨y, -, e⟩ := Finset.mem_map.mp h
    rw [← e, rect_emb_row r ho]; rfl
  · intro h
    refine Finset.mem_map.mpr ⟨ix2 0 (colOf x), Finset.mem_univ _, ?_⟩
    rw [rect_emb_row r ho, colOf_ix2, ← h, ix2_eta]

theorem vrow_set_x {off : Fin 2 → ℕ} {inb} (r : Fin 1024) (ho : off = ![r.val, 0]) : (vrow Mx off inb).view.set = rowSet (n := 1024) (p := 512) r :=
  row_mem_iff r ho
theorem vrow_set_o {off : Fin 2 → ℕ} {inb} (r : Fin 1024) (ho : off = ![r.val, 0]) : (vrow Mo off inb).view.set = rowSet (n := 1024) (p := 512) r :=
  row_mem_iff r ho

theorem vrow_read {off : Fin 2 → ℕ} {inb} (r : Fin 1024) (ho : off = ![r.val, 0]) (f : S1024x512.Idx → Elt F .f32) (y : S1x512.Idx) :
    (vrow Mx off inb).view.read (Elt F) f y = f (ix2 r (colOf y)) := by
  show f ((Rect.unit (s := S1024x512) off S1x512.size inb).emb y) = _
  rw [rect_emb_row r ho]

/-- Writing a row: on that row, what is written. -/
theorem vrow_write {off : Fin 2 → ℕ} {inb} (r : Fin 1024) (ho : off = ![r.val, 0]) (f : S1024x512.Idx → Elt F .f32) (w : S1x512.Idx → Elt F .f32)
    (x : S1024x512.Idx) (hx : x ∈ rowSet (n := 1024) (p := 512) r) :
    (vrow Mo off inb).view.write (Elt F) f w Finset.univ x = w (ix2 0 (colOf x)) := by
  have e : (vrow Mo off inb).view.emb (ix2 0 (colOf x)) = x := by
    have := rect_emb_row (inb := inb) r ho (ix2 0 (colOf x))
    rw [colOf_ix2, ← mem_rowSet.mp hx, ix2_eta] at this
    exact this
  have h := View.write_emb (Val := Elt F) (v := (vrow Mo off inb).view) f w Finset.univ (ix2 0 (colOf x))
  rw [e, if_pos (Finset.mem_univ _)] at h
  exact h

theorem vrow_amount_o {off : Fin 2 → ℕ} {inb} (s : DmaSem sig) : (vrow Mo off inb).view.amount (.dma s) = NR := rfl
theorem vrow_amount_x {off : Fin 2 → ℕ} {inb} (s : DmaSem sig) : (vrow Mx off inb).view.amount (.dma s) = NR := rfl

end Rows

/-! ## Rows of the count table -/

/-- Row `off 0` of the count table, as a vector. -/
abbrev trow (off : Fin 2 → ℕ) (inb : ∀ a, off a + S1x16.size a ≤ S16x16.size a) : Memref sig .tc .smem S16 .i32 :=
  (Mt.slice (Rect.unit (s := S16x16) off S1x16.size inb) (fun _ => rfl)).squeeze S16 squeezes_S1x16_S16

theorem squeeze_idx (h : S16.numel = S1x16.numel) : ∀ j : Fin 16, Shape.reshapeEquiv h (ix1 j) = ix2 0 j := by decide +kernel +revert

theorem trow_emb {off : Fin 2 → ℕ} {inb} (r : Fin 16) (ho : off = ![r.val, 0]) (j : Fin 16) : (trow off inb).view.emb (ix1 j) = ix2 r j := by
  subst ho
  show (Rect.unit (s := S16x16) ![r.val, 0] S1x16.size inb).emb (Shape.reshapeEquiv _ (ix1 j)) = ix2 r j
  rw [squeeze_idx]
  funext a; apply Fin.ext
  match a with
  | 0 => show r.val + 1 * 0 = r.val; omega
  | 1 => show 0 + 1 * j.val = j.val; omega

theorem trow_set {off : Fin 2 → ℕ} {inb} (r : Fin 16) (ho : off = ![r.val, 0]) : (trow off inb).view.set = rowSet (n := 16) (p := 16) r := by
  ext x
  rw [mem_rowSet]
  constructor
  · intro h; obtain ⟨y, -, e⟩ := Finset.mem_map.mp h
    rw [← e, ← ix1_at1 y, trow_emb r ho]; rfl
  · intro h
    refine Finset.mem_map.mpr ⟨ix1 (colOf x), Finset.mem_univ _, ?_⟩
    rw [trow_emb r ho, ← h, ix2_eta]

theorem trow_write {off : Fin 2 → ℕ} {inb} (r : Fin 16) (ho : off = ![r.val, 0]) (f : S16x16.Idx → Elt F .i32) (w : S16.Idx → Elt F .i32)
    (x : S16x16.Idx) (hx : x ∈ rowSet (n := 16) (p := 16) r) : (trow off inb).view.write (Elt F) f w Finset.univ x = w (ix1 (colOf x)) := by
  have e : (trow off inb).view.emb (ix1 (colOf x)) = x := by
    rw [trow_emb r ho, ← mem_rowSet.mp hx, ix2_eta]
  have h := View.write_emb (Val := Elt F) (v := (trow off inb).view) f w Finset.univ (ix1 (colOf x))
  rw [e, if_pos (Finset.mem_univ _)] at h
  exact h

theorem trow_amount {off : Fin 2 → ℕ} {inb} (s : DmaSem sig) : (trow off inb).view.amount (.dma s) = NC := rfl
theorem cnt_amount (s : DmaSem sig) : (Mc : Memref sig .tc .smem S16 .i32).view.amount (.dma s) = NC := rfl
theorem cnt_set : (Mc : Memref sig .tc .smem S16 .i32).view.set = Finset.univ := View.set_whole _

/-! ## The semaphore arrays' cells -/

theorem sem_cs {off : Fin 1 → ℕ} {inb : ∀ a, off a + S1.size a ≤ S16.size a} (p : Fin 16) (ho : off = ![p.val]) :
    SemLoc.dma (((cc0_scratch4 : DmaSems sig S16).slice (Rect.unit (s := S16) off S1.size inb)).squeeze S_ squeezes_S1_S_).sem = osem (.cs p) := by
  subst ho; revert inb; revert p; decide +kernel
theorem sem_cr {off : Fin 1 → ℕ} {inb : ∀ a, off a + S1.size a ≤ S16.size a} (p : Fin 16) (ho : off = ![p.val]) :
    SemLoc.dma (((cc0_scratch5 : DmaSems sig S16).slice (Rect.unit (s := S16) off S1.size inb)).squeeze S_ squeezes_S1_S_).sem = osem (.cr p) := by
  subst ho; revert inb; revert p; decide +kernel

end Cert.AllToAll

end
-- ==== Proof.Steps.lean ====
/-
# The records of a run, and the signals

The invariants of all cells with the levels (persistent), and the step "signal device `p` unless `p` is this device".
-/
module

public import proofs.«01_k».proof.Proof.Smem
public import proofs.«01_k».proof.Proof.Views

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F)

/-- All cells' invariants, that every cell is at round 0, and the levels. -/
def Ctx (K : Dev nD × Option Own → ℕ) : sProp 𝕄 :=
  iprop((bigSep Finset.univ fun ck : Dev nD × Option Own => cellInv ER (Rd A) (K ck) (kcell ck))
    ∗ (bigSep Finset.univ fun ck : Dev nD × Option Own => reached ER (kcell ck) 0) ∗ levAts L lv)

instance ctx_persistent (K : Dev nD × Option Own → ℕ) : BI.Persistent (Ctx A K) := by unfold Ctx; infer_instance

variable (K : Dev nD × Option Own → ℕ)

omit [FloatOps F] in
theorem inv_at (ck : Dev nD × Option Own) :
    (bigSep Finset.univ fun ck : Dev nD × Option Own => (cellInv ER (Rd A) (K ck) (kcell ck) : sProp 𝕄)) ⊢ cellInv ER (Rd A) (K ck) (kcell ck) :=
  bigSep_elim (Finset.mem_univ ck)
omit [FloatOps F] in
theorem reached_at (ck : Dev nD × Option Own) :
    (bigSep Finset.univ fun ck : Dev nD × Option Own => (reached ER (kcell ck) 0 : sProp 𝕄)) ⊢ reached ER (kcell ck) 0 :=
  bigSep_elim (Finset.mem_univ ck)
omit [FloatOps F] in
theorem ctx_inv (c : Dev nD) (k : Option Own) : Ctx A K ⊢ cellInv ER (Rd A) (K (c, k)) (kcell (c, k)) := by
  unfold Ctx; iintro ⟨#H, -, -⟩
  iapply (inv_at A K (c, k)); iexact H
omit [FloatOps F] in
theorem ctx_reached (c : Dev nD) (k : Option Own) : Ctx A K ⊢ reached ER (kcell (c, k)) 0 := by
  unfold Ctx; iintro ⟨-, #H, -⟩
  iapply (reached_at (c, k)); iexact H
theorem ctx_mayWait (c : Dev nD) (s : SemLoc sig) (b : ℕ) {O : CellTallies nD τ sig Unit} (hO : Above b O) (hs : lv ((c : Thread nD τ), s) () ≤ b) :
    (Ctx A K : sProp 𝕄) ⊢ MayWait (c : Thread nD τ) s () O := by
  unfold Ctx; iintro ⟨-, -, #H⟩
  iapply (mayWait (F := F) c s b hO hs)
  iexact H
omit [FloatOps F] in
theorem sep_from {n : ℕ} (k : Fin n) (p : Fin n → Prop) [DecidablePred p] (h : p k) (Φ : Fin n → sProp 𝕄) :
    bigSep (from' k.val p) Φ = iprop(Φ k ∗ bigSep (from' (k.val + 1) p) Φ) := by
  rw [from_succ k p h]; exact BI.bigSep_insert (not_mem_from_succ _ _)
omit [FloatOps F] in
theorem sep_upto {n : ℕ} (k : Fin n) (p : Fin n → Prop) [DecidablePred p] (h : p k) (Φ : Fin n → sProp 𝕄) :
    bigSep (upto (k.val + 1) p) Φ = iprop(Φ k ∗ bigSep (upto k.val p) Φ) := by
  rw [upto_succ k p h]; exact BI.bigSep_insert (not_mem_upto _ _)

/-- What device `c` owes, whatever it has waited on. -/
def Owes (c : Dev nD) (O : CellTallies nD τ sig Unit) : sProp 𝕄 := iprop(∃ W, owes (c : Thread nD τ) O W)

/-- The word of device `c`'s number, as the kernel computes it. -/
def me (c : Dev nD) : BitVec 32 := Scalar.remsi (Scalar.divsi (Dev.word c) 1#32) 16#32
theorem me_eq (c : Dev nD) : me c = BitVec.ofNat 32 c.val := by revert c; decide
theorem me_toNat (c : Dev nD) : (me c).toNat = c.val := by revert c; decide

/-! ## Signals -/

/-- What signalling device `p` takes: the token of the duty and what it hands over. -/
def sigItem (k : Option Own) (c p : Dev nD) : sProp 𝕄 := iprop(dutyTok ER (kcell (p, k)) 0 (c, 0) ∗ payOf A p k (c, 0))
/-- Before the signal to device `k`. -/
def SigSt (q : Option Own) (c : Dev nD) (O : CellTallies nD τ sig Unit) (k : ℕ) : sProp 𝕄 :=
  iprop(bigSep (from' (n := 16) k (· ≠ c)) (sigItem A q c) ∗ Owes c (owSig q c k + O))

omit [FloatOps F] in
theorem owSig_succ (q : Option Own) (c p : Dev nD) (h : p ≠ c) :
    owSig q c p.val = owSig q c (p.val + 1) + tallyAt (kcell (p, q)) () 1 := by
  unfold owSig; rw [from_succ (n := 16) p (· ≠ c) h, Finset.sum_insert (not_mem_from_succ _ _), add_comm]

theorem sig_step {α : Type} {Q : α → sProp 𝕄} {R : sProp 𝕄} (q : Option Own) (sem : Sem sig) (hq : csem q = .reg sem) (ha : amtOf q = 1)
    (hdu : ∀ c p : Dev nD, p ≠ c → (c, 0) ∈ dutyOf A.Dt p q)
    (c p : Dev nD) {O : CellTallies nD τ sig Unit} {cond : Dev nD → BitVec 1} (hc : ∀ c, cond c = 1#1 ↔ p ≠ c) {n : ℕ} (hn : cond c = 1#1 → n < 16) (hnp : n = p.val)
    {J : Prog (TpuEff nD τ sig (Elt F) Λ₀ .tc) α}
    (h : iprop(Ctx A K ∗ SigSt A q c O (p.val + 1) ∗ R) ⊢ wpK c J Q) :
    iprop(Ctx A K ∗ SigSt A q c O p.val ∗ R)
      ⊢ wpK c (if h : cond c = 1#1 then (semSignalWord (⟨n, hn h⟩ : Dev nD) sem 1#32 >>= fun _ => J) else J) Q := by
  subst hnp
  by_cases hp : cond c = 1#1
  · rw [dif_pos hp]
    have hne : p ≠ c := (hc c).mp hp
    show _ ⊢ wpK c (.op (.semSignal ((p : Dev nD) : Thread nD τ) sem 1) fun _ => J) Q
    have hk : kcell (p, q) = ((p : Thread nD τ), .reg sem) := by show (_, csem q) = _; rw [hq]
    unfold SigSt Owes
    iintro ⟨#HC, ⟨HS, ⟨%W, HO⟩⟩, HR⟩
    ihave HS := (Entails.of_eq (sep_from (n := 16) p (· ≠ c) hne (sigItem A q c))) $$ HS
    icases HS with ⟨Hi, HS⟩
    unfold sigItem
    icases Hi with ⟨Ht, Hp⟩
    ihave #HI := (ctx_inv A K p q) $$ HC
    ihave #Hr := (ctx_reached A K p q) $$ HC
    iapply (Rounds.wp_signal 𝒱₀ ER (Rd A) (c : Thread nD τ) none (dst := (p : Thread nD τ)) (sem := sem) (κ := K (p, q)) (r := 0) (d := (c, 0)) (O₀ := owSig q c p.val + O)
      (by rw [← hk, duties_eq]; exact hdu c p hne) (by rw [← hk, amount_eq, ha]) () (owSig q c (p.val + 1) + O)
      (by rw [owSig_succ q c p hne, hk, add_right_comm])) $$ [HO Ht Hp]
    · rw [← hk, payload_eq]
      isplitr; · iexact HI
      isplitl [HO]; · iexact HO
      isplitl [Ht]; · iexact Ht
      isplitl [Hp]; · iexact Hp
      iexact Hr
    iintro HO
    iapply h
    isplitr; · iexact HC
    isplitl [HS HO]
    · unfold SigSt Owes
      isplitl [HS]; · iexact HS
      iexists W; iexact HO
    iexact HR
  · rw [dif_neg hp]
    have hne : ¬ p ≠ c := fun h' => hp ((hc c).mpr h')
    refine (Entails.of_eq ?_).trans h
    unfold SigSt owSig; rw [from_succ_neg (n := 16) p (· ≠ c) hne]

theorem bar_step {α : Type} {Q : α → sProp 𝕄} {R : sProp 𝕄} (c p : Dev nD) {O : CellTallies nD τ sig Unit} {cond : Dev nD → BitVec 1}
    (hc : ∀ c, cond c = 1#1 ↔ p ≠ c) {n : ℕ} (hn : cond c = 1#1 → n < 16) (hnp : n = p.val) {J : Prog (TpuEff nD τ sig (Elt F) Λ₀ .tc) α}
    (h : iprop(Ctx A K ∗ SigSt A none c O (p.val + 1) ∗ R) ⊢ wpK c J Q) :
    iprop(Ctx A K ∗ SigSt A none c O p.val ∗ R)
      ⊢ wpK c (if h : cond c = 1#1 then (semSignalWord (⟨n, hn h⟩ : Dev nD) barS 1#32 >>= fun _ => J) else J) Q :=
  sig_step A K none barS rfl rfl (fun c p h => by simp [dutyOf]; exact fun e => h e.symm) c p hc hn hnp h

theorem ex_step {α : Type} {Q : α → sProp 𝕄} {R : sProp 𝕄} (c p : Dev nD) {O : CellTallies nD τ sig Unit} {cond : Dev nD → BitVec 1}
    (hc : ∀ c, cond c = 1#1 ↔ p ≠ c) {n : ℕ} (hn : cond c = 1#1 → n < 16) (hnp : n = p.val) {J : Prog (TpuEff nD τ sig (Elt F) Λ₀ .tc) α}
    (h : iprop(Ctx A K ∗ SigSt A (some .ex) c O (p.val + 1) ∗ R) ⊢ wpK c J Q) :
    iprop(Ctx A K ∗ SigSt A (some .ex) c O p.val ∗ R)
      ⊢ wpK c (if h : cond c = 1#1 then (semSignalWord (⟨n, hn h⟩ : Dev nD) exS 1#32 >>= fun _ => J) else J) Q :=
  sig_step A K (some .ex) exS rfl rfl (fun c p h => by simp [dutyOf]; exact fun e => h e.symm) c p hc hn hnp h

/-- Reading the device number. -/
theorem dev_step {α : Type} {Q : α → sProp 𝕄} {P : sProp 𝕄} (c : Dev nD) {k : Dev nD → Prog (TpuEff nD τ sig (Elt F) Λ₀ .tc) α}
    (h : P ⊢ wpK c (k c) Q) : P ⊢ wpK c (Prog.lift .deviceId >>= k) Q := by
  refine h.trans (Entails.of_eq ?_)
  exact (wp_deviceId (defs := defs₀ (F := F)) 𝒱₀ (c : Thread nD τ) none (Γ := .empty) Set.univ (k := k) (Q := Q)).symm

/-- A program that returns. -/
theorem ret_step {α : Type} {Q : α → sProp 𝕄} {P : sProp 𝕄} (c : Dev nD) {x : α} (h : P ⊢ Q x) :
    P ⊢ wpK c (Pure.pure x : Prog (TpuEff nD τ sig (Elt F) Λ₀ .tc) α) Q := by
  unfold wpK; rw [Prog.pure_eq_ret, wp_ret]
  iintro H; imodintro; iapply h; iexact H

/-! ## Sending the count vector -/

/-- What sending the count vector to device `p` takes. -/
def cntItem (c p : Dev nD) : sProp 𝕄 :=
  iprop(cTok c p (A.MC c) ∗ dutyTok ER (kcell (c, some (.cs p))) 0 (c, 0) ∗ dutyTok ER (kcell (p, some (.cr c))) 0 (c, 0) ∗ ∃ f, tRow p c f)
/-- Before the copy to device `k`. -/
def CntSt (c : Dev nD) (O : CellTallies nD τ sig Unit) (k : ℕ) : sProp 𝕄 :=
  iprop(bigSep (from' (n := 16) k (· ≠ c)) (cntItem A c)
    ∗ bigSep (upto (n := 16) k (· ≠ c)) (fun p => cred (tallyAt (kcell (c, some (.cs p))) () NC)) ∗ Owes c (owCnt c k + O))

omit [FloatOps F] in
theorem owCnt_succ (c p : Dev nD) (h : p ≠ c) : owCnt c p.val = owCnt c (p.val + 1) + tallyAt (kcell (p, some (.cr c))) () NC := by
  unfold owCnt; rw [from_succ (n := 16) p (· ≠ c) h, Finset.sum_insert (not_mem_from_succ _ _), add_comm]

theorem cnt_step {α : Type} {Q : α → sProp 𝕄} {R : sProp 𝕄} (c p : Dev nD) {O : CellTallies nD τ sig Unit} {cond : Dev nD → BitVec 1}
    (hc : ∀ c, cond c = 1#1 ↔ p ≠ c) {n : ℕ} (hn : cond c = 1#1 → n < 16) (hnp : n = p.val)
    {s₁ s₂ : cond c = 1#1 → DmaSem sig} (hs₁ : ∀ h, SemLoc.dma (s₁ h) = osem (.cs p)) (hs₂ : ∀ h, SemLoc.dma (s₂ h) = osem (.cr c))
    {off : Fin 2 → ℕ} {inb : cond c = 1#1 → ∀ a, off a + S1x16.size a ≤ S16x16.size a} (ho : off = ![c.val, 0])
    {hw : Mc.view.WordExact} {hw' : ∀ h, (trow off (inb h)).view.WordExact} {hsc : ∀ h, (trow off (inb h)).view.ref.isScScratch = false}
    {ht : ∀ h, DmaTarget.Typed (nD := nD) (τ := τ) (p := .tc) .smem (.dma (s₂ h)) (.remote (Dev.tc (⟨n, hn h⟩ : Dev nD)) (trow off (inb h)) (.dma (s₁ h)) (hsc h))}
    {J : Prog (TpuEff nD τ sig (Elt F) Λ₀ .tc) α}
    (h : iprop(Ctx A K ∗ CntSt A c O (p.val + 1) ∗ R) ⊢ wpK c J Q) :
    iprop(Ctx A K ∗ CntSt A c O p.val ∗ R)
      ⊢ wpK c (if h : cond c = 1#1 then (Prog.lift (.enqueueDma Mc (.remote (Dev.tc (⟨n, hn h⟩ : Dev nD)) (trow off (inb h)) (.dma (s₁ h)) (hsc h)) (.dma (s₂ h)) hw (hw' h) (ht h)) >>= fun _ => J) else J) Q := by
  subst hnp
  by_cases hp : cond c = 1#1
  · rw [dif_pos hp]
    have hne : p ≠ c := (hc c).mp hp
    have k₁ : kcell (c, some (.cs p)) = ((c : Thread nD τ), .dma (s₁ hp)) := by rw [hs₁ hp]; rfl
    have k₂ : kcell (p, some (.cr c)) = ((p : Thread nD τ), .dma (s₂ hp)) := by rw [hs₂ hp]; rfl
    show _ ⊢ wpK c (.op (.enqueueDma Mc (.remote ((p : Dev nD) : Thread nD τ) (trow off (inb hp)) (.dma (s₁ hp)) (hsc hp)) (.dma (s₂ hp)) hw (hw' hp) (ht hp)) fun _ => J) Q
    unfold CntSt Owes
    iintro ⟨#HC, ⟨HS, HD, ⟨%W, HO⟩⟩, HR⟩
    ihave HS := (Entails.of_eq (sep_from (n := 16) p (· ≠ c) hne (cntItem A c))) $$ HS
    icases HS with ⟨Hi, HS⟩
    unfold cntItem
    icases Hi with ⟨Hm, Ht₁, Ht₂, ⟨%f, Hrow⟩⟩
    ihave #HI₁ := (ctx_inv A K c (some (.cs p))) $$ HC
    ihave #Hr₁ := (ctx_reached A K c (some (.cs p))) $$ HC
    ihave #HI₂ := (ctx_inv A K p (some (.cr c))) $$ HC
    ihave #Hr₂ := (ctx_reached A K p (some (.cr c))) $$ HC
    iapply (Rounds.wp_send_pointsTo 𝒱₀ ER (Rd A) (c : Thread nD τ) none (c' := (p : Thread nD τ)) (src := Mc) (dst := trow off (inb hp))
      (sS := .dma (s₁ hp)) (sem := .dma (s₂ hp)) (fs := A.MC c) (fd := f) (q := Transfers.shareTok fullShare 16 p)
      (κ₁ := K (c, some (.cs p))) (κ₂ := K (p, some (.cr c))) (r₁ := 0) (r₂ := 0) (d₁ := (c, 0)) (d₂ := (c, 0))
      (O₀ := owCnt c p.val + O)
      (by rw [← k₁, duties_eq]; simp [dutyOf, hne]) (by rw [← k₂, duties_eq]; simp [dutyOf, hne.symm]) () () NC (trow_amount _)
      (by rw [← k₁, amount_eq]; rfl) (by rw [← k₂, amount_eq]; rfl) (owCnt c (p.val + 1) + O)
      (by rw [owCnt_succ c p hne, k₂, add_right_comm])
      (by
        rw [← k₁, payload_eq]
        show _ ⊢ cTok c p (A.MC c)
        unfold cTok
        rw [cnt_set])
      (by
        rw [← k₂, payload_eq]
        show ((ℓt p) ↦[(trow off (inb hp)).view.set]{fullShare} _) ⊢ tRow p c A.CA
        unfold tRow
        rw [trow_set (c : Fin 16) ho]
        refine Entails.of_eq (pointsTo_congr fun x hx => ?_)
        rw [trow_write (c : Fin 16) ho _ _ x hx]
        show BitVec.ofNat 32 _ = BitVec.ofNat 32 _
        rw [mem_rowSet.mp hx]; rfl)) $$ [Hm Ht₁ Ht₂ Hrow HO]
    · rw [← k₁, ← k₂]
      isplitr; · iexact HI₁
      isplitr; · iexact HI₂
      isplitl [Hm]; · unfold cTok; rw [cnt_set]; iexact Hm
      isplitl [Hrow]; · unfold tRow; rw [trow_set (c : Fin 16) ho]; iexact Hrow
      isplitl [HO]; · iexact HO
      isplitl [Ht₁]; · iexact Ht₁
      isplitr; · iexact Hr₁
      isplitl [Ht₂]; · iexact Ht₂
      iexact Hr₂
    iintro ⟨Hcr, HO⟩
    iapply h
    isplitr; · iexact HC
    isplitl [HS HD Hcr HO]
    · unfold CntSt Owes
      isplitl [HS]; · iexact HS
      isplitl [HD Hcr]
      · rw [sep_upto (n := 16) p (· ≠ c) hne]
        isplitl [Hcr]; · rw [k₁]; iexact Hcr
        iexact HD
      iexists W; iexact HO
    iexact HR
  · rw [dif_neg hp]
    have hne : ¬ p ≠ c := fun h' => hp ((hc c).mpr h')
    refine (Entails.of_eq ?_).trans h
    unfold CntSt owCnt; rw [from_succ_neg (n := 16) p (· ≠ c) hne, upto_succ_neg (n := 16) p (· ≠ c) hne]

/-! ## Waiting for the count vectors -/

/-- What the waits for device `p` take. -/
def wtItem (c p : Dev nD) : sProp 𝕄 :=
  iprop(cred (tallyAt (kcell (c, some (.cs p))) () NC) ∗ cred (tallyAt (kcell (c, some (.cr p))) () NC)
    ∗ atPos ER (kcell (c, some (.cs p))) 0 ∅ 0 ∗ atPos ER (kcell (c, some (.cr p))) 0 ∅ 0)
/-- What they leave: both cells at zero, the share of the count vector, and row `p` of the table. -/
def wtDone (c p : Dev nD) : sProp 𝕄 :=
  iprop(semVal (kcell (c, some (.cs p))) 0 ∗ semVal (kcell (c, some (.cr p))) 0 ∗ cTok c p (A.MC c) ∗ tRow c p A.CA)
/-- Before the waits for device `k`. -/
def WtSt (c : Dev nD) (O : CellTallies nD τ sig Unit) (k : ℕ) : sProp 𝕄 :=
  iprop(bigSep (from' (n := 16) k (· ≠ c)) (wtItem c) ∗ bigSep (upto (n := 16) k (· ≠ c)) (wtDone A c) ∗ Owes c O)

set_option maxHeartbeats 1000000 in
theorem wt_step {α : Type} {Q : α → sProp 𝕄} {R : sProp 𝕄} (c p : Dev nD) {O : CellTallies nD τ sig Unit} (hO : Above 2 O) {cond : Dev nD → BitVec 1}
    (hc : ∀ c, cond c = 1#1 ↔ p ≠ c)
    {s₁ s₂ : DmaSem sig} (hs₁ : SemLoc.dma s₁ = osem (.cs p)) (hs₂ : SemLoc.dma s₂ = osem (.cr p))
    {off off' : Fin 2 → ℕ} {inb : ∀ a, off a + S1x16.size a ≤ S16x16.size a} {inb' : ∀ a, off' a + S1x16.size a ≤ S16x16.size a}
    {hw : (trow off inb).view.WordExact} {hw' : Mc.view.WordExact} {hv : Mc.view.WordExact} {hv' : (trow off' inb').view.WordExact}
    {J : Prog (TpuEff nD τ sig (Elt F) Λ₀ .tc) α}
    (h : iprop(Ctx A K ∗ WtSt A c O (p.val + 1) ∗ R) ⊢ wpK c J Q) :
    iprop(Ctx A K ∗ WtSt A c O p.val ∗ R)
      ⊢ wpK c (if h : cond c = 1#1 then (Prog.lift (.waitDma2 s₁ (trow off inb) Mc hw hw') >>= fun _ =>
          (Prog.lift (.waitDma2 s₂ Mc (trow off' inb') hv hv') >>= fun _ => J)) else J) Q := by
  by_cases hp : cond c = 1#1
  · rw [dif_pos hp]
    have hne : p ≠ c := (hc c).mp hp
    have k₁ : kcell (c, some (.cs p)) = ((c : Thread nD τ), .dma s₁) := by rw [hs₁]; rfl
    have k₂ : kcell (c, some (.cr p)) = ((c : Thread nD τ), .dma s₂) := by rw [hs₂]; rfl
    have d₁ : (Rd A).duties (kcell (c, some (.cs p))) 0 = {(c, 0)} := by
      rw [duties_eq]; ext d; simp [dutyOf, hne]
    have d₂ : (Rd A).duties (kcell (c, some (.cr p))) 0 = {(p, 0)} := by
      rw [duties_eq]; ext d; simp [dutyOf, hne]
    have e₁ : 0 + NC = (Rd A).expect ((c : Thread nD τ), .dma s₁) 0 := by
      rw [← k₁, expect_eq, ← duties_eq A c (some (.cs p)), d₁, Finset.card_singleton, Nat.zero_add, Nat.one_mul]; rfl
    have eN : (trow off' inb').view.dmaCredit = NC := rfl
    have e₂ : 0 + (trow off' inb').view.dmaCredit = (Rd A).expect ((c : Thread nD τ), .dma s₂) 0 := by
      rw [eN, ← k₂, expect_eq, ← duties_eq A c (some (.cr p)), d₂, Finset.card_singleton, Nat.zero_add, Nat.one_mul]; rfl
    show _ ⊢ wpK c (.op (.waitDma2 s₁ (trow off inb) Mc hw hw') fun _ => .op (.waitDma2 s₂ Mc (trow off' inb') hv hv') fun _ => J) Q
    unfold WtSt Owes
    iintro ⟨#HC, ⟨HS, HD, ⟨%W, HO⟩⟩, HR⟩
    ihave HS := (Entails.of_eq (sep_from (n := 16) p (· ≠ c) hne (wtItem c))) $$ HS
    icases HS with ⟨Hi, HS⟩
    unfold wtItem
    icases Hi with ⟨Hc₁, Hc₂, Ha₁, Ha₂⟩
    ihave #HI₁ := (ctx_inv A K c (some (.cs p))) $$ HC
    ihave #HI₂ := (ctx_inv A K c (some (.cr p))) $$ HC
    iapply (Rounds.wp_wait_rest_token 𝒱₀ ER (Rd A) (c : Thread nD τ) none (κ := K (c, some (.cs p)))
      (wpE_waitDma2_eq 𝒱₀ (c : Thread nD τ) none Set.univ) (Set.mem_univ _) () (O := O) (W := W) (R := 0) (m := 0) (T := ∅)
      e₁) $$ [Hc₁ HO Ha₁]
    · rw [← k₁]
      isplitr; · iexact HI₁
      isplitl [Hc₁]; · iexact Hc₁
      isplitl [HO]; · iexact HO
      isplitr
      · iapply (ctx_mayWait A K c (.dma s₁) 2 hO (by rw [← k₁, lv_eq]; show 0 ≤ 2; omega)); iexact HC
      iexact Ha₁
    rw [← k₁, Finset.sdiff_empty, d₁, bigSep_singleton, payload_eq, show payOf A c (some (.cs p)) (c, 0) = cTok c p (A.MC c) from rfl]
    iintro ⟨HO, Ha₁, -, Hm⟩
    iapply (Rounds.wp_wait_rest_token 𝒱₀ ER (Rd A) (c : Thread nD τ) none (κ := K (c, some (.cr p)))
      (wpE_waitDma2_eq 𝒱₀ (c : Thread nD τ) none Set.univ) (Set.mem_univ _) () (O := O) (W := insert (SemLoc.dma s₁, ()) W) (R := 0) (m := 0) (T := ∅)
      e₂) $$ [Hc₂ HO Ha₂]
    · rw [← k₂, eN]
      isplitr; · iexact HI₂
      isplitl [Hc₂]; · iexact Hc₂
      isplitl [HO]; · iexact HO
      isplitr
      · iapply (ctx_mayWait A K c (.dma s₂) 2 hO (by rw [← k₂, lv_eq]; exact le_refl 2)); iexact HC
      iexact Ha₂
    rw [← k₂, Finset.sdiff_empty, d₂, bigSep_singleton, payload_eq, show payOf A c (some (.cr p)) (p, 0) = tRow c p A.CA from rfl]
    iintro ⟨HO, Ha₂, -, Hrow⟩
    imod (Rounds.cell_close ER (Rd A) (Set.mem_univ (K (c, some (.cs p)))) (fun h => h) (R := 0 + 1) (duties_later A _)) $$ [Ha₁] with Hz₁
    · isplitr; · iexact HI₁
      iexact Ha₁
    imod (Rounds.cell_close ER (Rd A) (Set.mem_univ (K (c, some (.cr p)))) (fun h => h) (R := 0 + 1) (duties_later A _)) $$ [Ha₂] with Hz₂
    · isplitr; · iexact HI₂
      iexact Ha₂
    iapply h
    isplitr; · iexact HC
    isplitl [HS HD Hz₁ Hz₂ Hm Hrow HO]
    · unfold WtSt Owes
      isplitl [HS]; · iexact HS
      isplitl [HD Hz₁ Hz₂ Hm Hrow]
      · rw [sep_upto (n := 16) p (· ≠ c) hne]
        isplitl [Hz₁ Hz₂ Hm Hrow]
        · unfold wtDone
          isplitl [Hz₁]; · iexact Hz₁
          isplitl [Hz₂]; · iexact Hz₂
          isplitl [Hm]; · iexact Hm
          iexact Hrow
        iexact HD
      iexists _; iexact HO
    iexact HR
  · rw [dif_neg hp]
    have hne : ¬ p ≠ c := fun h' => hp ((hc c).mpr h')
    refine (Entails.of_eq ?_).trans h
    unfold WtSt; rw [from_succ_neg (n := 16) p (· ≠ c) hne, upto_succ_neg (n := 16) p (· ≠ c) hne]

end Cert.AllToAll

end
-- ==== Proof.Mem.lean ====
/-
# Steps on the small arrays

Loads and stores of single words of the count vector, the rank vector, the count table and the base vector, as steps of a run.
-/
module

public import proofs.«01_k».proof.Proof.Steps

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A rectangle of one element of a vector embeds its index as that element. -/
theorem emb_one {n : ℕ} (k : Fin n) {off : Fin 1 → ℕ} (ho : off = ![k.val]) {inb : ∀ a, off a + S1.size a ≤ (⟨1, ![n]⟩ : Shape).size a}
    (y : (Rect.unit (s := ⟨1, ![n]⟩) off S1.size inb).shape.Idx) : (Rect.unit (s := ⟨1, ![n]⟩) off S1.size inb).emb y = ix1 k := by
  subst ho
  funext a
  match a with
  | 0 =>
    apply Fin.ext
    have h1 : (y 0).val < 1 := (y 0).isLt
    show k.val + 1 * (y 0).val = k.val
    omega
/-- A rectangle of one element of a matrix embeds its index as that element. -/
theorem emb_two {n p : ℕ} (k : Fin n) (l : Fin p) {off : Fin 2 → ℕ} (ho : off = ![k.val, l.val]) {inb : ∀ a, off a + S1x1.size a ≤ (⟨2, ![n, p]⟩ : Shape).size a}
    (y : (Rect.unit (s := ⟨2, ![n, p]⟩) off S1x1.size inb).shape.Idx) : (Rect.unit (s := ⟨2, ![n, p]⟩) off S1x1.size inb).emb y = ix2 k l := by
  subst ho
  funext a
  match a with
  | 0 =>
    apply Fin.ext
    have h1 : (y 0).val < 1 := (y 0).isLt
    show k.val + 1 * (y 0).val = k.val
    omega
  | 1 =>
    apply Fin.ext
    have h1 : (y 1).val < 1 := (y 1).isLt
    show l.val + 1 * (y 1).val = l.val
    omega

/-! ## The three vectors and the table -/

section Vectors

variable {α : Type} (c : Dev nD)

/-- Loading word `k` of this vector. -/
theorem get_d {Q : α → sProp 𝕄} {R : sProp 𝕄} (k : Fin 1024) {q : PosShare TreeShare} {f : S1024.Idx → Elt F .i32} {off : Fin 1 → ℕ} (ho : off = ![k.val])
    {inb : ∀ a, off a + S1.size a ≤ S1024.size a} {h1 : (Rect.unit (s := S1024) off S1.size inb).shape.numel = 1} {hp : EltTy.packing .i32 = 1}
    {J : Elt F .i32 → Prog (TpuEff nD τ sig (Elt F) Λ₀ .tc) α}
    (h : iprop(((ℓd c) ↦[Finset.univ]{q} f) ∗ R) ⊢ wpK c (J (f (ix1 k))) Q) :
    iprop(((ℓd c) ↦[Finset.univ]{q} f) ∗ R) ⊢ wpK c (smemLoad Md (Rect.unit (s := S1024) off S1.size inb) h1 hp >>= J) Q :=
  get_step (F := F) (c := c) (Q := Q) (R := R) (q := q) (k := J) (h1 := h1) (hp := hp) (m := Md) (r := Rect.unit (s := S1024) off S1.size inb) (S := Finset.univ) (f := f) (v := f (ix1 k))
    (fun _ => Finset.mem_univ _) (fun y => congrArg f (emb_one k ho y)) h

/-- Loading word `k` of this vector. -/
theorem get_c {Q : α → sProp 𝕄} {R : sProp 𝕄} (k : Fin 16) {q : PosShare TreeShare} {f : S16.Idx → Elt F .i32} {off : Fin 1 → ℕ} (ho : off = ![k.val])
    {inb : ∀ a, off a + S1.size a ≤ S16.size a} {h1 : (Rect.unit (s := S16) off S1.size inb).shape.numel = 1} {hp : EltTy.packing .i32 = 1}
    {J : Elt F .i32 → Prog (TpuEff nD τ sig (Elt F) Λ₀ .tc) α}
    (h : iprop(((ℓc c) ↦[Finset.univ]{q} f) ∗ R) ⊢ wpK c (J (f (ix1 k))) Q) :
    iprop(((ℓc c) ↦[Finset.univ]{q} f) ∗ R) ⊢ wpK c (smemLoad Mc (Rect.unit (s := S16) off S1.size inb) h1 hp >>= J) Q :=
  get_step (F := F) (c := c) (Q := Q) (R := R) (q := q) (k := J) (h1 := h1) (hp := hp) (m := Mc) (r := Rect.unit (s := S16) off S1.size inb) (S := Finset.univ) (f := f) (v := f (ix1 k))
    (fun _ => Finset.mem_univ _) (fun y => congrArg f (emb_one k ho y)) h

/-- Storing word `k` of this vector. -/
theorem put_c {Q : α → sProp 𝕄} {R : sProp 𝕄} (k : Fin 16) {f f' : S16.Idx → Elt F .i32} {w : Elt F .i32} (hf : Function.update f (ix1 k) w = f') {off : Fin 1 → ℕ} (ho : off = ![k.val])
    {inb : ∀ a, off a + S1.size a ≤ S16.size a} {hx : (Mc.access (Rect.unit (s := S16) off S1.size inb)).Stores Finset.univ}
    {hm : (Finset.univ : Finset (Rect.unit (s := S16) off S1.size inb).shape.Idx) = Finset.univ ∨ ∀ a, (Rect.unit (s := S16) off S1.size inb).stride a = 1}
    {J : PUnit → Prog (TpuEff nD τ sig (Elt F) Λ₀ .tc) α}
    (h : iprop(((ℓc c) ↦[Finset.univ]{fullShare} f') ∗ R) ⊢ wpK c (J ⟨⟩) Q) :
    iprop(((ℓc c) ↦[Finset.univ]{fullShare} f) ∗ R)
      ⊢ wpK c (Prog.lift (.store Mc (Rect.unit (s := S16) off S1.size inb) (fun _ => w) Finset.univ hx hm) >>= J) Q :=
  put_step (F := F) (c := c) (Q := Q) (R := R) (k := J) (hx := hx) (hm := hm) (m := Mc) (r := Rect.unit (s := S16) off S1.size inb) (S := Finset.univ) (f := f) (f' := f') (w := fun _ => w)
    (fun _ => Finset.mem_univ _)
    ((write_one (F := F) (c := c) (m := Mc) (r := Rect.unit (s := S16) off S1.size inb) (w := fun _ => w) (ix1 k) (emb_one k ho) (Shape.Idx.first Nat.one_pos) w
      fun f => (View.write_emb (Val := Elt F) (v := Mc.access (Rect.unit (s := S16) off S1.size inb)) f (fun _ => w) Finset.univ _).trans (if_pos (Finset.mem_univ _))).trans hf) h

/-- Loading word `k` of this vector. -/
theorem get_r {Q : α → sProp 𝕄} {R : sProp 𝕄} (k : Fin 1024) {q : PosShare TreeShare} {f : S1024.Idx → Elt F .i32} {off : Fin 1 → ℕ} (ho : off = ![k.val])
    {inb : ∀ a, off a + S1.size a ≤ S1024.size a} {h1 : (Rect.unit (s := S1024) off S1.size inb).shape.numel = 1} {hp : EltTy.packing .i32 = 1}
    {J : Elt F .i32 → Prog (TpuEff nD τ sig (Elt F) Λ₀ .tc) α}
    (h : iprop(((ℓr c) ↦[Finset.univ]{q} f) ∗ R) ⊢ wpK c (J (f (ix1 k))) Q) :
    iprop(((ℓr c) ↦[Finset.univ]{q} f) ∗ R) ⊢ wpK c (smemLoad Mr (Rect.unit (s := S1024) off S1.size inb) h1 hp >>= J) Q :=
  get_step (F := F) (c := c) (Q := Q) (R := R) (q := q) (k := J) (h1 := h1) (hp := hp) (m := Mr) (r := Rect.unit (s := S1024) off S1.size inb) (S := Finset.univ) (f := f) (v := f (ix1 k))
    (fun _ => Finset.mem_univ _) (fun y => congrArg f (emb_one k ho y)) h

/-- Storing word `k` of this vector. -/
theorem put_r {Q : α → sProp 𝕄} {R : sProp 𝕄} (k : Fin 1024) {f f' : S1024.Idx → Elt F .i32} {w : Elt F .i32} (hf : Function.update f (ix1 k) w = f') {off : Fin 1 → ℕ} (ho : off = ![k.val])
    {inb : ∀ a, off a + S1.size a ≤ S1024.size a} {hx : (Mr.access (Rect.unit (s := S1024) off S1.size inb)).Stores Finset.univ}
    {hm : (Finset.univ : Finset (Rect.unit (s := S1024) off S1.size inb).shape.Idx) = Finset.univ ∨ ∀ a, (Rect.unit (s := S1024) off S1.size inb).stride a = 1}
    {J : PUnit → Prog (TpuEff nD τ sig (Elt F) Λ₀ .tc) α}
    (h : iprop(((ℓr c) ↦[Finset.univ]{fullShare} f') ∗ R) ⊢ wpK c (J ⟨⟩) Q) :
    iprop(((ℓr c) ↦[Finset.univ]{fullShare} f) ∗ R)
      ⊢ wpK c (Prog.lift (.store Mr (Rect.unit (s := S1024) off S1.size inb) (fun _ => w) Finset.univ hx hm) >>= J) Q :=
  put_step (F := F) (c := c) (Q := Q) (R := R) (k := J) (hx := hx) (hm := hm) (m := Mr) (r := Rect.unit (s := S1024) off S1.size inb) (S := Finset.univ) (f := f) (f' := f') (w := fun _ => w)
    (fun _ => Finset.mem_univ _)
    ((write_one (F := F) (c := c) (m := Mr) (r := Rect.unit (s := S1024) off S1.size inb) (w := fun _ => w) (ix1 k) (emb_one k ho) (Shape.Idx.first Nat.one_pos) w
      fun f => (View.write_emb (Val := Elt F) (v := Mr.access (Rect.unit (s := S1024) off S1.size inb)) f (fun _ => w) Finset.univ _).trans (if_pos (Finset.mem_univ _))).trans hf) h

/-- Loading word `k` of this vector. -/
theorem get_b {Q : α → sProp 𝕄} {R : sProp 𝕄} (k : Fin 16) {q : PosShare TreeShare} {f : S16.Idx → Elt F .i32} {off : Fin 1 → ℕ} (ho : off = ![k.val])
    {inb : ∀ a, off a + S1.size a ≤ S16.size a} {h1 : (Rect.unit (s := S16) off S1.size inb).shape.numel = 1} {hp : EltTy.packing .i32 = 1}
    {J : Elt F .i32 → Prog (TpuEff nD τ sig (Elt F) Λ₀ .tc) α}
    (h : iprop(((ℓb c) ↦[Finset.univ]{q} f) ∗ R) ⊢ wpK c (J (f (ix1 k))) Q) :
    iprop(((ℓb c) ↦[Finset.univ]{q} f) ∗ R) ⊢ wpK c (smemLoad Mb (Rect.unit (s := S16) off S1.size inb) h1 hp >>= J) Q :=
  get_step (F := F) (c := c) (Q := Q) (R := R) (q := q) (k := J) (h1 := h1) (hp := hp) (m := Mb) (r := Rect.unit (s := S16) off S1.size inb) (S := Finset.univ) (f := f) (v := f (ix1 k))
    (fun _ => Finset.mem_univ _) (fun y => congrArg f (emb_one k ho y)) h

/-- Storing word `k` of this vector. -/
theorem put_b {Q : α → sProp 𝕄} {R : sProp 𝕄} (k : Fin 16) {f f' : S16.Idx → Elt F .i32} {w : Elt F .i32} (hf : Function.update f (ix1 k) w = f') {off : Fin 1 → ℕ} (ho : off = ![k.val])
    {inb : ∀ a, off a + S1.size a ≤ S16.size a} {hx : (Mb.access (Rect.unit (s := S16) off S1.size inb)).Stores Finset.univ}
    {hm : (Finset.univ : Finset (Rect.unit (s := S16) off S1.size inb).shape.Idx) = Finset.univ ∨ ∀ a, (Rect.unit (s := S16) off S1.size inb).stride a = 1}
    {J : PUnit → Prog (TpuEff nD τ sig (Elt F) Λ₀ .tc) α}
    (h : iprop(((ℓb c) ↦[Finset.univ]{fullShare} f') ∗ R) ⊢ wpK c (J ⟨⟩) Q) :
    iprop(((ℓb c) ↦[Finset.univ]{fullShare} f) ∗ R)
      ⊢ wpK c (Prog.lift (.store Mb (Rect.unit (s := S16) off S1.size inb) (fun _ => w) Finset.univ hx hm) >>= J) Q :=
  put_step (F := F) (c := c) (Q := Q) (R := R) (k := J) (hx := hx) (hm := hm) (m := Mb) (r := Rect.unit (s := S16) off S1.size inb) (S := Finset.univ) (f := f) (f' := f') (w := fun _ => w)
    (fun _ => Finset.mem_univ _)
    ((write_one (F := F) (c := c) (m := Mb) (r := Rect.unit (s := S16) off S1.size inb) (w := fun _ => w) (ix1 k) (emb_one k ho) (Shape.Idx.first Nat.one_pos) w
      fun f => (View.write_emb (Val := Elt F) (v := Mb.access (Rect.unit (s := S16) off S1.size inb)) f (fun _ => w) Finset.univ _).trans (if_pos (Finset.mem_univ _))).trans hf) h

/-- Loading a word of the table. -/
theorem get_t {Q : α → sProp 𝕄} {R : sProp 𝕄} (s k : Fin 16) {q : PosShare TreeShare} {S : Finset S16x16.Idx} (hS : ix2 s k ∈ S) {f : S16x16.Idx → Elt F .i32} {off : Fin 2 → ℕ} (ho : off = ![s.val, k.val])
    {inb : ∀ a, off a + S1x1.size a ≤ S16x16.size a} {h1 : (Rect.unit (s := S16x16) off S1x1.size inb).shape.numel = 1} {hp : EltTy.packing .i32 = 1}
    {J : Elt F .i32 → Prog (TpuEff nD τ sig (Elt F) Λ₀ .tc) α}
    (h : iprop(((ℓt c) ↦[S]{q} f) ∗ R) ⊢ wpK c (J (f (ix2 s k))) Q) :
    iprop(((ℓt c) ↦[S]{q} f) ∗ R) ⊢ wpK c (smemLoad Mt (Rect.unit (s := S16x16) off S1x1.size inb) h1 hp >>= J) Q :=
  get_step (F := F) (c := c) (Q := Q) (R := R) (q := q) (k := J) (h1 := h1) (hp := hp) (m := Mt) (r := Rect.unit (s := S16x16) off S1x1.size inb) (S := S) (f := f) (v := f (ix2 s k))
    (fun y => by rw [show (Mt.access (Rect.unit (s := S16x16) off S1x1.size inb)).emb y = ix2 s k from emb_two s k ho y]; exact hS) (fun y => congrArg f (emb_two s k ho y)) h

/-- Storing a word of the table. -/
theorem put_t {Q : α → sProp 𝕄} {R : sProp 𝕄} (s k : Fin 16) {S : Finset S16x16.Idx} (hS : ix2 s k ∈ S) {f f' : S16x16.Idx → Elt F .i32} {w : Elt F .i32} (hf : Function.update f (ix2 s k) w = f')
    {off : Fin 2 → ℕ} (ho : off = ![s.val, k.val]) {inb : ∀ a, off a + S1x1.size a ≤ S16x16.size a} {hx : (Mt.access (Rect.unit (s := S16x16) off S1x1.size inb)).Stores Finset.univ}
    {hm : (Finset.univ : Finset (Rect.unit (s := S16x16) off S1x1.size inb).shape.Idx) = Finset.univ ∨ ∀ a, (Rect.unit (s := S16x16) off S1x1.size inb).stride a = 1}
    {J : PUnit → Prog (TpuEff nD τ sig (Elt F) Λ₀ .tc) α}
    (h : iprop(((ℓt c) ↦[S]{fullShare} f') ∗ R) ⊢ wpK c (J ⟨⟩) Q) :
    iprop(((ℓt c) ↦[S]{fullShare} f) ∗ R)
      ⊢ wpK c (Prog.lift (.store Mt (Rect.unit (s := S16x16) off S1x1.size inb) (fun _ => w) Finset.univ hx hm) >>= J) Q :=
  put_step (F := F) (c := c) (Q := Q) (R := R) (k := J) (hx := hx) (hm := hm) (m := Mt) (r := Rect.unit (s := S16x16) off S1x1.size inb) (S := S) (f := f) (f' := f') (w := fun _ => w)
    (fun y => by rw [show (Mt.access (Rect.unit (s := S16x16) off S1x1.size inb)).emb y = ix2 s k from emb_two s k ho y]; exact hS)
    ((write_one (F := F) (c := c) (m := Mt) (r := Rect.unit (s := S16x16) off S1x1.size inb) (w := fun _ => w) (ix2 s k) (emb_two s k ho) (Shape.Idx.first Nat.one_pos) w
      fun f => (View.write_emb (Val := Elt F) (v := Mt.access (Rect.unit (s := S16x16) off S1x1.size inb)) f (fun _ => w) Finset.univ _).trans (if_pos (Finset.mem_univ _))).trans hf) h

/-! ## Filling a vector or a row from the front -/

/-- A vector filled with `g` below `k`. -/
def fill1 {n : ℕ} (k : ℕ) (g f : (⟨1, ![n]⟩ : Shape).Idx → Elt F .i32) : (⟨1, ![n]⟩ : Shape).Idx → Elt F .i32 := fun x => if (at1 x).val < k then g x else f x
theorem fill1_zero {n : ℕ} (g f : (⟨1, ![n]⟩ : Shape).Idx → Elt F .i32) : fill1 0 g f = f := by funext x; exact if_neg (Nat.not_lt_zero _)
theorem fill1_all {n : ℕ} (g f : (⟨1, ![n]⟩ : Shape).Idx → Elt F .i32) : fill1 n g f = g := by funext x; exact if_pos (at1 x).isLt
theorem fill1_succ {n : ℕ} (k : Fin n) (g f : (⟨1, ![n]⟩ : Shape).Idx → Elt F .i32) {w : Elt F .i32} (hw : w = g (ix1 k)) :
    Function.update (fill1 k.val g f) (ix1 k) w = fill1 (k.val + 1) g f := by
  funext x
  unfold fill1
  by_cases hx : x = ix1 k
  · subst hx; rw [Function.update_self, at1_ix1, if_pos (Nat.lt_succ_self _)]; exact hw
  · rw [Function.update_of_ne hx]
    have : (at1 x).val ≠ k.val := fun e => hx (by rw [← Fin.ext e, ix1_at1])
    by_cases h : (at1 x).val < k.val
    · rw [if_pos h, if_pos (by omega)]
    · rw [if_neg h, if_neg (by omega)]

/-- A table filled with `g` in the columns below `k`. -/
def fill2 (k : ℕ) (g f : S16x16.Idx → Elt F .i32) : S16x16.Idx → Elt F .i32 := fun x => if (colOf x).val < k then g x else f x
theorem fill2_zero (g f : S16x16.Idx → Elt F .i32) : fill2 0 g f = f := by funext x; exact if_neg (Nat.not_lt_zero _)
theorem fill2_all (g f : S16x16.Idx → Elt F .i32) : fill2 16 g f = g := by funext x; exact if_pos (colOf x).isLt

/-- Zeroing word `k` of the count vector (after a load whose value is not used). -/
theorem zero_c {Q : α → sProp 𝕄} {R : sProp 𝕄} (k : Fin 16) {f : S16.Idx → Elt F .i32} {off : Fin 1 → ℕ} (ho : off = ![k.val])
    {inb : ∀ a, off a + S1.size a ≤ S16.size a} {h1 : (Rect.unit (s := S16) off S1.size inb).shape.numel = 1} {hp : EltTy.packing .i32 = 1}
    {hx : (Mc.access (Rect.unit (s := S16) off S1.size inb)).Stores Finset.univ}
    {hm : (Finset.univ : Finset (Rect.unit (s := S16) off S1.size inb).shape.Idx) = Finset.univ ∨ ∀ a, (Rect.unit (s := S16) off S1.size inb).stride a = 1}
    {J : Prog (TpuEff nD τ sig (Elt F) Λ₀ .tc) α}
    (h : iprop(((ℓc c) ↦[Finset.univ]{fullShare} fill1 (F := F) (k.val + 1) (fun _ => 0#32) f) ∗ R) ⊢ wpK c J Q) :
    iprop(((ℓc c) ↦[Finset.univ]{fullShare} fill1 (F := F) k.val (fun _ => 0#32) f) ∗ R)
      ⊢ wpK c (smemLoad Mc (Rect.unit (s := S16) off S1.size inb) h1 hp >>= fun _ =>
          (Prog.lift (.store Mc (Rect.unit (s := S16) off S1.size inb) (fun _ => 0#32) Finset.univ hx hm) >>= fun _ => J)) Q :=
  get_c c k ho (put_c c k (fill1_succ (F := F) k (fun _ => 0#32) f rfl) ho h)

/-- Zeroing word `k` of the base vector (after a load whose value is not used). -/
theorem zero_b {Q : α → sProp 𝕄} {R : sProp 𝕄} (k : Fin 16) {f : S16.Idx → Elt F .i32} {off : Fin 1 → ℕ} (ho : off = ![k.val])
    {inb : ∀ a, off a + S1.size a ≤ S16.size a} {h1 : (Rect.unit (s := S16) off S1.size inb).shape.numel = 1} {hp : EltTy.packing .i32 = 1}
    {hx : (Mb.access (Rect.unit (s := S16) off S1.size inb)).Stores Finset.univ}
    {hm : (Finset.univ : Finset (Rect.unit (s := S16) off S1.size inb).shape.Idx) = Finset.univ ∨ ∀ a, (Rect.unit (s := S16) off S1.size inb).stride a = 1}
    {J : Prog (TpuEff nD τ sig (Elt F) Λ₀ .tc) α}
    (h : iprop(((ℓb c) ↦[Finset.univ]{fullShare} fill1 (F := F) (k.val + 1) (fun _ => 0#32) f) ∗ R) ⊢ wpK c J Q) :
    iprop(((ℓb c) ↦[Finset.univ]{fullShare} fill1 (F := F) k.val (fun _ => 0#32) f) ∗ R)
      ⊢ wpK c (smemLoad Mb (Rect.unit (s := S16) off S1.size inb) h1 hp >>= fun _ =>
          (Prog.lift (.store Mb (Rect.unit (s := S16) off S1.size inb) (fun _ => 0#32) Finset.univ hx hm) >>= fun _ => J)) Q :=
  get_b c k ho (put_b c k (fill1_succ (F := F) k (fun _ => 0#32) f rfl) ho h)

variable (A : Inp F)

/-- Column `k` of this device's own row of the table becomes its count for destination `k`. -/
theorem row_t {Q : α → sProp 𝕄} {R : sProp 𝕄} (k : Fin 16) {f : S16x16.Idx → Elt F .i32} {w : Elt F .i32} (hw : w = A.MC c (ix1 k)) {off : Fin 2 → ℕ} (ho : off = ![c.val, k.val])
    {inb : ∀ a, off a + S1x1.size a ≤ S16x16.size a} {h1 : (Rect.unit (s := S16x16) off S1x1.size inb).shape.numel = 1} {hp : EltTy.packing .i32 = 1}
    {hx : (Mt.access (Rect.unit (s := S16x16) off S1x1.size inb)).Stores Finset.univ}
    {hm : (Finset.univ : Finset (Rect.unit (s := S16x16) off S1x1.size inb).shape.Idx) = Finset.univ ∨ ∀ a, (Rect.unit (s := S16x16) off S1x1.size inb).stride a = 1}
    {J : Prog (TpuEff nD τ sig (Elt F) Λ₀ .tc) α}
    (h : iprop(tRow c c (fill2 (F := F) (k.val + 1) A.CA f) ∗ R) ⊢ wpK c J Q) :
    iprop(tRow c c (fill2 (F := F) k.val A.CA f) ∗ R)
      ⊢ wpK c (smemLoad Mt (Rect.unit (s := S16x16) off S1x1.size inb) h1 hp >>= fun _ =>
          (Prog.lift (.store Mt (Rect.unit (s := S16x16) off S1x1.size inb) (fun _ => w) Finset.univ hx hm) >>= fun _ => J)) Q := by
  have hm' : ix2 (c : Fin 16) k ∈ rowSet (n := 16) (p := 16) (c : Fin 16) := mem_rowSet.mpr rfl
  unfold tRow at h ⊢
  refine get_t c c k hm' ho (put_t c c k hm' rfl ho ?_)
  refine (sep_mono_left (Entails.of_eq (pointsTo_congr fun x hx => ?_))).trans h
  have hr : rowOf x = (c : Fin 16) := mem_rowSet.mp hx
  unfold fill2
  by_cases hxk : x = ix2 (c : Fin 16) k
  · subst hxk; rw [Function.update_self, colOf_ix2, if_pos (Nat.lt_succ_self _)]; exact hw
  · rw [Function.update_of_ne hxk]
    have : (colOf x).val ≠ k.val := fun e => hxk (by rw [← ix2_eta x, hr, Fin.ext e])
    by_cases h : (colOf x).val < k.val
    · rw [if_pos h, if_pos (by omega)]
    · rw [if_neg h, if_neg (by omega)]

end Vectors

end Cert.AllToAll

end
-- ==== Proof.Waits.lean ====
/-
# The barrier waits

Waiting for the fifteen signals of the other devices, at the barrier and at the exit.
-/
module

public import proofs.«01_k».proof.Proof.Mem

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Option Own → ℕ)

omit [FloatOps F] in
/-- The second conjunct to the front. -/
theorem front2 (P Q R : sProp 𝕄) : iprop(P ∗ Q ∗ R) ⊢ iprop(Q ∗ P ∗ R) := by
  iintro ⟨H1, H2, H3⟩
  isplitl [H2]; · iexact H2
  isplitl [H1]; · iexact H1
  iexact H3
omit [FloatOps F] in
/-- The third conjunct to the front. -/
theorem front3 (P Q S R : sProp 𝕄) : iprop(P ∗ Q ∗ S ∗ R) ⊢ iprop(S ∗ P ∗ Q ∗ R) := by
  iintro ⟨H1, H2, H3, H4⟩
  isplitl [H3]; · iexact H3
  isplitl [H1]; · iexact H1
  isplitl [H2]; · iexact H2
  iexact H4
omit [FloatOps F] in
/-- The fourth conjunct to the front. -/
theorem front4 (P Q S T R : sProp 𝕄) : iprop(P ∗ Q ∗ S ∗ T ∗ R) ⊢ iprop(T ∗ P ∗ Q ∗ S ∗ R) := by
  iintro ⟨H1, H2, H3, H4, H5⟩
  isplitl [H4]; · iexact H4
  isplitl [H1]; · iexact H1
  isplitl [H2]; · iexact H2
  isplitl [H3]; · iexact H3
  iexact H5

/-- The others' duties on a barrier cell. -/
def othersD (c : Fin 16) : Finset Duty := Finset.univ.filter fun d => d.2 = 0 ∧ d.1 ≠ c
theorem othersD_card (c : Fin 16) : (othersD c).card = 15 := by
  have h : othersD c = (Finset.univ.erase c) ×ˢ {(0 : Fin 1024)} := by
    ext ⟨s, j⟩
    rw [othersD, Finset.mem_filter, Finset.mem_product, Finset.mem_erase, Finset.mem_singleton]
    exact ⟨fun h => ⟨⟨h.2.2, Finset.mem_univ _⟩, h.2.1⟩, fun h => ⟨Finset.mem_univ _, h.2, h.1.1⟩⟩
  rw [h, Finset.card_product, Finset.card_erase_of_mem (Finset.mem_univ _)]; rfl

/-- What a wait for the others takes. -/
def RegIn (q : Option Own) (c : Dev nD) : sProp 𝕄 := iprop(cred (tallyAt (kcell (c, q)) () 15) ∗ atPos ER (kcell (c, q)) 0 ∅ 0)
/-- What a wait for the others leaves. -/
def RegOut (q : Option Own) (c : Dev nD) : sProp 𝕄 := iprop(semVal (kcell (c, q)) 0 ∗ bigSep (othersD c) (payOf A c q))

set_option maxHeartbeats 1000000 in
theorem reg_wait {α : Type} {Q : α → sProp 𝕄} {R : sProp 𝕄} (q : Option Own) (sem : Sem sig) (hq : csem q = .reg sem) (ha : amtOf q = 1)
    (c : Dev nD) (hd : dutyOf A.Dt c q = othersD c) (b : ℕ) (hb : lvOf q ≤ b) {O : CellTallies nD τ sig Unit} (hO : Above b O)
    {J : Prog (TpuEff nD τ sig (Elt F) Λ₀ .tc) α}
    (h : iprop(Ctx A K ∗ Owes c O ∗ RegOut A q c ∗ R) ⊢ wpK c J Q) :
    iprop(Ctx A K ∗ SigSt A q c O 16 ∗ RegIn q c ∗ R) ⊢ wpK c (semWaitWord sem 15#32 >>= fun _ => J) Q := by
  have k₁ : kcell (c, q) = ((c : Thread nD τ), .reg sem) := by show (_, csem q) = _; rw [hq]
  have d₁ : (Rd A).duties (kcell (c, q)) 0 = othersD c := by rw [duties_eq, hd]
  have e₁ : 0 + 15 = (Rd A).expect ((c : Thread nD τ), .reg sem) 0 := by
    rw [← k₁, expect_eq, hd, othersD_card, ha]
  have o₁ : owSig q c 16 + O = O := by unfold owSig; rw [from_end, Finset.sum_empty, zero_add]
  show _ ⊢ wpK c (.op (.semWait sem 15) fun _ => J) Q
  unfold SigSt RegIn Owes
  rw [o₁]
  iintro ⟨#HC, ⟨-, ⟨%W, HO⟩⟩, ⟨Hc, Ha⟩, HR⟩
  ihave #HI := (ctx_inv A K c q) $$ HC
  iapply (Rounds.wp_wait_rest_token 𝒱₀ ER (Rd A) (c : Thread nD τ) none (κ := K (c, q))
    (wpE_semWait_eq 𝒱₀ (c : Thread nD τ) none Set.univ) (Set.mem_univ _) () (O := O) (W := W) (R := 0) (m := 0) (T := ∅)
    e₁) $$ [Hc HO Ha]
  · rw [← k₁]
    isplitr; · iexact HI
    isplitl [Hc]; · iexact Hc
    isplitl [HO]; · iexact HO
    isplitr
    · iapply (ctx_mayWait A K c (.reg sem) b hO (by rw [← k₁, lv_eq]; exact hb)); iexact HC
    iexact Ha
  rw [← k₁, Finset.sdiff_empty, d₁]
  iintro ⟨HO, Ha, -, Hp⟩
  imod (Rounds.cell_close ER (Rd A) (Set.mem_univ (K (c, q))) (fun h => h) (R := 0 + 1) (duties_later A _)) $$ [Ha] with Hz
  · isplitr; · iexact HI
    iexact Ha
  iapply h
  isplitr; · iexact HC
  isplitl [HO]
  · unfold Owes; iexists _; iexact HO
  isplitr [HR]
  · unfold RegOut
    isplitl [Hz]; · iexact Hz
    iapply (Entails.of_eq (bigSep_congr fun d _ => payload_eq A c q 0 d)); iexact Hp
  iexact HR

end Cert.AllToAll

end
-- ==== Proof.Count.lean ====
/-
# Counted loops, and counting the destinations

The rule for a counted loop with a frame, the words a loop's trips compute, and the loop that counts this device's destinations and
records the place of each row among the rows with the same destination.
-/
module

public import proofs.«01_k».proof.Proof.Waits

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Option Own → ℕ) (c : Dev nD)

/-- A counted loop with an invariant. -/
theorem for_step {α : Type} {Q : α → sProp 𝕄} {l : Scf.Loop 32} {hok : l.OK} {body : Fin l.trips → Unit → Prog (TpuEff nD τ sig (Elt F) Λ₀ .tc) Unit}
    {J : Unit → Prog (TpuEff nD τ sig (Elt F) Λ₀ .tc) α} (n : ℕ) (htr : l.trips = n) (I : ℕ → sProp 𝕄)
    (hI : ∀ k : Fin l.trips, I k.val ⊢ wpK c (body k ()) fun _ => I (k.val + 1)) (h : I n ⊢ wpK c (J ()) Q) :
    I 0 ⊢ wpK c (Scf.Loop.for l hok ⟨⟩ body >>= J) Q := by
  subst htr
  unfold wpK at *
  rw [wp_bind]
  iintro H
  iapply (Scf.wp_for Idealize.ShloMosaic.frame (wpE (defs₀ (F := F)) 𝒱₀ (c : Thread nD τ) none) Set.univ l.lb l.ub l.st hok () body (fun k _ => I k) fun k _ => hI k)
  isplitl [H]; · iexact H
  iintro %acc H
  iapply h
  iexact H

/-- A loop without trips. -/
theorem for_none {α : Type} {P : sProp 𝕄} {Q : α → sProp 𝕄} {l : Scf.Loop 32} {hok : l.OK} {body : Fin l.trips → Unit → Prog (TpuEff nD τ sig (Elt F) Λ₀ .tc) Unit}
    {J : Unit → Prog (TpuEff nD τ sig (Elt F) Λ₀ .tc) α} (htr : l.trips = 0) (h : P ⊢ wpK c (J ()) Q) :
    P ⊢ wpK c (Scf.Loop.for l hok ⟨⟩ body >>= J) Q :=
  for_step c 0 htr (fun _ => P) (fun k => absurd k.isLt (by omega)) h

/-- A checked condition that holds. -/
theorem asm_step {α : Type} {P : sProp 𝕄} {Q : α → sProp 𝕄} {φ : Prop} {d : Decidable φ} (hφ : φ) {J : PLift φ → Prog (TpuEff nD τ sig (Elt F) Λ₀ .tc) α}
    (h : P ⊢ wpK c (J ⟨hφ⟩) Q) : P ⊢ wpK c (Prog.lift (TpuEff.assume φ d) >>= J) Q :=
  h.trans (Entails.of_eq (wp_assume_of (defs := defs₀ (F := F)) 𝒱₀ (c : Thread nD τ) none Set.univ (k := J) (Q := Q) hφ).symm)

/-! ## Words -/

theorem toNat_dev : ∀ p : Fin 16, (BitVec.ofNat 32 p.val).toNat = p.val := by decide
theorem toNat_small {n : ℕ} (h : n ≤ 1024) : (BitVec.ofNat 32 n).toNat = n := by
  rw [BitVec.toNat_ofNat]; exact Nat.mod_eq_of_lt (by omega)
theorem iv_toNat {k : ℕ} (h : k ≤ 1024) : (Scf.iv 0#32 1#32 k).toNat = k := by
  unfold Scf.iv; rw [BitVec.mul_one, BitVec.zero_add]; exact toNat_small h
theorem off_iv {k : ℕ} (h : k ≤ 1024) : (![(Scf.iv 0#32 1#32 k).toNat] : Fin 1 → ℕ) = ![k] := by rw [iv_toNat h]
theorem off_dev (p : Fin 16) : (![(BitVec.ofNat 32 p.val).toNat] : Fin 1 → ℕ) = ![p.val] := by rw [toNat_dev]
theorem trips_t1 : k0_t1_loop.trips = 1024 := by decide +kernel
theorem chk1_dev : ∀ p : Fin 16, k0_chk1 (BitVec.ofNat 32 p.val) := by decide +kernel

/-! ## Counting -/

/-- The destinations as words. -/
def Inp.D (c : Dev nD) : S1024.Idx → Elt F .i32 := fun i => BitVec.ofNat 32 (A.Dt c (at1 i)).val
theorem dstg_eq : dstg A.m c = A.D c := by
  funext i
  have h := A.words c (at1 i)
  rw [ix1_at1] at h
  exact h
/-- The count vector after the first `k` rows. -/
def Inp.MCk (c : Dev nD) (k : ℕ) : S16.Idx → Elt F .i32 := fun i => BitVec.ofNat 32 (cntTo A.Dt c (at1 i) k)
/-- The place of each row among the rows with the same destination. -/
def Inp.RK (c : Dev nD) : S1024.Idx → Elt F .i32 := fun i => BitVec.ofNat 32 (rank A.Dt c (at1 i))

theorem MCk_zero : A.MCk c 0 = fun _ => 0#32 := by
  funext i; unfold Inp.MCk; rw [cntTo_zero]
theorem MCk_all : A.MCk c 1024 = A.MC c := by
  funext i; unfold Inp.MCk Inp.MC; rw [cntTo_all]
theorem MCk_succ (k : Fin 1024) : Function.update (A.MCk c k.val) (ix1 (A.Dt c k)) (Scalar.addi (A.MCk c k.val (ix1 (A.Dt c k))) 1#32) = A.MCk c (k.val + 1) := by
  funext x
  by_cases hx : x = ix1 (A.Dt c k)
  · subst hx
    rw [Function.update_self]
    show BitVec.ofNat 32 (cntTo A.Dt c (A.Dt c k) k.val) + 1#32 = BitVec.ofNat 32 (cntTo A.Dt c (A.Dt c k) (k.val + 1))
    rw [cntTo_succ, if_pos rfl, BitVec.ofNat_add]
  · rw [Function.update_of_ne hx]
    show BitVec.ofNat 32 (cntTo A.Dt c (at1 x) k.val) = BitVec.ofNat 32 (cntTo A.Dt c (at1 x) (k.val + 1))
    rw [cntTo_succ, if_neg fun e => hx (by rw [e, ix1_at1]), Nat.add_zero]

abbrev body1 := k0_t1_body (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0

/-- The state before trip `k` of the counting loop. -/
def CountSt (q : PosShare TreeShare) (g : S1024.Idx → Elt F .i32) (R : sProp 𝕄) (k : ℕ) : sProp 𝕄 :=
  iprop(((ℓd c) ↦[Finset.univ]{q} A.D c) ∗ ((ℓc c) ↦[Finset.univ]{fullShare} A.MCk c k) ∗ ((ℓr c) ↦[Finset.univ]{fullShare} fill1 k (A.RK c) g) ∗ R)

theorem count_trip (q : PosShare TreeShare) (g : S1024.Idx → Elt F .i32) (R : sProp 𝕄) (v w : BitVec 32) (k : Fin k0_t1_loop.trips) :
    CountSt A c q g R k.val ⊢ wpK c (body1 (F := F) v w k ()) fun _ => CountSt A c q g R (k.val + 1) := by
  have hk : k.val < 1024 := by exact lt_of_lt_of_eq k.isLt trips_t1
  have ho : (k0_off1 k) = ![k.val] := off_iv hk.le
  have ho' : (k0_off3 k) = ![k.val] := off_iv hk.le
  unfold CountSt body1 k0_t1_body
  refine get_d c ⟨k.val, hk⟩ ho ?_
  have hd : A.D c (ix1 ⟨k.val, hk⟩) = BitVec.ofNat 32 (A.Dt c ⟨k.val, hk⟩).val := rfl
  have ho2 : k0_off2 (A.D c (ix1 ⟨k.val, hk⟩)) = ![(A.Dt c ⟨k.val, hk⟩).val] := off_dev _
  refine asm_step c (by rw [hd]; exact chk1_dev _) ?_
  refine (front2 _ _ _).trans ?_
  refine get_c c (A.Dt c ⟨k.val, hk⟩) ho2 ?_
  refine (front3 _ _ _ _).trans ?_
  refine get_r c ⟨k.val, hk⟩ ho' ?_
  refine put_r c ⟨k.val, hk⟩ (fill1_succ (F := F) ⟨k.val, hk⟩ _ _ rfl) ho' ?_
  refine (front2 _ _ _).trans ?_
  refine get_c c (A.Dt c ⟨k.val, hk⟩) ho2 ?_
  refine get_c c (A.Dt c ⟨k.val, hk⟩) ho2 ?_
  refine put_c c (A.Dt c ⟨k.val, hk⟩) (MCk_succ A c ⟨k.val, hk⟩) ho2 ?_
  refine ret_step c ?_
  iintro ⟨H1, H2, H3, H4⟩
  isplitl [H3]; · iexact H3
  isplitl [H1]; · iexact H1
  isplitl [H2]; · iexact H2
  iexact H4

set_option maxHeartbeats 4000000 in
/-- The rest of the zeros of the count vector, then the counting loop: the count vector and the ranks are this device's. -/
theorem part7_spec {Q : Elt F .i32 → sProp 𝕄} {R : sProp 𝕄} {q : PosShare TreeShare} {f : S16.Idx → Elt F .i32} {g : S1024.Idx → Elt F .i32}
    (h : iprop(((ℓc c) ↦[Finset.univ]{fullShare} A.MC c) ∗ ((ℓd c) ↦[Finset.univ]{q} A.D c) ∗ ((ℓr c) ↦[Finset.univ]{fullShare} A.RK c) ∗ R) ⊢ Q (A.MC c (ix1 0))) :
    iprop(((ℓc c) ↦[Finset.univ]{fullShare} fill1 (F := F) 3 (fun _ => 0#32) f) ∗ ((ℓd c) ↦[Finset.univ]{q} A.D c) ∗ ((ℓr c) ↦[Finset.univ]{fullShare} g) ∗ R)
      ⊢ wpK c (k0_part7 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 (me c) 0#32) Q := by
  rw [k0_part7_eq_skeleton]
  unfold k0_part7_skel
  refine zero_c c 3 rfl ?_
  refine zero_c c 4 rfl ?_
  refine zero_c c 5 rfl ?_
  refine zero_c c 6 rfl ?_
  refine zero_c c 7 rfl ?_
  refine zero_c c 8 rfl ?_
  refine zero_c c 9 rfl ?_
  refine zero_c c 10 rfl ?_
  refine zero_c c 11 rfl ?_
  refine zero_c c 12 rfl ?_
  refine zero_c c 13 rfl ?_
  refine zero_c c 14 rfl ?_
  refine zero_c c 15 rfl ?_
  refine (front2 _ _ _).trans ?_
  refine (Entails.of_eq ?_).trans (for_step c 1024 trips_t1 (CountSt A c q g R) (fun k => count_trip A c q g R (me c) 0#32 k) ?_)
  · unfold CountSt
    rw [fill1_zero, MCk_zero, show ((15 : Fin 16).val + 1) = 16 from rfl, fill1_all]
  unfold CountSt
  rw [fill1_all, MCk_all]
  refine (front2 _ _ _).trans ?_
  refine get_c c 0 rfl ?_
  exact ret_step c h

end Cert.AllToAll

end
-- ==== Proof.Base.lean ====
/-
# Where this device's rows start at each destination

The base vector: for each destination, how many rows the devices before this one send there.
-/
module

public import proofs.«01_k».proof.Proof.Count

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Option Own → ℕ) (c : Dev nD)

/-- For each destination, how many rows the devices before `k` send there. -/
def Inp.BS (k : ℕ) : S16.Idx → Elt F .i32 := fun i => BitVec.ofNat 32 (baseTo A.Dt k (at1 i))
theorem BS_zero : A.BS 0 = fun _ => 0#32 := by
  funext i; unfold Inp.BS; rw [baseTo_zero]
/-- The word the loop stores for destination `d` in trip `s`. -/
theorem base_word (s d : Fin 16) : Scalar.addi (fill1 (F := F) d.val (A.BS (s.val + 1)) (A.BS s.val) (ix1 d)) (A.CA (ix2 s d)) = A.BS (s.val + 1) (ix1 d) := by
  have h : fill1 (F := F) d.val (A.BS (s.val + 1)) (A.BS s.val) (ix1 d) = A.BS s.val (ix1 d) := if_neg (Nat.lt_irrefl _)
  rw [h]
  show BitVec.ofNat 32 (baseTo A.Dt s.val d) + BitVec.ofNat 32 (cnt A.Dt s d) = BitVec.ofNat 32 (baseTo A.Dt (s.val + 1) d)
  rw [baseTo_succ, BitVec.ofNat_add]

theorem trips_t2 : ∀ c : Dev nD, (k0_t2_loop c).trips = c.val := by decide +kernel
theorem trips_t3 : ∀ c : Dev nD, (k0_t3_loop c).trips = 0 := by decide +kernel
theorem off_tab {k : ℕ} {s : Fin 16} (d : ℕ) (hs : k = s.val) : (![(Scalar.indexCast (Scf.iv 0#32 1#32 k)).toNat, d] : Fin 2 → ℕ) = ![s.val, d] := by
  have h : (Scalar.indexCast (Scf.iv 0#32 1#32 k)).toNat = s.val := (iv_toNat (by omega)).trans hs
  rw [h]

set_option maxHeartbeats 4000000 in
/-- Destinations 0 to 5 of one trip. -/
theorem part1_spec {Q : (Σ' (arg12 : BitVec 32) (v363 : Elt F .i32), Elt F .i32) → sProp 𝕄} {R : sProp 𝕄} (s : Fin 16) (k : Fin (k0_t2_loop c).trips) (hs : k.val = s.val)
    (h : iprop(((ℓb c) ↦[Finset.univ]{fullShare} fill1 (F := F) 6 (A.BS (s.val + 1)) (A.BS s.val)) ∗ ((ℓt c) ↦[Finset.univ]{fullShare} A.CA) ∗ R)
      ⊢ Q ⟨Scf.iv 0#32 1#32 k, fill1 (F := F) 6 (A.BS (s.val + 1)) (A.BS s.val) (ix1 6), A.CA (ix2 s 6)⟩) :
    iprop(((ℓb c) ↦[Finset.univ]{fullShare} fill1 (F := F) 0 (A.BS (s.val + 1)) (A.BS s.val)) ∗ ((ℓt c) ↦[Finset.univ]{fullShare} A.CA) ∗ R)
      ⊢ wpK c (k0_part1 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c 0#32 1#32 k) Q := by
  rw [k0_part1_eq_skeleton]
  unfold k0_part1_skel
  refine get_b c 0 rfl ?_
  refine (front2 _ _ _).trans ?_
  refine get_t c s 0 (Finset.mem_univ _) (off_tab 0 hs) ?_
  refine (front2 _ _ _).trans ?_
  refine get_b c 0 rfl ?_
  refine put_b c 0 (fill1_succ (F := F) 0 _ _ (base_word A s 0)) rfl ?_
  refine get_b c 1 rfl ?_
  refine (front2 _ _ _).trans ?_
  refine get_t c s 1 (Finset.mem_univ _) (off_tab 1 hs) ?_
  refine (front2 _ _ _).trans ?_
  refine get_b c 1 rfl ?_
  refine put_b c 1 (fill1_succ (F := F) 1 _ _ (base_word A s 1)) rfl ?_
  refine get_b c 2 rfl ?_
  refine (front2 _ _ _).trans ?_
  refine get_t c s 2 (Finset.mem_univ _) (off_tab 2 hs) ?_
  refine (front2 _ _ _).trans ?_
  refine get_b c 2 rfl ?_
  refine put_b c 2 (fill1_succ (F := F) 2 _ _ (base_word A s 2)) rfl ?_
  refine get_b c 3 rfl ?_
  refine (front2 _ _ _).trans ?_
  refine get_t c s 3 (Finset.mem_univ _) (off_tab 3 hs) ?_
  refine (front2 _ _ _).trans ?_
  refine get_b c 3 rfl ?_
  refine put_b c 3 (fill1_succ (F := F) 3 _ _ (base_word A s 3)) rfl ?_
  refine get_b c 4 rfl ?_
  refine (front2 _ _ _).trans ?_
  refine get_t c s 4 (Finset.mem_univ _) (off_tab 4 hs) ?_
  refine (front2 _ _ _).trans ?_
  refine get_b c 4 rfl ?_
  refine put_b c 4 (fill1_succ (F := F) 4 _ _ (base_word A s 4)) rfl ?_
  refine get_b c 5 rfl ?_
  refine (front2 _ _ _).trans ?_
  refine get_t c s 5 (Finset.mem_univ _) (off_tab 5 hs) ?_
  refine (front2 _ _ _).trans ?_
  refine get_b c 5 rfl ?_
  refine put_b c 5 (fill1_succ (F := F) 5 _ _ (base_word A s 5)) rfl ?_
  refine get_b c 6 rfl ?_
  refine (front2 _ _ _).trans ?_
  refine get_t c s 6 (Finset.mem_univ _) (off_tab 6 hs) ?_
  refine (front2 _ _ _).trans ?_
  exact ret_step c h

set_option maxHeartbeats 4000000 in
/-- Destinations 6 to 12 of one trip. -/
theorem part2_spec {Q : Elt F .i32 → sProp 𝕄} {R : sProp 𝕄} (s : Fin 16) (k : Fin (k0_t2_loop c).trips) (hs : k.val = s.val) (w : BitVec 32)
    (h : iprop(((ℓb c) ↦[Finset.univ]{fullShare} fill1 (F := F) 13 (A.BS (s.val + 1)) (A.BS s.val)) ∗ ((ℓt c) ↦[Finset.univ]{fullShare} A.CA) ∗ R)
      ⊢ Q (fill1 (F := F) 13 (A.BS (s.val + 1)) (A.BS s.val) (ix1 13))) :
    iprop(((ℓb c) ↦[Finset.univ]{fullShare} fill1 (F := F) 6 (A.BS (s.val + 1)) (A.BS s.val)) ∗ ((ℓt c) ↦[Finset.univ]{fullShare} A.CA) ∗ R)
      ⊢ wpK c (k0_part2 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c k w (fill1 (F := F) 6 (A.BS (s.val + 1)) (A.BS s.val) (ix1 6)) (A.CA (ix2 s 6))) Q := by
  rw [k0_part2_eq_skeleton]
  unfold k0_part2_skel
  refine get_b c 6 rfl ?_
  refine put_b c 6 (fill1_succ (F := F) 6 _ _ (base_word A s 6)) rfl ?_
  refine get_b c 7 rfl ?_
  refine (front2 _ _ _).trans ?_
  refine get_t c s 7 (Finset.mem_univ _) (off_tab 7 hs) ?_
  refine (front2 _ _ _).trans ?_
  refine get_b c 7 rfl ?_
  refine put_b c 7 (fill1_succ (F := F) 7 _ _ (base_word A s 7)) rfl ?_
  refine get_b c 8 rfl ?_
  refine (front2 _ _ _).trans ?_
  refine get_t c s 8 (Finset.mem_univ _) (off_tab 8 hs) ?_
  refine (front2 _ _ _).trans ?_
  refine get_b c 8 rfl ?_
  refine put_b c 8 (fill1_succ (F := F) 8 _ _ (base_word A s 8)) rfl ?_
  refine get_b c 9 rfl ?_
  refine (front2 _ _ _).trans ?_
  refine get_t c s 9 (Finset.mem_univ _) (off_tab 9 hs) ?_
  refine (front2 _ _ _).trans ?_
  refine get_b c 9 rfl ?_
  refine put_b c 9 (fill1_succ (F := F) 9 _ _ (base_word A s 9)) rfl ?_
  refine get_b c 10 rfl ?_
  refine (front2 _ _ _).trans ?_
  refine get_t c s 10 (Finset.mem_univ _) (off_tab 10 hs) ?_
  refine (front2 _ _ _).trans ?_
  refine get_b c 10 rfl ?_
  refine put_b c 10 (fill1_succ (F := F) 10 _ _ (base_word A s 10)) rfl ?_
  refine get_b c 11 rfl ?_
  refine (front2 _ _ _).trans ?_
  refine get_t c s 11 (Finset.mem_univ _) (off_tab 11 hs) ?_
  refine (front2 _ _ _).trans ?_
  refine get_b c 11 rfl ?_
  refine put_b c 11 (fill1_succ (F := F) 11 _ _ (base_word A s 11)) rfl ?_
  refine get_b c 12 rfl ?_
  refine (front2 _ _ _).trans ?_
  refine get_t c s 12 (Finset.mem_univ _) (off_tab 12 hs) ?_
  refine (front2 _ _ _).trans ?_
  refine get_b c 12 rfl ?_
  refine put_b c 12 (fill1_succ (F := F) 12 _ _ (base_word A s 12)) rfl ?_
  refine get_b (J := .ret) (hp := rfl) (h1 := numel1_S1) c 13 rfl ?_
  exact ret_step c h

abbrev body2 := k0_t2_body (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0

/-- The state before trip `k` of the loop over the devices before this one. -/
def BaseSt (R : sProp 𝕄) (k : ℕ) : sProp 𝕄 := iprop(((ℓb c) ↦[Finset.univ]{fullShare} A.BS k) ∗ ((ℓt c) ↦[Finset.univ]{fullShare} A.CA) ∗ R)

set_option maxHeartbeats 4000000 in
theorem base_trip (R : sProp 𝕄) (v : BitVec 32) (k : Fin (k0_t2_loop c).trips) :
    BaseSt A c R k.val ⊢ wpK c (body2 (F := F) c v k ()) fun _ => BaseSt A c R (k.val + 1) := by
  have hk : k.val < c.val := lt_of_lt_of_eq k.isLt (trips_t2 c)
  obtain ⟨s, hs⟩ : ∃ s : Fin 16, k.val = s.val := ⟨⟨k.val, lt_trans hk c.isLt⟩, rfl⟩
  unfold BaseSt body2 k0_t2_body
  rw [hs, ← fill1_zero (F := F) (A.BS (s.val + 1)) (A.BS s.val)]
  unfold wpK
  rw [wp_bind]
  refine part1_spec A c s k hs ?_
  rw [wp_bind]
  refine part2_spec A c s k hs _ ?_
  refine (front2 _ _ _).trans ?_
  refine get_t c s 13 (Finset.mem_univ _) (off_tab 13 hs) ?_
  refine (front2 _ _ _).trans ?_
  refine get_b c 13 rfl ?_
  refine put_b c 13 (fill1_succ (F := F) 13 _ _ (base_word A s 13)) rfl ?_
  refine get_b c 14 rfl ?_
  refine (front2 _ _ _).trans ?_
  refine get_t c s 14 (Finset.mem_univ _) (off_tab 14 hs) ?_
  refine (front2 _ _ _).trans ?_
  refine get_b c 14 rfl ?_
  refine put_b c 14 (fill1_succ (F := F) 14 _ _ (base_word A s 14)) rfl ?_
  refine get_b c 15 rfl ?_
  refine (front2 _ _ _).trans ?_
  refine get_t c s 15 (Finset.mem_univ _) (off_tab 15 hs) ?_
  refine (front2 _ _ _).trans ?_
  refine get_b c 15 rfl ?_
  refine put_b c 15 (fill1_succ (F := F) 15 _ _ (base_word A s 15)) rfl ?_
  refine ret_step c ?_
  rw [show ((15 : Fin 16).val + 1) = 16 from rfl, fill1_all]

set_option maxHeartbeats 4000000 in
/-- The rest of the zeros of the base vector, then the loop: the base vector is this device's. -/
theorem part13_spec {Q : PUnit → sProp 𝕄} {R : sProp 𝕄} {f : S16.Idx → Elt F .i32}
    (h : iprop(((ℓb c) ↦[Finset.univ]{fullShare} A.BS c.val) ∗ ((ℓt c) ↦[Finset.univ]{fullShare} A.CA) ∗ R) ⊢ Q ⟨⟩) :
    iprop(((ℓb c) ↦[Finset.univ]{fullShare} fill1 (F := F) 4 (fun _ => 0#32) f) ∗ ((ℓt c) ↦[Finset.univ]{fullShare} A.CA) ∗ R)
      ⊢ wpK c (k0_part13 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c)) Q := by
  rw [k0_part13_eq_skeleton]
  unfold k0_part13_skel
  refine zero_b c 4 rfl ?_
  refine zero_b c 5 rfl ?_
  refine zero_b c 6 rfl ?_
  refine zero_b c 7 rfl ?_
  refine zero_b c 8 rfl ?_
  refine zero_b c 9 rfl ?_
  refine zero_b c 10 rfl ?_
  refine zero_b c 11 rfl ?_
  refine zero_b c 12 rfl ?_
  refine zero_b c 13 rfl ?_
  refine zero_b c 14 rfl ?_
  refine zero_b c 15 rfl ?_
  refine (Entails.of_eq ?_).trans (for_step c c.val (trips_t2 c) (BaseSt A c R) (fun k => base_trip A c R (me c) k) ?_)
  · unfold BaseSt
    rw [BS_zero, show ((15 : Fin 16).val + 1) = 16 from rfl, fill1_all]
  refine for_none c (trips_t3 c) ?_
  unfold BaseSt
  exact ret_step c h

end Cert.AllToAll

end
-- ==== Proof.Rows.lean ====
/-
# Sending the rows

Row by row: a copy within the device where the row stays here, a copy to the destination device otherwise.
-/
module

public import proofs.«01_k».proof.Proof.Base

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Option Own → ℕ) (c : Dev nD)

/-- The fifth conjunct to the front. -/
theorem front5 (P Q S T U R : sProp 𝕄) : iprop(P ∗ Q ∗ S ∗ T ∗ U ∗ R) ⊢ iprop(U ∗ P ∗ Q ∗ S ∗ T ∗ R) := by
  iintro ⟨H1, H2, H3, H4, H5, H6⟩
  isplitl [H5]; · iexact H5
  isplitl [H1]; · iexact H1
  isplitl [H2]; · iexact H2
  isplitl [H3]; · iexact H3
  isplitl [H4]; · iexact H4
  iexact H6
theorem rot_send (P Q S T U R : sProp 𝕄) : iprop(P ∗ Q ∗ S ∗ T ∗ U ∗ R) ⊢ iprop(T ∗ U ∗ S ∗ Q ∗ P ∗ R) := by
  iintro ⟨H1, H2, H3, H4, H5, H6⟩
  isplitl [H4]; · iexact H4
  isplitl [H5]; · iexact H5
  isplitl [H3]; · iexact H3
  isplitl [H2]; · iexact H2
  isplitl [H1]; · iexact H1
  iexact H6

/-- What sending row `j` of device `c` to another device takes. -/
def sendItem (j : Fin 1024) : sProp 𝕄 :=
  iprop(xRow c j (A.X c) ∗ (∃ f, oRow (A.Dt c j) (A.at c j) f) ∗ dutyTok ER (kcell (c, some .ds)) 0 (c, j) ∗ dutyTok ER (kcell (A.Dt c j, some .dr)) 0 (c, j))
/-- What copying row `j` within device `c` takes. -/
def locItem (j : Fin 1024) : sProp 𝕄 :=
  iprop(xRow c j (A.X c) ∗ (∃ f, oRow c (A.at c j) f) ∗ dutyTok ER (kcell (c, some .lo)) 0 (c, j))
/-- Before local copy `a` and send `b`. -/
def RowSt (O : CellTallies nD τ sig Unit) (a b : ℕ) : sProp 𝕄 :=
  iprop(bigSep (from' (n := 1024) a fun j => A.Dt c j = c) (locItem A c)
    ∗ bigSep (upto (n := 1024) a fun j => A.Dt c j = c) (fun _ => cred (tallyAt (kcell (c, some .lo)) () NR))
    ∗ bigSep (from' (n := 1024) b fun j => A.Dt c j ≠ c) (sendItem A c)
    ∗ bigSep (upto (n := 1024) b fun j => A.Dt c j ≠ c) (fun _ => cred (tallyAt (kcell (c, some .ds)) () NR))
    ∗ Owes c (owRow A c b + O))

theorem owRow_succ (j : Fin 1024) (h : A.Dt c j ≠ c) : owRow A c j.val = owRow A c (j.val + 1) + tallyAt (kcell (A.Dt c j, some .dr)) () NR := by
  unfold owRow; rw [from_succ (n := 1024) j _ h, Finset.sum_insert (not_mem_from_succ _ _), add_comm]

/-- On the row where row `j` of device `c` lands, the result is row `j` of device `c`. -/
theorem OA_at (j : Fin 1024) (x : S1024x512.Idx) (hx : x ∈ rowSet (n := 1024) (p := 512) (A.at c j)) : A.OA (A.Dt c j) x = A.X c (ix2 j (colOf x)) := by
  have e : src A.bal (A.Dt c j) (rowOf x) = (c, j) := by
    rw [mem_rowSet.mp hx]; exact src_place A.bal c j
  show A.X (src A.bal (A.Dt c j) (rowOf x)).1 (ix2 (src A.bal (A.Dt c j) (rowOf x)).2 (colOf x)) = _
  rw [e]

/-- The copy of row `j` within the device, if it stays. -/
theorem loc_step {α : Type} {Q : α → sProp 𝕄} {R : sProp 𝕄} (j : Fin 1024) (b : ℕ) {O : CellTallies nD τ sig Unit} {cond : BitVec 1}
    (hc : cond = 1#1 ↔ A.Dt c j = c)
    {s : DmaSem sig} (hs : SemLoc.dma s = osem .lo)
    {off off' : Fin 2 → ℕ} {inb : cond = 1#1 → ∀ a, off a + S1x512.size a ≤ S1024x512.size a} {inb' : ∀ a, off' a + S1x512.size a ≤ S1024x512.size a}
    (ho : off = ![(A.at c j).val, 0]) (ho' : off' = ![j.val, 0])
    {hw : (vrow Mx off' inb').view.WordExact} {hw' : ∀ h, (vrow Mo off (inb h)).view.WordExact}
    {ht : ∀ h, DmaTarget.Typed (nD := nD) (τ := τ) (p := .tc) .vmem (.dma s) (.here (vrow Mo off (inb h)))}
    {J : Prog (TpuEff nD τ sig (Elt F) Λ₀ .tc) α}
    (h : iprop(Ctx A K ∗ RowSt A c O (j.val + 1) b ∗ R) ⊢ wpK c J Q) :
    iprop(Ctx A K ∗ RowSt A c O j.val b ∗ R)
      ⊢ wpK c (if h : cond = 1#1 then (Prog.lift (.enqueueDma (vrow Mx off' inb') (.here (vrow Mo off (inb h))) (.dma s) hw (hw' h) (ht h)) >>= fun _ => J) else J) Q := by
  by_cases hp : cond = 1#1
  · rw [dif_pos hp]
    have he : A.Dt c j = c := hc.mp hp
    have k₁ : kcell (c, some .lo) = ((c : Thread nD τ), .dma s) := by rw [hs]; rfl
    show _ ⊢ wpK c (.op (.enqueueDma (vrow Mx off' inb') (.here (vrow Mo off (inb hp))) (.dma s) hw (hw' hp) (ht hp)) fun _ => J) Q
    unfold RowSt
    iintro ⟨#HC, ⟨HS, HD, HL⟩, HR⟩
    ihave HS := (Entails.of_eq (sep_from (n := 1024) j (fun j => A.Dt c j = c) he (locItem A c))) $$ HS
    icases HS with ⟨Hi, HS⟩
    unfold locItem
    icases Hi with ⟨Hx, ⟨%f, Hy⟩, Ht⟩
    ihave #HI := (ctx_inv A K c (some .lo)) $$ HC
    ihave #Hr := (ctx_reached A K c (some .lo)) $$ HC
    iapply (Rounds.wp_copy_pointsTo 𝒱₀ ER (Rd A) (c : Thread nD τ) none (src := vrow Mx off' inb') (dst := vrow Mo off (inb hp)) (sem := .dma s)
      (fs := A.X c) (fd := f) (q := fullShare) (κ := K (c, some .lo)) (r := 0) (d := (c, j))
      (by rw [← k₁, duties_eq]; simp [dutyOf, he]) () NR (vrow_amount_o _) (by rw [← k₁, amount_eq]; rfl)
      (by
        rw [← k₁, payload_eq]
        show iprop(((ℓo c) ↦[(vrow Mo off (inb hp)).view.set]{fullShare} _) ∗ ((ℓx c) ↦[(vrow Mx off' inb').view.set]{fullShare} _)) ⊢ iprop(xRow c j (A.X c) ∗ oRow c (A.at c j) (A.OA c))
        unfold xRow oRow
        rw [vrow_set_o (A.at c j) ho, vrow_set_x j ho']
        iintro ⟨Ho, Hx⟩
        isplitl [Hx]; · iexact Hx
        refine Entails.of_eq (pointsTo_congr fun x hx => ?_)
        rw [vrow_write (A.at c j) ho _ _ x hx, vrow_read j ho', colOf_ix2, ← OA_at A c j x hx, he])) $$ [Hx Hy Ht]
    · rw [← k₁]
      isplitr; · iexact HI
      isplitl [Hx]; · unfold xRow; rw [vrow_set_x j ho']; iexact Hx
      isplitl [Hy]; · unfold oRow; rw [vrow_set_o (A.at c j) ho]; iexact Hy
      isplitl [Ht]; · iexact Ht
      iexact Hr
    iintro Hcr
    iapply h
    isplitr; · iexact HC
    isplitl [HS HD HL Hcr]
    · unfold RowSt
      isplitl [HS]; · iexact HS
      isplitl [HD Hcr]
      · rw [sep_upto (n := 1024) j (fun j => A.Dt c j = c) he]
        isplitl [Hcr]; · rw [k₁]; iexact Hcr
        iexact HD
      iexact HL
    iexact HR
  · rw [dif_neg hp]
    have hne : ¬ A.Dt c j = c := fun h' => hp (hc.mpr h')
    refine (Entails.of_eq ?_).trans h
    unfold RowSt; rw [from_succ_neg (n := 1024) j (fun j => A.Dt c j = c) hne, upto_succ_neg (n := 1024) j (fun j => A.Dt c j = c) hne]

/-- The copy of row `j` to its destination, if that is another device. -/
theorem send_step {α : Type} {Q : α → sProp 𝕄} {R : sProp 𝕄} (j : Fin 1024) (a : ℕ) {O : CellTallies nD τ sig Unit} {cond : BitVec 1}
    (hc : cond = 1#1 ↔ A.Dt c j ≠ c) {n : ℕ} (hn : cond = 1#1 → n < 16) (hnp : n = (A.Dt c j).val)
    {s₁ s₂ : DmaSem sig} (hs₁ : SemLoc.dma s₁ = osem .ds) (hs₂ : SemLoc.dma s₂ = osem .dr)
    {off off' : Fin 2 → ℕ} {inb : cond = 1#1 → ∀ a, off a + S1x512.size a ≤ S1024x512.size a} {inb' : ∀ a, off' a + S1x512.size a ≤ S1024x512.size a}
    (ho : off = ![(A.at c j).val, 0]) (ho' : off' = ![j.val, 0])
    {hw : (vrow Mx off' inb').view.WordExact} {hw' : ∀ h, (vrow Mo off (inb h)).view.WordExact} {hsc : ∀ h, (vrow Mo off (inb h)).view.ref.isScScratch = false}
    {ht : ∀ h, DmaTarget.Typed (nD := nD) (τ := τ) (p := .tc) .vmem (.dma s₂) (.remote (Dev.tc (⟨n, hn h⟩ : Dev nD)) (vrow Mo off (inb h)) (.dma s₁) (hsc h))}
    {J : Prog (TpuEff nD τ sig (Elt F) Λ₀ .tc) α}
    (h : iprop(Ctx A K ∗ RowSt A c O a (j.val + 1) ∗ R) ⊢ wpK c J Q) :
    iprop(Ctx A K ∗ RowSt A c O a j.val ∗ R)
      ⊢ wpK c (if h : cond = 1#1 then (Prog.lift (.enqueueDma (vrow Mx off' inb') (.remote (Dev.tc (⟨n, hn h⟩ : Dev nD)) (vrow Mo off (inb h)) (.dma s₁) (hsc h)) (.dma s₂) hw (hw' h) (ht h)) >>= fun _ => J) else J) Q := by
  subst hnp
  by_cases hp : cond = 1#1
  · rw [dif_pos hp]
    have hne : A.Dt c j ≠ c := hc.mp hp
    have k₁ : kcell (c, some .ds) = ((c : Thread nD τ), .dma s₁) := by rw [hs₁]; rfl
    have k₂ : kcell (A.Dt c j, some .dr) = ((A.Dt c j : Thread nD τ), .dma s₂) := by rw [hs₂]; rfl
    show _ ⊢ wpK c (.op (.enqueueDma (vrow Mx off' inb') (.remote ((A.Dt c j : Dev nD) : Thread nD τ) (vrow Mo off (inb hp)) (.dma s₁) (hsc hp)) (.dma s₂) hw (hw' hp) (ht hp)) fun _ => J) Q
    unfold RowSt Owes
    iintro ⟨#HC, ⟨HL₁, HL₂, HS, HD, ⟨%W, HO⟩⟩, HR⟩
    ihave HS := (Entails.of_eq (sep_from (n := 1024) j (fun j => A.Dt c j ≠ c) hne (sendItem A c))) $$ HS
    icases HS with ⟨Hi, HS⟩
    unfold sendItem
    icases Hi with ⟨Hx, ⟨%f, Hy⟩, Ht₁, Ht₂⟩
    ihave #HI₁ := (ctx_inv A K c (some .ds)) $$ HC
    ihave #Hr₁ := (ctx_reached A K c (some .ds)) $$ HC
    ihave #HI₂ := (ctx_inv A K (A.Dt c j) (some .dr)) $$ HC
    ihave #Hr₂ := (ctx_reached A K (A.Dt c j) (some .dr)) $$ HC
    iapply (Rounds.wp_send_pointsTo 𝒱₀ ER (Rd A) (c : Thread nD τ) none (c' := (A.Dt c j : Thread nD τ)) (src := vrow Mx off' inb') (dst := vrow Mo off (inb hp))
      (sS := .dma s₁) (sem := .dma s₂) (fs := A.X c) (fd := f) (q := fullShare)
      (κ₁ := K (c, some .ds)) (κ₂ := K (A.Dt c j, some .dr)) (r₁ := 0) (r₂ := 0) (d₁ := (c, j)) (d₂ := (c, j))
      (O₀ := owRow A c j.val + O)
      (by rw [← k₁, duties_eq]; simp [dutyOf, hne]) (by rw [← k₂, duties_eq]; simp [dutyOf]; exact fun e => hne e.symm) () () NR (vrow_amount_o _)
      (by rw [← k₁, amount_eq]; rfl) (by rw [← k₂, amount_eq]; rfl) (owRow A c (j.val + 1) + O)
      (by rw [owRow_succ A c j hne, k₂, add_right_comm])
      (by
        rw [← k₁, payload_eq]
        show _ ⊢ xRow c j (A.X c)
        unfold xRow
        rw [vrow_set_x j ho'])
      (by
        rw [← k₂, payload_eq]
        show ((ℓo (A.Dt c j)) ↦[(vrow Mo off (inb hp)).view.set]{fullShare} _) ⊢ oRow (A.Dt c j) (A.at c j) (A.OA (A.Dt c j))
        unfold oRow
        rw [vrow_set_o (A.at c j) ho]
        refine Entails.of_eq (pointsTo_congr fun x hx => ?_)
        rw [vrow_write (A.at c j) ho _ _ x hx, vrow_read j ho', colOf_ix2, ← OA_at A c j x hx])) $$ [Hx Ht₁ Ht₂ Hy HO]
    · rw [← k₁, ← k₂]
      isplitr; · iexact HI₁
      isplitr; · iexact HI₂
      isplitl [Hx]; · unfold xRow; rw [vrow_set_x j ho']; iexact Hx
      isplitl [Hy]; · unfold oRow; rw [vrow_set_o (A.at c j) ho]; iexact Hy
      isplitl [HO]; · iexact HO
      isplitl [Ht₁]; · iexact Ht₁
      isplitr; · iexact Hr₁
      isplitl [Ht₂]; · iexact Ht₂
      iexact Hr₂
    iintro ⟨Hcr, HO⟩
    iapply h
    isplitr; · iexact HC
    isplitl [HL₁ HL₂ HS HD Hcr HO]
    · unfold RowSt Owes
      isplitl [HL₁]; · iexact HL₁
      isplitl [HL₂]; · iexact HL₂
      isplitl [HS]; · iexact HS
      isplitl [HD Hcr]
      · rw [sep_upto (n := 1024) j (fun j => A.Dt c j ≠ c) hne]
        isplitl [Hcr]; · rw [k₁]; iexact Hcr
        iexact HD
      iexists W; iexact HO
    iexact HR
  · rw [dif_neg hp]
    have hne : ¬ A.Dt c j ≠ c := fun h' => hp (hc.mpr h')
    refine (Entails.of_eq ?_).trans h
    unfold RowSt owRow; rw [from_succ_neg (n := 1024) j (fun j => A.Dt c j ≠ c) hne, upto_succ_neg (n := 1024) j (fun j => A.Dt c j ≠ c) hne]

/-! ## The loop over the rows -/

theorem trips_t4 : k0_t4_loop.trips = 1024 := by decide +kernel
theorem chk2_dev : ∀ c p : Fin 16, k0_chk2 c (BitVec.ofNat 32 p.val) := by decide +kernel
theorem cond49_iff : ∀ c p : Fin 16, k0_cond49 c (BitVec.ofNat 32 p.val) = 1#1 ↔ p = c := by decide +kernel
theorem cond50_iff : ∀ c p : Fin 16, k0_cond50 c (BitVec.ofNat 32 p.val) = 1#1 ↔ p ≠ c := by decide +kernel
theorem dev33_eq : ∀ p : Fin 16, k0_dev33 (BitVec.ofNat 32 p.val) = p.val := by decide +kernel

theorem place_word (j : Fin 1024) : (Scalar.addi (A.BS c.val (ix1 (A.Dt c j)) : BitVec 32) (A.RK c (ix1 j))).toNat = (A.at c j).val := by
  show (BitVec.ofNat 32 (baseTo A.Dt c.val (A.Dt c j)) + BitVec.ofNat 32 (rank A.Dt c j)).toNat = pos A.Dt c j
  rw [← BitVec.ofNat_add]
  exact toNat_small (pos_lt A.bal c j).le
theorem off87_eq (j : Fin 1024) : k0_off87 (A.BS c.val (ix1 (A.Dt c j))) (A.RK c (ix1 j)) = ![(A.at c j).val, 0] := by
  rw [← place_word A c j]; rfl
theorem off89_eq (j : Fin 1024) : k0_off89 (A.BS c.val (ix1 (A.Dt c j))) (A.RK c (ix1 j)) = ![(A.at c j).val, 0] := by
  rw [← place_word A c j]; rfl
theorem chk3_dev (v : BitVec 32) (j : Fin 1024) : k0_chk3 c v (A.BS c.val (ix1 (A.Dt c j))) (A.RK c (ix1 j)) :=
  ⟨fun _ => by rw [off87_eq]; exact rowInb _, fun _ => by rw [off89_eq]; exact rowInb _⟩

abbrev body4 := k0_t4_body (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0

/-- The state before trip `k` of the loop over the rows. -/
def SendSt (q : PosShare TreeShare) (O : CellTallies nD τ sig Unit) (R : sProp 𝕄) (k : ℕ) : sProp 𝕄 :=
  iprop(Ctx A K ∗ RowSt A c O k k ∗ ((ℓd c) ↦[Finset.univ]{q} A.D c) ∗ ((ℓb c) ↦[Finset.univ]{fullShare} A.BS c.val) ∗ ((ℓr c) ↦[Finset.univ]{fullShare} A.RK c) ∗ R)

set_option maxHeartbeats 4000000 in
theorem send_trip (q : PosShare TreeShare) (O : CellTallies nD τ sig Unit) (R : sProp 𝕄) (v : BitVec 32) (k : Fin k0_t4_loop.trips) :
    SendSt A K c q O R k.val ⊢ wpK c (body4 (F := F) c v k ()) fun _ => SendSt A K c q O R (k.val + 1) := by
  have hk : k.val < 1024 := by exact lt_of_lt_of_eq k.isLt trips_t4
  have ho : (k0_off84 k) = ![k.val] := off_iv hk.le
  have ho' : (k0_off86 k) = ![k.val] := off_iv hk.le
  have hx : (k0_off88 k) = ![k.val, 0] := by
    show (![(Scf.iv 0#32 1#32 k.val).toNat, 0] : Fin 2 → ℕ) = _
    rw [iv_toNat hk.le]
  have hx' : (k0_off90 k) = ![k.val, 0] := hx
  unfold SendSt body4 k0_t4_body
  refine (front3 _ _ _ _).trans ?_
  refine get_d c ⟨k.val, hk⟩ ho ?_
  have hd : A.D c (ix1 ⟨k.val, hk⟩) = BitVec.ofNat 32 (A.Dt c ⟨k.val, hk⟩).val := rfl
  have ho2 : k0_off85 (A.D c (ix1 ⟨k.val, hk⟩)) = ![(A.Dt c ⟨k.val, hk⟩).val] := off_dev _
  refine asm_step c (by rw [hd]; exact chk2_dev _ _) ?_
  refine (front4 _ _ _ _ _).trans ?_
  refine get_b c (A.Dt c ⟨k.val, hk⟩) ho2 ?_
  refine (front5 _ _ _ _ _ _).trans ?_
  refine get_r c ⟨k.val, hk⟩ ho' ?_
  refine asm_step c (chk3_dev A c _ _) ?_
  refine (rot_send _ _ _ _ _ _).trans ?_
  refine loc_step A K c ⟨k.val, hk⟩ k.val (cond49_iff c (A.Dt c ⟨k.val, hk⟩)) (hs := rfl) (off87_eq A c ⟨k.val, hk⟩) hx ?_
  refine send_step A K c ⟨k.val, hk⟩ (k.val + 1) (cond50_iff c (A.Dt c ⟨k.val, hk⟩)) _ (dev33_eq _) rfl rfl (off89_eq A c ⟨k.val, hk⟩) hx' ?_
  exact ret_step c (Entails.of_eq rfl)

end Cert.AllToAll

end
-- ==== Proof.PartsA.lean ====
/-
# The first half of the kernel, part by part

The barrier, the table row of this device, the copies of the count vector and the waits for the others' counts.
-/
module

public import proofs.«01_k».proof.Proof.Waits

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Option Own → ℕ) (c : Dev nD)

theorem off_fst (d : ℕ) : (![(Scalar.indexCast (me c)).toNat, d] : Fin 2 → ℕ) = ![c.val, d] := congrArg (fun n => (![n, d] : Fin 2 → ℕ)) (me_toNat c)
theorem off_row : (![(me c).toNat, 0] : Fin 2 → ℕ) = ![c.val, 0] := congrArg (fun n => (![n, 0] : Fin 2 → ℕ)) (me_toNat c)
theorem off_one : (![(me c).toNat] : Fin 1 → ℕ) = ![c.val] := congrArg (fun n => (![n] : Fin 1 → ℕ)) (me_toNat c)

omit [FloatOps F] in
theorem rot_part9 (P Q S T R : sProp 𝕄) : iprop(P ∗ Q ∗ S ∗ T ∗ R) ⊢ iprop(S ∗ T ∗ P ∗ Q ∗ R) := by
  iintro ⟨H1, H2, H3, H4, H5⟩
  isplitl [H3]; · iexact H3
  isplitl [H4]; · iexact H4
  isplitl [H1]; · iexact H1
  isplitl [H2]; · iexact H2
  iexact H5

/-- What the waits for the others' counts take, besides what the copies left. -/
def WtIn : sProp 𝕄 :=
  bigSep (Finset.univ.filter fun p : Fin 16 => p ≠ c) fun p => iprop(cred (tallyAt (kcell (c, some (.cr p))) () NC)
    ∗ atPos ER (kcell (c, some (.cs p))) 0 ∅ 0 ∗ atPos ER (kcell (c, some (.cr p))) 0 ∅ 0)

/-- All copies of the count vector are under way: the waits can start. -/
theorem cnt_to_wt (O : CellTallies nD τ sig Unit) (R : sProp 𝕄) : iprop(Ctx A K ∗ CntSt A c O 16 ∗ WtIn c ∗ R) ⊢ iprop(Ctx A K ∗ WtSt A c O 0 ∗ R) := by
  have o₁ : owCnt c 16 + O = O := by unfold owCnt; rw [from_end, Finset.sum_empty, zero_add]
  unfold CntSt WtIn WtSt
  rw [o₁, from_end, upto_all, from_all, upto_zero]
  iintro ⟨HC, ⟨He, Hc, HO⟩, HW, HR⟩
  isplitl [HC]; · iexact HC
  isplitr [HR]
  · isplitl [Hc HW]
    · unfold wtItem
      iapply (Entails.of_eq (BI.bigSep_sep' (Finset.univ.filter fun p : Fin 16 => p ≠ c) (fun p => cred (tallyAt (kcell (c, some (.cs p))) () NC)) (fun p => iprop(cred (tallyAt (kcell (c, some (.cr p))) () NC)
    ∗ atPos ER (kcell (c, some (.cs p))) 0 ∅ 0 ∗ atPos ER (kcell (c, some (.cr p))) 0 ∅ 0))).symm)
      isplitl [Hc]; · iexact Hc
      iexact HW
    isplitr [HO]; · iexact He
    iexact HO
  iexact HR

set_option maxHeartbeats 4000000 in
/-- The signals of the barrier to devices 0 to 7. -/
theorem part5_spec {Q : (Σ' (d0 : Dev nD) (v2 : BitVec 32), Sems sig S_) → sProp 𝕄} {O : CellTallies nD τ sig Unit} {R : sProp 𝕄}
    (h : iprop(Ctx A K ∗ SigSt A none c O 8 ∗ R) ⊢ Q ⟨c, me c, SemArray.scalar (sig.barrier 0 rfl)⟩) :
    iprop(Ctx A K ∗ SigSt A none c O 0 ∗ R) ⊢ wpK c (k0_part5 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0) Q := by
  rw [k0_part5_eq_skeleton]
  unfold k0_part5_skel
  refine dev_step c ?_
  refine bar_step (cond := k0_cond1) (n := k0_dev1) A K c 0 ?_ _ ?_ ?_
  · decide +kernel
  · exact rfl
  refine bar_step (cond := k0_cond2) (n := k0_dev2) A K c 1 ?_ _ ?_ ?_
  · decide +kernel
  · exact rfl
  refine bar_step (cond := k0_cond3) (n := k0_dev3) A K c 2 ?_ _ ?_ ?_
  · decide +kernel
  · exact rfl
  refine bar_step (cond := k0_cond4) (n := k0_dev4) A K c 3 ?_ _ ?_ ?_
  · decide +kernel
  · exact rfl
  refine bar_step (cond := k0_cond5) (n := k0_dev5) A K c 4 ?_ _ ?_ ?_
  · decide +kernel
  · exact rfl
  refine bar_step (cond := k0_cond6) (n := k0_dev6) A K c 5 ?_ _ ?_ ?_
  · decide +kernel
  · exact rfl
  refine bar_step (cond := k0_cond7) (n := k0_dev7) A K c 6 ?_ _ ?_ ?_
  · decide +kernel
  · exact rfl
  refine bar_step (cond := k0_cond8) (n := k0_dev8) A K c 7 ?_ _ ?_ ?_
  · decide +kernel
  · exact rfl
  exact ret_step c h

set_option maxHeartbeats 4000000 in
/-- The signals of the barrier to devices 8 to 15, the wait for the others' signals, and the first three zeros of the count vector. -/
theorem part6_spec {Q : BitVec 32 → sProp 𝕄} {O : CellTallies nD τ sig Unit} {R : sProp 𝕄} (hO : Above 1 O) {f : S16.Idx → Elt F .i32}
    (h : iprop(((ℓc c) ↦[Finset.univ]{fullShare} fill1 (F := F) 3 (fun _ => 0#32) f) ∗ Ctx A K ∗ Owes c O ∗ RegOut A none c ∗ R) ⊢ Q 0#32) :
    iprop(Ctx A K ∗ SigSt A none c O 8 ∗ RegIn none c ∗ ((ℓc c) ↦[Finset.univ]{fullShare} f) ∗ R) ⊢ wpK c (k0_part6 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) (SemArray.scalar (sig.barrier 0 rfl))) Q := by
  rw [k0_part6_eq_skeleton]
  unfold k0_part6_skel
  refine bar_step (cond := k0_cond9) (n := k0_dev9) A K c 8 ?_ _ ?_ ?_
  · decide +kernel
  · exact rfl
  refine bar_step (cond := k0_cond10) (n := k0_dev10) A K c 9 ?_ _ ?_ ?_
  · decide +kernel
  · exact rfl
  refine bar_step (cond := k0_cond11) (n := k0_dev11) A K c 10 ?_ _ ?_ ?_
  · decide +kernel
  · exact rfl
  refine bar_step (cond := k0_cond12) (n := k0_dev12) A K c 11 ?_ _ ?_ ?_
  · decide +kernel
  · exact rfl
  refine bar_step (cond := k0_cond13) (n := k0_dev13) A K c 12 ?_ _ ?_ ?_
  · decide +kernel
  · exact rfl
  refine bar_step (cond := k0_cond14) (n := k0_dev14) A K c 13 ?_ _ ?_ ?_
  · decide +kernel
  · exact rfl
  refine bar_step (cond := k0_cond15) (n := k0_dev15) A K c 14 ?_ _ ?_ ?_
  · decide +kernel
  · exact rfl
  refine bar_step (cond := k0_cond16) (n := k0_dev16) A K c 15 ?_ _ ?_ ?_
  · decide +kernel
  · exact rfl
  refine reg_wait A K none barS rfl rfl c rfl 1 (le_refl 1) hO ?_
  refine (front4 _ _ _ _ _).trans ?_
  rw [← fill1_zero (F := F) (fun _ => 0#32) f]
  refine zero_c c 0 rfl ?_
  refine zero_c c 1 rfl ?_
  refine zero_c c 2 rfl ?_
  exact ret_step c h

set_option maxHeartbeats 4000000 in
/-- This device's counts for destinations 0 to 9 go into its row of the table. -/
theorem part8_spec {Q : Elt F .i32 → sProp 𝕄} {f : S16x16.Idx → Elt F .i32} {q : PosShare TreeShare} {R : sProp 𝕄}
    (h : iprop(tRow c c (fill2 (F := F) 10 A.CA f) ∗ ((ℓc c) ↦[Finset.univ]{q} A.MC c) ∗ R) ⊢ Q (A.MC c (ix1 10))) :
    iprop(tRow c c (fill2 (F := F) 0 A.CA f) ∗ ((ℓc c) ↦[Finset.univ]{q} A.MC c) ∗ R) ⊢ wpK c (k0_part8 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) (A.MC c (ix1 0))) Q := by
  rw [k0_part8_eq_skeleton]
  unfold k0_part8_skel
  refine row_t c A 0 (w := A.MC c (ix1 0)) rfl (off_fst c 0) ?_
  refine (front2 _ _ _).trans ?_
  refine get_c c 1 rfl ?_
  refine (front2 _ _ _).trans ?_
  refine row_t c A 1 (w := A.MC c (ix1 1)) rfl (off_fst c 1) ?_
  refine (front2 _ _ _).trans ?_
  refine get_c c 2 rfl ?_
  refine (front2 _ _ _).trans ?_
  refine row_t c A 2 (w := A.MC c (ix1 2)) rfl (off_fst c 2) ?_
  refine (front2 _ _ _).trans ?_
  refine get_c c 3 rfl ?_
  refine (front2 _ _ _).trans ?_
  refine row_t c A 3 (w := A.MC c (ix1 3)) rfl (off_fst c 3) ?_
  refine (front2 _ _ _).trans ?_
  refine get_c c 4 rfl ?_
  refine (front2 _ _ _).trans ?_
  refine row_t c A 4 (w := A.MC c (ix1 4)) rfl (off_fst c 4) ?_
  refine (front2 _ _ _).trans ?_
  refine get_c c 5 rfl ?_
  refine (front2 _ _ _).trans ?_
  refine row_t c A 5 (w := A.MC c (ix1 5)) rfl (off_fst c 5) ?_
  refine (front2 _ _ _).trans ?_
  refine get_c c 6 rfl ?_
  refine (front2 _ _ _).trans ?_
  refine row_t c A 6 (w := A.MC c (ix1 6)) rfl (off_fst c 6) ?_
  refine (front2 _ _ _).trans ?_
  refine get_c c 7 rfl ?_
  refine (front2 _ _ _).trans ?_
  refine row_t c A 7 (w := A.MC c (ix1 7)) rfl (off_fst c 7) ?_
  refine (front2 _ _ _).trans ?_
  refine get_c c 8 rfl ?_
  refine (front2 _ _ _).trans ?_
  refine row_t c A 8 (w := A.MC c (ix1 8)) rfl (off_fst c 8) ?_
  refine (front2 _ _ _).trans ?_
  refine get_c c 9 rfl ?_
  refine (front2 _ _ _).trans ?_
  refine row_t c A 9 (w := A.MC c (ix1 9)) rfl (off_fst c 9) ?_
  refine (front2 _ _ _).trans ?_
  refine get_c c 10 rfl ?_
  refine (front2 _ _ _).trans ?_
  exact ret_step c h

set_option maxHeartbeats 4000000 in
/-- The rest of this device's row of the table, and the copies of the count vector to devices 0 to 3. -/
theorem part9_spec {Q : (Σ' (v130 : BitVec 32), BitVec 32) → sProp 𝕄} {O : CellTallies nD τ sig Unit} {f : S16x16.Idx → Elt F .i32} {q : PosShare TreeShare} {R : sProp 𝕄}
    (h : ∀ v, iprop(Ctx A K ∗ CntSt A c O 4 ∗ tRow c c A.CA ∗ ((ℓc c) ↦[Finset.univ]{q} A.MC c) ∗ R) ⊢ Q v) :
    iprop(tRow c c (fill2 (F := F) 10 A.CA f) ∗ ((ℓc c) ↦[Finset.univ]{q} A.MC c) ∗ Ctx A K ∗ CntSt A c O 0 ∗ R) ⊢ wpK c (k0_part9 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) (A.MC c (ix1 10))) Q := by
  rw [k0_part9_eq_skeleton]
  unfold k0_part9_skel
  refine row_t c A 10 (w := A.MC c (ix1 10)) rfl (off_fst c 10) ?_
  refine (front2 _ _ _).trans ?_
  refine get_c c 11 rfl ?_
  refine (front2 _ _ _).trans ?_
  refine row_t c A 11 (w := A.MC c (ix1 11)) rfl (off_fst c 11) ?_
  refine (front2 _ _ _).trans ?_
  refine get_c c 12 rfl ?_
  refine (front2 _ _ _).trans ?_
  refine row_t c A 12 (w := A.MC c (ix1 12)) rfl (off_fst c 12) ?_
  refine (front2 _ _ _).trans ?_
  refine get_c c 13 rfl ?_
  refine (front2 _ _ _).trans ?_
  refine row_t c A 13 (w := A.MC c (ix1 13)) rfl (off_fst c 13) ?_
  refine (front2 _ _ _).trans ?_
  refine get_c c 14 rfl ?_
  refine (front2 _ _ _).trans ?_
  refine row_t c A 14 (w := A.MC c (ix1 14)) rfl (off_fst c 14) ?_
  refine (front2 _ _ _).trans ?_
  refine get_c c 15 rfl ?_
  refine (front2 _ _ _).trans ?_
  refine row_t c A 15 (w := A.MC c (ix1 15)) rfl (off_fst c 15) ?_
  refine (Entails.of_eq (by rw [show ((15 : Fin 16).val + 1) = 16 from rfl, fill2_all])).trans ?_
  refine (rot_part9 _ _ _ _ _).trans ?_
  refine cnt_step (cond := k0_cond17) (n := k0_dev17) A K c 0 ?_ _ ?_ ?_ ?_ (off_row c) ?_
  · decide +kernel
  · exact rfl
  · exact fun _ => sem_cs 0 rfl
  · exact fun _ => sem_cr c (off_one c)
  refine cnt_step (cond := k0_cond18) (n := k0_dev18) A K c 1 ?_ _ ?_ ?_ ?_ (off_row c) ?_
  · decide +kernel
  · exact rfl
  · exact fun _ => sem_cs 1 rfl
  · exact fun _ => sem_cr c (off_one c)
  refine cnt_step (cond := k0_cond19) (n := k0_dev19) A K c 2 ?_ _ ?_ ?_ ?_ (off_row c) ?_
  · decide +kernel
  · exact rfl
  · exact fun _ => sem_cs 2 rfl
  · exact fun _ => sem_cr c (off_one c)
  refine cnt_step (cond := k0_cond20) (n := k0_dev20) A K c 3 ?_ _ ?_ ?_ ?_ (off_row c) ?_
  · decide +kernel
  · exact rfl
  · exact fun _ => sem_cs 3 rfl
  · exact fun _ => sem_cr c (off_one c)
  exact ret_step c (h _)

set_option maxHeartbeats 4000000 in
/-- The copies of the count vector to devices 4 to 13. -/
theorem part10_spec (v w : BitVec 32) {Q : (Σ' (v160 : BitVec 32), BitVec 32) → sProp 𝕄} {O : CellTallies nD τ sig Unit} {R : sProp 𝕄}
    (h : ∀ v, iprop(Ctx A K ∗ CntSt A c O 14 ∗ R) ⊢ Q v) :
    iprop(Ctx A K ∗ CntSt A c O 4 ∗ R) ⊢ wpK c (k0_part10 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) v w) Q := by
  rw [k0_part10_eq_skeleton]
  unfold k0_part10_skel
  refine cnt_step (cond := k0_cond21) (n := k0_dev21) A K c 4 ?_ _ ?_ ?_ ?_ (off_row c) ?_
  · decide +kernel
  · exact rfl
  · exact fun _ => sem_cs 4 rfl
  · exact fun _ => sem_cr c (off_one c)
  refine cnt_step (cond := k0_cond22) (n := k0_dev22) A K c 5 ?_ _ ?_ ?_ ?_ (off_row c) ?_
  · decide +kernel
  · exact rfl
  · exact fun _ => sem_cs 5 rfl
  · exact fun _ => sem_cr c (off_one c)
  refine cnt_step (cond := k0_cond23) (n := k0_dev23) A K c 6 ?_ _ ?_ ?_ ?_ (off_row c) ?_
  · decide +kernel
  · exact rfl
  · exact fun _ => sem_cs 6 rfl
  · exact fun _ => sem_cr c (off_one c)
  refine cnt_step (cond := k0_cond24) (n := k0_dev24) A K c 7 ?_ _ ?_ ?_ ?_ (off_row c) ?_
  · decide +kernel
  · exact rfl
  · exact fun _ => sem_cs 7 rfl
  · exact fun _ => sem_cr c (off_one c)
  refine cnt_step (cond := k0_cond25) (n := k0_dev25) A K c 8 ?_ _ ?_ ?_ ?_ (off_row c) ?_
  · decide +kernel
  · exact rfl
  · exact fun _ => sem_cs 8 rfl
  · exact fun _ => sem_cr c (off_one c)
  refine cnt_step (cond := k0_cond26) (n := k0_dev26) A K c 9 ?_ _ ?_ ?_ ?_ (off_row c) ?_
  · decide +kernel
  · exact rfl
  · exact fun _ => sem_cs 9 rfl
  · exact fun _ => sem_cr c (off_one c)
  refine cnt_step (cond := k0_cond27) (n := k0_dev27) A K c 10 ?_ _ ?_ ?_ ?_ (off_row c) ?_
  · decide +kernel
  · exact rfl
  · exact fun _ => sem_cs 10 rfl
  · exact fun _ => sem_cr c (off_one c)
  refine cnt_step (cond := k0_cond28) (n := k0_dev28) A K c 11 ?_ _ ?_ ?_ ?_ (off_row c) ?_
  · decide +kernel
  · exact rfl
  · exact fun _ => sem_cs 11 rfl
  · exact fun _ => sem_cr c (off_one c)
  refine cnt_step (cond := k0_cond29) (n := k0_dev29) A K c 12 ?_ _ ?_ ?_ ?_ (off_row c) ?_
  · decide +kernel
  · exact rfl
  · exact fun _ => sem_cs 12 rfl
  · exact fun _ => sem_cr c (off_one c)
  refine cnt_step (cond := k0_cond30) (n := k0_dev30) A K c 13 ?_ _ ?_ ?_ ?_ (off_row c) ?_
  · decide +kernel
  · exact rfl
  · exact fun _ => sem_cs 13 rfl
  · exact fun _ => sem_cr c (off_one c)
  exact ret_step c (h _)

set_option maxHeartbeats 4000000 in
/-- The copies of the count vector to devices 14 and 15, and the waits for devices 0 to 7. -/
theorem part11_spec (v w : BitVec 32) {Q : (Σ' (v190 : BitVec 32), BitVec 32) → sProp 𝕄} {O : CellTallies nD τ sig Unit} {R : sProp 𝕄} (hO : Above 2 O)
    (h : iprop(Ctx A K ∗ WtSt A c O 8 ∗ R) ⊢ Q ⟨Scalar.extui (Scalar.cmpi .ne (me c) 8#32), 0#32⟩) :
    iprop(Ctx A K ∗ CntSt A c O 14 ∗ WtIn c ∗ R) ⊢ wpK c (k0_part11 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) v w) Q := by
  rw [k0_part11_eq_skeleton]
  unfold k0_part11_skel
  refine cnt_step (cond := k0_cond31) (n := k0_dev31) A K c 14 ?_ _ ?_ ?_ ?_ (off_row c) ?_
  · decide +kernel
  · exact rfl
  · exact fun _ => sem_cs 14 rfl
  · exact fun _ => sem_cr c (off_one c)
  refine cnt_step (cond := k0_cond32) (n := k0_dev32) A K c 15 ?_ _ ?_ ?_ ?_ (off_row c) ?_
  · decide +kernel
  · exact rfl
  · exact fun _ => sem_cs 15 rfl
  · exact fun _ => sem_cr c (off_one c)
  refine (cnt_to_wt A K c O R).trans ?_
  refine wt_step (cond := fun c => Scalar.cmpi .ne (Scalar.extui (Scalar.cmpi .ne (me c) 0#32)) 0#32) A K c 0 hO ?_ (sem_cs 0 rfl) (sem_cr 0 rfl) ?_
  · decide +kernel
  refine wt_step (cond := fun c => Scalar.cmpi .ne (Scalar.extui (Scalar.cmpi .ne (me c) 1#32)) 0#32) A K c 1 hO ?_ (sem_cs 1 rfl) (sem_cr 1 rfl) ?_
  · decide +kernel
  refine wt_step (cond := fun c => Scalar.cmpi .ne (Scalar.extui (Scalar.cmpi .ne (me c) 2#32)) 0#32) A K c 2 hO ?_ (sem_cs 2 rfl) (sem_cr 2 rfl) ?_
  · decide +kernel
  refine wt_step (cond := fun c => Scalar.cmpi .ne (Scalar.extui (Scalar.cmpi .ne (me c) 3#32)) 0#32) A K c 3 hO ?_ (sem_cs 3 rfl) (sem_cr 3 rfl) ?_
  · decide +kernel
  refine wt_step (cond := fun c => Scalar.cmpi .ne (Scalar.extui (Scalar.cmpi .ne (me c) 4#32)) 0#32) A K c 4 hO ?_ (sem_cs 4 rfl) (sem_cr 4 rfl) ?_
  · decide +kernel
  refine wt_step (cond := fun c => Scalar.cmpi .ne (Scalar.extui (Scalar.cmpi .ne (me c) 5#32)) 0#32) A K c 5 hO ?_ (sem_cs 5 rfl) (sem_cr 5 rfl) ?_
  · decide +kernel
  refine wt_step (cond := fun c => Scalar.cmpi .ne (Scalar.extui (Scalar.cmpi .ne (me c) 6#32)) 0#32) A K c 6 hO ?_ (sem_cs 6 rfl) (sem_cr 6 rfl) ?_
  · decide +kernel
  refine wt_step (cond := fun c => Scalar.cmpi .ne (Scalar.extui (Scalar.cmpi .ne (me c) 7#32)) 0#32) A K c 7 hO ?_ (sem_cs 7 rfl) (sem_cr 7 rfl) ?_
  · decide +kernel
  exact ret_step c h

set_option maxHeartbeats 4000000 in
/-- The waits for devices 8 to 15, and the first four zeros of the base vector. -/
theorem part12_spec {Q : PUnit → sProp 𝕄} {O : CellTallies nD τ sig Unit} {R : sProp 𝕄} (hO : Above 2 O) {f : S16.Idx → Elt F .i32}
    (h : iprop(((ℓb c) ↦[Finset.univ]{fullShare} fill1 (F := F) 4 (fun _ => 0#32) f) ∗ Ctx A K ∗ WtSt A c O 16 ∗ R) ⊢ Q ⟨⟩) :
    iprop(Ctx A K ∗ WtSt A c O 8 ∗ ((ℓb c) ↦[Finset.univ]{fullShare} f) ∗ R) ⊢ wpK c (k0_part12 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 (me c) (Scalar.extui (Scalar.cmpi .ne (me c) 8#32)) 0#32) Q := by
  rw [k0_part12_eq_skeleton]
  unfold k0_part12_skel
  refine wt_step (cond := fun c => Scalar.cmpi .ne (Scalar.extui (Scalar.cmpi .ne (me c) 8#32)) 0#32) A K c 8 hO ?_ (sem_cs 8 rfl) (sem_cr 8 rfl) ?_
  · decide +kernel
  refine wt_step (cond := fun c => Scalar.cmpi .ne (Scalar.extui (Scalar.cmpi .ne (me c) 9#32)) 0#32) A K c 9 hO ?_ (sem_cs 9 rfl) (sem_cr 9 rfl) ?_
  · decide +kernel
  refine wt_step (cond := fun c => Scalar.cmpi .ne (Scalar.extui (Scalar.cmpi .ne (me c) 10#32)) 0#32) A K c 10 hO ?_ (sem_cs 10 rfl) (sem_cr 10 rfl) ?_
  · decide +kernel
  refine wt_step (cond := fun c => Scalar.cmpi .ne (Scalar.extui (Scalar.cmpi .ne (me c) 11#32)) 0#32) A K c 11 hO ?_ (sem_cs 11 rfl) (sem_cr 11 rfl) ?_
  · decide +kernel
  refine wt_step (cond := fun c => Scalar.cmpi .ne (Scalar.extui (Scalar.cmpi .ne (me c) 12#32)) 0#32) A K c 12 hO ?_ (sem_cs 12 rfl) (sem_cr 12 rfl) ?_
  · decide +kernel
  refine wt_step (cond := fun c => Scalar.cmpi .ne (Scalar.extui (Scalar.cmpi .ne (me c) 13#32)) 0#32) A K c 13 hO ?_ (sem_cs 13 rfl) (sem_cr 13 rfl) ?_
  · decide +kernel
  refine wt_step (cond := fun c => Scalar.cmpi .ne (Scalar.extui (Scalar.cmpi .ne (me c) 14#32)) 0#32) A K c 14 hO ?_ (sem_cs 14 rfl) (sem_cr 14 rfl) ?_
  · decide +kernel
  refine wt_step (cond := fun c => Scalar.cmpi .ne (Scalar.extui (Scalar.cmpi .ne (me c) 15#32)) 0#32) A K c 15 hO ?_ (sem_cs 15 rfl) (sem_cr 15 rfl) ?_
  · decide +kernel
  refine (front3 _ _ _ _).trans ?_
  rw [← fill1_zero (F := F) (fun _ => 0#32) f]
  refine zero_b c 0 rfl ?_
  refine zero_b c 1 rfl ?_
  refine zero_b c 2 rfl ?_
  refine zero_b c 3 rfl ?_
  exact ret_step c h

end Cert.AllToAll

end
-- ==== Proof.Drain.lean ====
/-
# Waiting for the rows

How many rows arrive, and the three waiting loops: local copies, sends, arrivals.
-/
module

public import proofs.«01_k».proof.Proof.Rows
public import proofs.«01_k».proof.Proof.PartsA

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Option Own → ℕ) (c : Dev nD)

/-! ## One waiting loop -/

omit [FloatOps F] in
/-- Copies of one assertion, counted. -/
theorem bigSep_count {I : Type} [DecidableEq I] (s : Finset I) (P : sProp 𝕄) : bigSep s (fun _ => P) = bigSep (Finset.range s.card) (fun _ => P) := by
  induction s using Finset.induction_on with
  | empty => rfl
  | insert a s ha ih =>
    rw [Finset.card_insert_of_notMem ha, Finset.range_add_one, BI.bigSep_insert ha, BI.bigSep_insert Finset.notMem_range_self, ih]

omit [FloatOps F] in
theorem range_sep (n : ℕ) (P : sProp 𝕄) : bigSep (Finset.range (n + 1)) (fun _ => P) = iprop(P ∗ bigSep (Finset.range n) (fun _ => P)) := by
  rw [Finset.range_add_one]; exact BI.bigSep_insert Finset.notMem_range_self

omit [FloatOps F] in
theorem union_sep {I : Type} [DecidableEq I] {s t : Finset I} (h : Disjoint s t) (Φ : I → sProp 𝕄) : bigSep (s ∪ t) Φ = iprop(bigSep s Φ ∗ bigSep t Φ) :=
  BI.bigSep_union h

/-- How many duties a cell has. -/
abbrev nDuty (q : Option Own) : ℕ := (dutyOf A.Dt c q).card

/-- Before wait `i` on a cell: what has landed so far, and the credits left. -/
def DrainSt (q : Option Own) (O : CellTallies nD τ sig Unit) (R : sProp 𝕄) (i : ℕ) : sProp 𝕄 :=
  iprop(Ctx A K ∗ (∃ T : Finset Duty, ⌜T ⊆ dutyOf A.Dt c q ∧ i * NR + (dutyOf A.Dt c q \ T).card ≤ nDuty A c q * NR⌝
      ∗ atPos ER (kcell (c, q)) 0 T (i * NR) ∗ bigSep T (payOf A c q))
    ∗ bigSep (Finset.range (nDuty A c q - i)) (fun _ => cred (tallyAt (kcell (c, q)) () NR)) ∗ Owes c O ∗ R)

theorem drain_trip (q : Option Own) (s : DmaSem sig) (hq : csem q = .dma s) (ha : amtOf q = NR) {b : ℕ} (hb : lvOf q ≤ b)
    {O : CellTallies nD τ sig Unit} (hO : Above b O) (R : sProp 𝕄) {i : ℕ} (hi : i < nDuty A c q)
    {src dst : Memref sig .tc .vmem S1x512 .f32} (he : dst.view.dmaCredit = NR) {hw : src.view.WordExact} {hw' : dst.view.WordExact} :
    DrainSt A K c q O R i ⊢ wpK c (Prog.lift (.waitDma2 s src dst hw hw') >>= fun _ => (Pure.pure () : Prog (TpuEff nD τ sig (Elt F) Λ₀ .tc) Unit)) fun _ => DrainSt A K c q O R (i + 1) := by
  have k₁ : kcell (c, q) = ((c : Thread nD τ), .dma s) := by show (_, csem q) = _; rw [hq]
  show _ ⊢ wpK c (.op (.waitDma2 s src dst hw hw') fun _ => Pure.pure ()) _
  unfold DrainSt Owes
  have e : nDuty A c q - i = (nDuty A c q - (i + 1)) + 1 := by omega
  rw [e, range_sep]
  iintro ⟨#HC, ⟨%T, %hT, Ha, HT⟩, ⟨Hc, HD⟩, ⟨%W, HO⟩, HR⟩
  ihave #HI := (ctx_inv A K c q) $$ HC
  iapply (Rounds.wp_wait 𝒱₀ ER (Rd A) (c : Thread nD τ) none (κ := K (c, q)) (k' := NR)
    (fun Q => (wpE_waitDma2_eq 𝒱₀ (c : Thread nD τ) none Set.univ Q).trans (by rw [he])) (Set.mem_univ _) (cr := Finsupp.single () NR) (O := O) (W := W) {(SemLoc.dma s, ())} (R := 0) (m := i * NR) (T := T)
    (Util.total_single () NR) (image_single_subset (SemLoc.dma s) () NR)) $$ [Hc HO Ha]
  · rw [← k₁]
    isplitr; · iexact HI
    isplitl [Hc]; · iexact Hc
    isplitl [HO]; · iexact HO
    isplitr
    · iapply (ctx_mayWait A K c (.dma s) b hO (by rw [← k₁, lv_eq]; exact hb)); iexact HC
    iexact Ha
  iintro %S ⟨%hS, HO, Ha, HP⟩
  rw [← k₁] at hS
  rw [duties_eq, expect_eq, ha] at hS
  rw [← k₁]
  iapply (ret_step c (Entails.of_eq rfl))
  isplitr; · iexact HC
  isplitl [Ha HT HP]
  · iexists S
    isplitr
    · ipureintro; exact ⟨hS.2.1, by rw [Nat.succ_mul]; exact hS.2.2⟩
    isplitl [Ha]; · rw [Nat.succ_mul]; iexact Ha
    have ep : (bigSep (S \ T) fun d => (Rd A).payload (kcell (c, q)) 0 d) = bigSep (S \ T) (payOf A c q) := bigSep_congr fun d _ => payload_eq A c q 0 d
    have eS : bigSep S (payOf A c q) = iprop(bigSep (S \ T) (payOf A c q) ∗ bigSep T (payOf A c q)) := by
      rw [← union_sep Finset.sdiff_disjoint, Finset.sdiff_union_of_subset hS.1]
    iapply (Entails.of_eq eS.symm)
    isplitl [HP]; · iapply (Entails.of_eq ep); iexact HP
    iexact HT
  isplitl [HD]; · iexact HD
  isplitl [HO]; · iexists _; iexact HO
  iexact HR

/-- A whole waiting loop: afterwards everything has landed and the cell is at zero. -/
theorem drain_loop {α : Type} {Q : α → sProp 𝕄} {R : sProp 𝕄} (q : Option Own) (s : DmaSem sig) (hq : csem q = .dma s) (ha : amtOf q = NR) {b : ℕ} (hb : lvOf q ≤ b)
    {O : CellTallies nD τ sig Unit} (hO : Above b O) {src dst : Memref sig .tc .vmem S1x512 .f32} (he : dst.view.dmaCredit = NR) {hw : src.view.WordExact} {hw' : dst.view.WordExact}
    {l : Scf.Loop 32} {hok : l.OK} {body : Fin l.trips → Unit → Prog (TpuEff nD τ sig (Elt F) Λ₀ .tc) Unit} (htr : l.trips = nDuty A c q)
    (hbody : ∀ k, body k () = (Prog.lift (.waitDma2 s src dst hw hw') >>= fun _ => (Pure.pure () : Prog (TpuEff nD τ sig (Elt F) Λ₀ .tc) Unit)))
    {J : Unit → Prog (TpuEff nD τ sig (Elt F) Λ₀ .tc) α}
    (h : iprop(Ctx A K ∗ (semVal (kcell (c, q)) 0 ∗ bigSep (dutyOf A.Dt c q) (payOf A c q)) ∗ Owes c O ∗ R) ⊢ wpK c (J ()) Q) :
    iprop(Ctx A K ∗ (atPos ER (kcell (c, q)) 0 ∅ 0 ∗ bigSep (Finset.range (nDuty A c q)) (fun _ => cred (tallyAt (kcell (c, q)) () NR))) ∗ Owes c O ∗ R)
      ⊢ wpK c (Scf.Loop.for l hok ⟨⟩ body >>= J) Q := by
  refine (?_ : _ ⊢ DrainSt A K c q O R 0).trans (for_step c (nDuty A c q) htr (DrainSt A K c q O R) (fun k => ?_) ?_)
  · unfold DrainSt
    iintro ⟨#HC, ⟨Ha, HD⟩, HO, HR⟩
    isplitr; · iexact HC
    isplitl [Ha]
    · iexists ∅
      isplitr
      · ipureintro
        refine ⟨Finset.empty_subset _, ?_⟩
        rw [Nat.zero_mul, Nat.zero_add, Finset.sdiff_empty]
        exact Nat.le_mul_of_pos_right _ NR_pos
      isplitl [Ha]; · rw [Nat.zero_mul]; iexact Ha
      rw [bigSep_empty]; iempintro
    isplitl [HD]; · iexact HD
    isplitl [HO]; · iexact HO
    iexact HR
  · rw [hbody k]
    exact drain_trip A K c q s hq ha hb hO R (lt_of_lt_of_eq k.isLt htr) he
  · unfold DrainSt
    iintro ⟨#HC, ⟨%T, %hT, Ha, HT⟩, -, HO, HR⟩
    ihave #HI := (ctx_inv A K c q) $$ HC
    have e0 : (dutyOf A.Dt c q \ T).card = 0 := by have := hT.2; omega
    have eT : T = dutyOf A.Dt c q := Finset.Subset.antisymm hT.1 (Finset.sdiff_eq_empty_iff_subset.mp (Finset.card_eq_zero.mp e0))
    subst eT
    imod (Rounds.fupd_skip ER (Rd A) (κ := K (c, q)) (g := kcell (c, q)) (R := 0) (m := nDuty A c q * NR) (T := dutyOf A.Dt c q)
      (by rw [duties_eq]) (by rw [expect_eq, ha]) (Set.mem_univ _)) $$ [Ha] with ⟨Ha, -⟩
    · isplitr; · iexact HI
      iexact Ha
    imod (Rounds.cell_close ER (Rd A) (Set.mem_univ (K (c, q))) (fun h => h) (R := 0 + 1) (duties_later A _)) $$ [Ha] with Hz
    · isplitr; · iexact HI
      iexact Ha
    iapply h
    isplitr; · iexact HC
    isplitl [Hz HT]
    · isplitl [Hz]; · iexact Hz
      iexact HT
    isplitl [HO]; · iexact HO
    iexact HR

/-! ## How many rows -/

/-- How many rows come from the devices before `p`, this one left out. -/
def recvTo (p : ℕ) : ℕ := ∑ s ∈ Finset.univ.filter (fun s : Fin 16 => s.val < p ∧ s ≠ c), cnt A.Dt s c
/-- The word the kernel sums up. -/
def recvW : ℕ → BitVec 32
  | 0 => 0#32
  | p + 1 => Scalar.addi (recvW p) (Scalar.select (Scalar.cmpi .ne (me c) (BitVec.ofNat 32 p)) (A.CA (ix2 (Fin.ofNat 16 p) c)) 0#32)

theorem ne_word : ∀ c p : Fin 16, Scalar.cmpi .ne (me c) (BitVec.ofNat 32 p.val) = if p = c then 0#1 else 1#1 := by decide +kernel

theorem recvW_eq (p : ℕ) (hp : p ≤ 16) : recvW A c p = BitVec.ofNat 32 (recvTo A c p) := by
  induction p with
  | zero => simp [recvW, recvTo]
  | succ p ih =>
    have hp' : p < 16 := hp
    have e : Fin.ofNat 16 p = (⟨p, hp'⟩ : Fin 16) := Fin.ext (Nat.mod_eq_of_lt hp')
    show Scalar.addi (recvW A c p) (Scalar.select (Scalar.cmpi .ne (me c) (BitVec.ofNat 32 (⟨p, hp'⟩ : Fin 16).val)) (A.CA (ix2 (Fin.ofNat 16 p) c)) 0#32) = _
    rw [ih (by omega), ne_word, e]
    by_cases h : (⟨p, hp'⟩ : Fin 16) = c
    · rw [if_pos h]
      show BitVec.ofNat 32 (recvTo A c p) + 0#32 = _
      rw [BitVec.add_zero]
      congr 1
      unfold recvTo
      congr 1
      ext s; simp only [Finset.mem_filter, Finset.mem_univ, true_and]
      constructor
      · rintro ⟨h1, h2⟩; exact ⟨by omega, h2⟩
      · rintro ⟨h1, h2⟩
        refine ⟨?_, h2⟩
        have : s.val ≠ p := fun e => h2 (by rw [← h]; exact Fin.ext e)
        omega
    · rw [if_neg h]
      show BitVec.ofNat 32 (recvTo A c p) + BitVec.ofNat 32 (cnt A.Dt ⟨p, hp'⟩ c) = _
      rw [← BitVec.ofNat_add]
      congr 1
      unfold recvTo
      have es : (Finset.univ.filter fun s : Fin 16 => s.val < p + 1 ∧ s ≠ c) = insert (⟨p, hp'⟩ : Fin 16) (Finset.univ.filter fun s : Fin 16 => s.val < p ∧ s ≠ c) := by
        ext s; simp only [Finset.mem_filter, Finset.mem_univ, true_and, Finset.mem_insert]
        constructor
        · rintro ⟨h1, h2⟩
          by_cases e : s = ⟨p, hp'⟩
          · exact .inl e
          · exact .inr ⟨by have : s.val ≠ p := fun x => e (Fin.ext x)
                           omega, h2⟩
        · rintro (rfl | ⟨h1, h2⟩)
          · exact ⟨Nat.lt_succ_self _, h⟩
          · exact ⟨by omega, h2⟩
      rw [es, Finset.sum_insert (by simp), Nat.add_comm]

theorem lo_count : nDuty A c (some .lo) = cnt A.Dt c c := by
  show (Finset.univ.filter fun d : Duty => d.1 = c ∧ A.Dt d.1 d.2 = c).card = (Finset.univ.filter fun j : Fin 1024 => A.Dt c j = c).card
  refine Finset.card_bij' (fun d _ => d.2) (fun j _ => (c, j)) ?_ ?_ ?_ ?_
  · rintro ⟨a, j⟩ h; simp at h ⊢; obtain ⟨rfl, h⟩ := h; exact h
  · intro j h; simpa using h
  · rintro ⟨a, j⟩ h; simp at h ⊢; exact h.1.symm
  · intro j h; rfl
theorem ds_count : nDuty A c (some .ds) = 1024 - cnt A.Dt c c := by
  have h1 : nDuty A c (some .ds) = (Finset.univ.filter fun j : Fin 1024 => ¬ A.Dt c j = c).card := by
    show (Finset.univ.filter fun d : Duty => d.1 = c ∧ A.Dt d.1 d.2 ≠ c).card = _
    refine Finset.card_bij' (fun d _ => d.2) (fun j _ => (c, j)) ?_ ?_ ?_ ?_
    · rintro ⟨a, j⟩ h; simp at h ⊢; obtain ⟨rfl, h⟩ := h; exact h
    · intro j h; simpa using h
    · rintro ⟨a, j⟩ h; simp at h ⊢; exact h.1.symm
    · intro j h; rfl
  have h2 := Finset.card_filter_add_card_filter_not (s := (Finset.univ : Finset (Fin 1024))) (fun j => A.Dt c j = c)
  rw [Finset.card_univ, Fintype.card_fin] at h2
  have h3 : cnt A.Dt c c = (Finset.univ.filter fun j : Fin 1024 => A.Dt c j = c).card := rfl
  omega
theorem dr_count : nDuty A c (some .dr) = recvTo A c 16 := by
  show (Finset.univ.filter fun d : Duty => d.1 ≠ c ∧ A.Dt d.1 d.2 = c).card = ∑ s ∈ Finset.univ.filter (fun s : Fin 16 => s.val < 16 ∧ s ≠ c), cnt A.Dt s c
  have e : (Finset.univ.filter fun d : Duty => d.1 ≠ c ∧ A.Dt d.1 d.2 = c)
      = ((Finset.univ.filter (fun s : Fin 16 => s.val < 16 ∧ s ≠ c)).sigma (fun s => Finset.univ.filter fun j : Fin 1024 => A.Dt s j = c)).map (Equiv.sigmaEquivProd (Fin 16) (Fin 1024)).toEmbedding := by
    ext ⟨s, j⟩
    simp
  rw [e, Finset.card_map, Finset.card_sigma]; rfl
theorem recvTo_le : recvTo A c 16 ≤ 1024 := by
  refine le_trans (Finset.sum_le_sum_of_subset (Finset.filter_subset _ _)) ?_
  exact (A.bal c).le

theorem trips_t5 : ∀ n : Fin 1025, (k0_t5_loop (BitVec.ofNat 32 n.val)).trips = n.val := by decide +kernel
theorem trips_t6 : ∀ n : Fin 1025, (k0_t6_loop (BitVec.ofNat 32 n.val)).trips = 0 := by decide +kernel
theorem trips_t7 : ∀ n : Fin 1025, (k0_t7_loop (BitVec.ofNat 32 n.val)).trips = 1024 - n.val := by decide +kernel
theorem trips_t8 : ∀ n : Fin 1025, (k0_t8_loop (BitVec.ofNat 32 n.val)).trips = 0 := by decide +kernel
theorem chk4_dev : ∀ n : Fin 1025, k0_chk4 (BitVec.ofNat 32 n.val) := by decide +kernel
theorem off_snd (c : Dev nD) (d : ℕ) : (![d, (Scalar.indexCast (me c)).toNat] : Fin 2 → ℕ) = ![d, c.val] := by
  have h : (Scalar.indexCast (me c)).toNat = c.val := me_toNat c
  rw [h]

/-- The word of the rows that stay. -/
abbrev stayW : BitVec 32 := A.MC c (ix1 c)
theorem stayW_fin : ∃ n : Fin 1025, n.val = cnt A.Dt c c ∧ stayW A c = BitVec.ofNat 32 n.val :=
  ⟨⟨cnt A.Dt c c, Nat.lt_succ_of_le (cnt_le _ c c)⟩, rfl, rfl⟩
theorem recvW_fin : ∃ n : Fin 1025, n.val = recvTo A c 16 ∧ recvW A c 16 = BitVec.ofNat 32 n.val :=
  ⟨⟨recvTo A c 16, Nat.lt_succ_of_le (recvTo_le A c)⟩, rfl, recvW_eq A c 16 (le_refl _)⟩
theorem chk4_stay : k0_chk4 (stayW A c) := by
  obtain ⟨n, -, e⟩ := stayW_fin A c; rw [e]; exact chk4_dev n

theorem t9_eq : k0_t9_loop c (A.CA (ix2 0 c)) (A.CA (ix2 1 c)) (A.CA (ix2 2 c)) (A.CA (ix2 3 c)) (A.CA (ix2 4 c)) (A.CA (ix2 5 c)) (A.CA (ix2 6 c)) (A.CA (ix2 7 c)) (A.CA (ix2 8 c)) (A.CA (ix2 9 c)) (A.CA (ix2 10 c)) (A.CA (ix2 11 c)) (A.CA (ix2 12 c)) (A.CA (ix2 13 c)) (A.CA (ix2 14 c)) (A.CA (ix2 15 c)) = k0_t5_loop (recvW A c 16) := rfl
theorem t10_eq : k0_t10_loop c (A.CA (ix2 0 c)) (A.CA (ix2 1 c)) (A.CA (ix2 2 c)) (A.CA (ix2 3 c)) (A.CA (ix2 4 c)) (A.CA (ix2 5 c)) (A.CA (ix2 6 c)) (A.CA (ix2 7 c)) (A.CA (ix2 8 c)) (A.CA (ix2 9 c)) (A.CA (ix2 10 c)) (A.CA (ix2 11 c)) (A.CA (ix2 12 c)) (A.CA (ix2 13 c)) (A.CA (ix2 14 c)) (A.CA (ix2 15 c)) = k0_t6_loop (recvW A c 16) := rfl
theorem chk5_recv : k0_chk5 c (A.CA (ix2 0 c)) (A.CA (ix2 1 c)) (A.CA (ix2 2 c)) (A.CA (ix2 3 c)) (A.CA (ix2 4 c)) (A.CA (ix2 5 c)) (A.CA (ix2 6 c)) (A.CA (ix2 7 c)) (A.CA (ix2 8 c)) (A.CA (ix2 9 c)) (A.CA (ix2 10 c)) (A.CA (ix2 11 c)) (A.CA (ix2 12 c)) (A.CA (ix2 13 c)) (A.CA (ix2 14 c)) (A.CA (ix2 15 c)) := by
  obtain ⟨n, -, e⟩ := recvW_fin A c
  unfold k0_chk5
  rw [t9_eq, t10_eq, e]
  exact ⟨(chk4_dev n).1, (chk4_dev n).2.1⟩

/-! ## The parts -/

omit [FloatOps F] in
theorem rot_part14 (P Q S T U V W R : sProp 𝕄) : iprop(P ∗ Q ∗ S ∗ T ∗ U ∗ V ∗ W ∗ R) ⊢ iprop(V ∗ W ∗ P ∗ Q ∗ S ∗ T ∗ U ∗ R) := by
  iintro ⟨H1, H2, H3, H4, H5, H6, H7, H8⟩
  isplitl [H6]; · iexact H6
  isplitl [H7]; · iexact H7
  isplitl [H1]; · iexact H1
  isplitl [H2]; · iexact H2
  isplitl [H3]; · iexact H3
  isplitl [H4]; · iexact H4
  isplitl [H5]; · iexact H5
  iexact H8

set_option maxHeartbeats 4000000 in
/-- The loop over the rows, the number of rows that stay, and the counts of devices 0 to 5 for this device. -/
theorem part14_spec {Q : (Σ' (v236 : Elt F .i32) (k0_hw4 : k0_chk4 v236) (v239 : Elt F .i32) (v244 : Elt F .i32) (v249 : Elt F .i32) (v254 : Elt F .i32) (v259 : Elt F .i32) (v264 : Elt F .i32) (v266 : BitVec 32), BitVec 1) → sProp 𝕄} {R : sProp 𝕄}
    {q q' : PosShare TreeShare} {O : CellTallies nD τ sig Unit}
    (h : ∀ (hw : k0_chk4 (stayW A c)) (x : BitVec 32) (y : BitVec 1), iprop(((ℓt c) ↦[Finset.univ]{fullShare} A.CA) ∗ ((ℓc c) ↦[Finset.univ]{q'} A.MC c) ∗ SendSt A K c q O R 1024)
      ⊢ Q ⟨stayW A c, hw, (A.CA (ix2 0 c)), (A.CA (ix2 1 c)), (A.CA (ix2 2 c)), (A.CA (ix2 3 c)), (A.CA (ix2 4 c)), (A.CA (ix2 5 c)), x, y⟩) :
    SendSt A K c q O iprop(((ℓc c) ↦[Finset.univ]{q'} A.MC c) ∗ ((ℓt c) ↦[Finset.univ]{fullShare} A.CA) ∗ R) 0
      ⊢ wpK c (k0_part14 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c)) Q := by
  rw [k0_part14_eq_skeleton]
  unfold k0_part14_skel
  refine for_step c 1024 trips_t4 (SendSt A K c q O _) (fun k => send_trip A K c q O _ (me c) k) ?_
  unfold SendSt at h ⊢
  refine (rot_part14 _ _ _ _ _ _ _ _).trans ?_
  refine get_c c c (off_one c) ?_
  refine asm_step c (chk4_stay A c) ?_
  refine (front2 _ _ _).trans ?_
  refine get_t c 0 c (Finset.mem_univ _) (off_snd c 0) ?_
  refine get_t c 1 c (Finset.mem_univ _) (off_snd c 1) ?_
  refine get_t c 2 c (Finset.mem_univ _) (off_snd c 2) ?_
  refine get_t c 3 c (Finset.mem_univ _) (off_snd c 3) ?_
  refine get_t c 4 c (Finset.mem_univ _) (off_snd c 4) ?_
  refine get_t c 5 c (Finset.mem_univ _) (off_snd c 5) ?_
  exact ret_step c (h _ _ _)

set_option maxHeartbeats 4000000 in
/-- The counts of devices 6 to 13 for this device. -/
theorem part15_spec {Q : (Σ' (v269 : Elt F .i32) (v274 : Elt F .i32) (v279 : Elt F .i32) (v284 : Elt F .i32) (v289 : Elt F .i32) (v294 : Elt F .i32) (v299 : Elt F .i32) (v301 : BitVec 32) (v302 : BitVec 1) (v304 : Elt F .i32), BitVec 32) → sProp 𝕄} {R : sProp 𝕄}
    (v : BitVec 32) (w : BitVec 1)
    (h : ∀ (x : BitVec 32) (y : BitVec 1), iprop(((ℓt c) ↦[Finset.univ]{fullShare} A.CA) ∗ R)
      ⊢ Q ⟨(A.CA (ix2 6 c)), (A.CA (ix2 7 c)), (A.CA (ix2 8 c)), (A.CA (ix2 9 c)), (A.CA (ix2 10 c)), (A.CA (ix2 11 c)), (A.CA (ix2 12 c)), x, y, (A.CA (ix2 13 c)), 0#32⟩) :
    iprop(((ℓt c) ↦[Finset.univ]{fullShare} A.CA) ∗ R)
      ⊢ wpK c (k0_part15 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) v w) Q := by
  rw [k0_part15_eq_skeleton]
  unfold k0_part15_skel
  refine get_t c 6 c (Finset.mem_univ _) (off_snd c 6) ?_
  refine get_t c 7 c (Finset.mem_univ _) (off_snd c 7) ?_
  refine get_t c 8 c (Finset.mem_univ _) (off_snd c 8) ?_
  refine get_t c 9 c (Finset.mem_univ _) (off_snd c 9) ?_
  refine get_t c 10 c (Finset.mem_univ _) (off_snd c 10) ?_
  refine get_t c 11 c (Finset.mem_univ _) (off_snd c 11) ?_
  refine get_t c 12 c (Finset.mem_univ _) (off_snd c 12) ?_
  refine get_t (J := fun v => Pure.pure _) (hp := rfl) (h1 := numel1_S1x1) c 13 c (Finset.mem_univ _) (off_snd c 13) ?_
  exact ret_step c (h _ _)

/-- Before a waiting loop. -/
def DrainIn (q : Option Own) : sProp 𝕄 :=
  iprop(atPos ER (kcell (c, q)) 0 ∅ 0 ∗ bigSep (Finset.range (nDuty A c q)) (fun _ => cred (tallyAt (kcell (c, q)) () NR)))
/-- After a waiting loop. -/
def DrainOut (q : Option Own) : sProp 𝕄 := iprop(semVal (kcell (c, q)) 0 ∗ bigSep (dutyOf A.Dt c q) (payOf A c q))

omit [FloatOps F] in
theorem rot_drain (P Q S T R : sProp 𝕄) : iprop(P ∗ Q ∗ S ∗ T ∗ R) ⊢ iprop(P ∗ T ∗ S ∗ Q ∗ R) := by
  iintro ⟨H1, H2, H3, H4, H5⟩
  isplitl [H1]; · iexact H1
  isplitl [H4]; · iexact H4
  isplitl [H3]; · iexact H3
  isplitl [H2]; · iexact H2
  iexact H5
omit [FloatOps F] in
theorem rot_drain' (P Q S T U R : sProp 𝕄) : iprop(P ∗ Q ∗ S ∗ T ∗ U ∗ R) ⊢ iprop(P ∗ U ∗ S ∗ T ∗ Q ∗ R) := by
  iintro ⟨H1, H2, H3, H4, H5, H6⟩
  isplitl [H1]; · iexact H1
  isplitl [H5]; · iexact H5
  isplitl [H3]; · iexact H3
  isplitl [H4]; · iexact H4
  isplitl [H2]; · iexact H2
  iexact H6

set_option maxHeartbeats 4000000 in
/-- The counts of devices 14 and 15 for this device, then the three waiting loops. -/
theorem part16_spec {Q : BitVec 32 → sProp 𝕄} {R : sProp 𝕄} {O : CellTallies nD τ sig Unit} (hO : Above 3 O) (hw : k0_chk4 (stayW A c)) (x : BitVec 32) (y : BitVec 1)
    (h : ∀ v, iprop(Ctx A K ∗ DrainOut A c (some .dr) ∗ Owes c O ∗ DrainOut A c (some .ds) ∗ DrainOut A c (some .lo) ∗ ((ℓt c) ↦[Finset.univ]{fullShare} A.CA) ∗ R) ⊢ Q v) :
    iprop(((ℓt c) ↦[Finset.univ]{fullShare} A.CA) ∗ Ctx A K ∗ DrainIn A c (some .lo) ∗ Owes c O ∗ DrainIn A c (some .ds) ∗ DrainIn A c (some .dr) ∗ R)
      ⊢ wpK c (k0_part16 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) (stayW A c) hw (A.CA (ix2 0 c)) (A.CA (ix2 1 c)) (A.CA (ix2 2 c)) (A.CA (ix2 3 c)) (A.CA (ix2 4 c)) (A.CA (ix2 5 c)) (A.CA (ix2 6 c)) (A.CA (ix2 7 c)) (A.CA (ix2 8 c)) (A.CA (ix2 9 c)) (A.CA (ix2 10 c)) (A.CA (ix2 11 c)) (A.CA (ix2 12 c)) x y (A.CA (ix2 13 c)) 0#32) Q := by
  rw [k0_part16_eq_skeleton]
  unfold k0_part16_skel
  refine get_t c 14 c (Finset.mem_univ _) (off_snd c 14) ?_
  refine get_t c 15 c (Finset.mem_univ _) (off_snd c 15) ?_
  refine asm_step c (chk5_recv A c) ?_
  obtain ⟨n, hn, en⟩ := stayW_fin A c
  obtain ⟨n', hn', en'⟩ := recvW_fin A c
  refine (?_ : _ ⊢ iprop(Ctx A K ∗ DrainIn A c (some .lo) ∗ Owes c O ∗ DrainIn A c (some .ds) ∗ DrainIn A c (some .dr) ∗ ((ℓt c) ↦[Finset.univ]{fullShare} A.CA) ∗ R)).trans ?_
  · iintro ⟨H1, H2, H3, H4, H5, H6, H7⟩
    isplitl [H2]; · iexact H2
    isplitl [H3]; · iexact H3
    isplitl [H4]; · iexact H4
    isplitl [H5]; · iexact H5
    isplitl [H6]; · iexact H6
    isplitl [H1]; · iexact H1
    iexact H7
  refine drain_loop A K c (some .lo) _ rfl rfl (Nat.zero_le 3) hO rfl ((congrArg (fun v => (k0_t5_loop v).trips) en).trans ((trips_t5 n).trans (hn.trans (lo_count A c).symm))) (fun _ => rfl) ?_
  refine for_none c ((congrArg (fun v => (k0_t6_loop v).trips) en).trans (trips_t6 n)) ?_
  refine (rot_drain _ _ _ _ _).trans ?_
  refine drain_loop (src := vrow Mo ![0, 0] inb_S1024x512_S1x512_0_0) (dst := vrow Mx ![0, 0] inb_S1024x512_S1x512_0_0) A K c (some .ds) _ rfl rfl (Nat.zero_le 3) hO rfl ((congrArg (fun v => (k0_t7_loop v).trips) en).trans ((trips_t7 n).trans ((congrArg (1024 - ·) hn).trans (ds_count A c).symm))) (fun _ => rfl) ?_
  refine for_none c ((congrArg (fun v => (k0_t8_loop v).trips) en).trans (trips_t8 n)) ?_
  refine (rot_drain' _ _ _ _ _ _).trans ?_
  refine (?_ : _ ⊢ iprop(Ctx A K ∗ DrainIn A c (some .dr) ∗ Owes c O ∗ DrainOut A c (some .ds) ∗ DrainOut A c (some .lo) ∗ ((ℓt c) ↦[Finset.univ]{fullShare} A.CA) ∗ R)).trans ?_
  · unfold DrainIn DrainOut
    iintro ⟨H1, H2, H3, H4, H5, H6, H7⟩
    isplitl [H1]; · iexact H1
    isplitl [H2]; · iexact H2
    isplitl [H3]; · iexact H3
    isplitl [H5]; · iexact H5
    isplitl [H4]; · iexact H4
    isplitl [H6]; · iexact H6
    iexact H7
  refine drain_loop A K c (some .dr) _ rfl rfl (le_refl 3) hO rfl ((congrArg Scf.Loop.trips (t9_eq A c)).trans ((congrArg (fun v => (k0_t5_loop v).trips) en').trans ((trips_t5 n').trans (hn'.trans (dr_count A c).symm)))) (fun _ => rfl) ?_
  refine for_none c ((congrArg Scf.Loop.trips (t10_eq A c)).trans ((congrArg (fun v => (k0_t6_loop v).trips) en').trans (trips_t6 n'))) ?_
  exact ret_step c (h _)

end Cert.AllToAll

end
-- ==== Proof.Glue.lean ====
/-
# Between the parts of the kernel

Regrouping of what a device holds: rows by device, by destination and by place, and shares of the count vector.
-/
module

public import proofs.«01_k».proof.Proof.Drain

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of resources -/

omit [FloatOps F] in
/-- A family over `s`, renamed along a bijection onto `t`. -/
theorem bigSep_bij {I J : Type} [DecidableEq I] [DecidableEq J] (s : Finset I) (t : Finset J) (f : I → J) (g : J → I) (h₁ : ∀ i ∈ s, f i ∈ t) (h₂ : ∀ j ∈ t, g j ∈ s)
    (h₃ : ∀ i ∈ s, g (f i) = i) (h₄ : ∀ j ∈ t, f (g j) = j) {Φ : I → sProp 𝕄} {Ψ : J → sProp 𝕄} (h : ∀ i ∈ s, Φ i = Ψ (f i)) :
    bigSep s Φ = bigSep t Ψ := by
  have e : t = s.image f := by
    ext j; rw [Finset.mem_image]
    exact ⟨fun hj => ⟨g j, h₂ j hj, h₄ j hj⟩, fun ⟨i, hi, e⟩ => e ▸ h₁ i hi⟩
  rw [e, BI.bigSep_image_of_injOn (fun i hi i' hi' e => by rw [← h₃ i hi, ← h₃ i' hi', e])]
  exact bigSep_congr h

omit [FloatOps F] in
/-- A family grouped by the value of `f`, ungrouped. -/
theorem bigSep_fiber {I J : Type} [Fintype I] [Fintype J] [DecidableEq I] [DecidableEq J] (p : J → Prop) [DecidablePred p] (f : I → J) (Ψ : J → I → sProp 𝕄) :
    bigSep (Finset.univ.filter p) (fun j => bigSep (Finset.univ.filter fun i => f i = j) (Ψ j)) = bigSep (Finset.univ.filter fun i => p (f i)) fun i => Ψ (f i) i := by
  have e₁ : bigSep (Finset.univ.filter p) (fun j => bigSep (Finset.univ.filter fun i => f i = j) (Ψ j))
      = bigSep Finset.univ fun j => bigSep Finset.univ fun i => if f i = j ∧ p j then Ψ j i else iprop(emp) := by
    rw [BI.bigSep_filter]
    refine bigSep_congr fun j _ => ?_
    by_cases h : p j
    · rw [if_pos h, BI.bigSep_filter]
      refine bigSep_congr fun i _ => ?_
      simp only [h, and_true]; rfl
    · rw [if_neg h]
      exact ((bigSep_congr fun i _ => if_neg fun hh => h hh.2).trans (BI.bigSep_emp_const _)).symm
  rw [e₁, BI.bigSep_univ_comm]
  conv_rhs => rw [BI.bigSep_filter]
  refine bigSep_congr fun i _ => ?_
  have e₂ : (bigSep Finset.univ fun j => if f i = j ∧ p j then Ψ j i else iprop(emp)) = bigSep (Finset.univ.filter fun j => f i = j ∧ p j) fun j => Ψ j i :=
    (BI.bigSep_filter _ _ _).symm
  refine e₂.trans ?_
  by_cases h : p (f i)
  · rw [if_pos h, show (Finset.univ.filter fun j => f i = j ∧ p j) = {f i} from ?_, bigSep_singleton]
    ext j; rw [Finset.mem_filter, Finset.mem_singleton]
    exact ⟨fun hh => hh.2.1.symm, fun hh => ⟨Finset.mem_univ _, hh.symm, hh ▸ h⟩⟩
  · rw [if_neg h, Finset.filter_false_of_mem fun j _ (hh : f i = j ∧ p j) => h (hh.1.symm ▸ hh.2), bigSep_empty]

omit [FloatOps F] in
theorem sep_split {I : Type} (s : Finset I) (p : I → Prop) [DecidablePred p] [DecidableEq I] (Φ : I → sProp 𝕄) :
    bigSep s Φ = iprop(bigSep (s.filter p) Φ ∗ bigSep (s.filter fun i => ¬ p i) Φ) := BI.bigSep_filter_split s p

omit [FloatOps F] in
/-- A family over all devices: the one of `c` and those of the others. -/
theorem sep_me (c : Fin 16) (Φ : Fin 16 → sProp 𝕄) : bigSep Finset.univ Φ = iprop(Φ c ∗ bigSep (Finset.univ.filter (· ≠ c)) Φ) := by
  rw [sep_split Finset.univ (· = c), Finset.filter_eq' Finset.univ c, if_pos (Finset.mem_univ _), bigSep_singleton]

omit [FloatOps F] in
/-- A family over the kernel's own semaphores. -/
theorem own_split (Φ : Own → sProp 𝕄) : bigSep Finset.univ Φ = iprop((bigSep Finset.univ fun p => Φ (.cs p)) ∗ (bigSep Finset.univ fun p => Φ (.cr p)) ∗ Φ .ds ∗ Φ .dr ∗ Φ .lo ∗ Φ .ex) := by
  have e : (Finset.univ : Finset Own) = Finset.univ.image Own.cs ∪ (Finset.univ.image Own.cr ∪ ({Own.ds} ∪ ({Own.dr} ∪ ({Own.lo} ∪ {Own.ex})))) := by decide
  rw [e, union_sep (by decide), union_sep (by decide), union_sep (by decide), union_sep (by decide), union_sep (by decide),
    BI.bigSep_image_of_injOn (fun p _ p' _ h => by injection h), BI.bigSep_image_of_injOn (fun p _ p' _ h => by injection h),
    bigSep_singleton, bigSep_singleton, bigSep_singleton, bigSep_singleton]

variable (A : Inp F) (c : Dev nD)

omit [FloatOps F] in
theorem others_sep (Φ : Duty → sProp 𝕄) : bigSep (othersD c) Φ = bigSep (Finset.univ.filter (· ≠ c)) fun p => Φ (p, 0) :=
  bigSep_bij _ _ Prod.fst (fun p => (p, 0)) (fun d h => by simp [othersD] at h ⊢; exact h.2) (fun p h => by simp [othersD] at h ⊢; exact h)
    (fun d h => by simp [othersD] at h; exact Prod.ext rfl h.1.symm) (fun p _ => rfl) (fun d h => by simp [othersD] at h; rw [← h.1])
omit [FloatOps F] in
theorem lo_sep (Φ : Duty → sProp 𝕄) : bigSep (dutyOf A.Dt c (some .lo)) Φ = bigSep (Finset.univ.filter fun j => A.Dt c j = c) fun j => Φ (c, j) :=
  bigSep_bij _ _ Prod.snd (fun j => (c, j)) (fun d h => by rcases d with ⟨a, j⟩; simp [dutyOf] at h ⊢; obtain ⟨rfl, h⟩ := h; exact h)
    (fun j h => by simpa [dutyOf] using h) (fun d h => by rcases d with ⟨a, j⟩; simp [dutyOf] at h ⊢; exact h.1.symm) (fun p _ => rfl)
    (fun d h => by rcases d with ⟨a, j⟩; simp [dutyOf] at h ⊢; rw [h.1])
omit [FloatOps F] in
theorem ds_sep (Φ : Duty → sProp 𝕄) : bigSep (dutyOf A.Dt c (some .ds)) Φ = bigSep (Finset.univ.filter fun j => A.Dt c j ≠ c) fun j => Φ (c, j) :=
  bigSep_bij _ _ Prod.snd (fun j => (c, j)) (fun d h => by rcases d with ⟨a, j⟩; simp [dutyOf] at h ⊢; obtain ⟨rfl, h⟩ := h; exact h)
    (fun j h => by simpa [dutyOf] using h) (fun d h => by rcases d with ⟨a, j⟩; simp [dutyOf] at h ⊢; exact h.1.symm) (fun p _ => rfl)
    (fun d h => by rcases d with ⟨a, j⟩; simp [dutyOf] at h ⊢; rw [h.1])
omit [FloatOps F] in
/-- The rows coming from other devices, by device. -/
theorem dr_sep (Φ : Duty → sProp 𝕄) : bigSep (dutyOf A.Dt c (some .dr)) Φ
    = bigSep (Finset.univ.filter (· ≠ c)) fun p => bigSep (Finset.univ.filter fun j => A.Dt p j = c) fun j => Φ (p, j) := by
  have e₁ : bigSep (dutyOf A.Dt c (some .dr)) Φ = bigSep Finset.univ fun d : Duty => if d.1 ≠ c ∧ A.Dt d.1 d.2 = c then Φ d else iprop(emp) := BI.bigSep_filter _ _ _
  rw [e₁, BI.bigSep_univ_prod, BI.bigSep_filter]
  refine bigSep_congr fun p _ => ?_
  by_cases h : p ≠ c
  · rw [if_pos h, BI.bigSep_filter]
    refine bigSep_congr fun j _ => ?_
    simp [h]; rfl
  · rw [if_neg h]
    refine (bigSep_congr fun j _ => if_neg fun hh => h hh.1).trans (BI.bigSep_emp_const _)
omit [FloatOps F] in
/-- The rows of the output: those that come from this device and those that come from others. -/
theorem out_sep (Φ : Fin 1024 → sProp 𝕄) : bigSep Finset.univ Φ
    = iprop(bigSep (dutyOf A.Dt c (some .lo)) (fun d => Φ (A.at d.1 d.2)) ∗ bigSep (dutyOf A.Dt c (some .dr)) (fun d => Φ (A.at d.1 d.2))) := by
  have e₁ : bigSep Finset.univ Φ = bigSep (Finset.univ.filter fun d : Duty => A.Dt d.1 d.2 = c) fun d => Φ (A.at d.1 d.2) :=
    bigSep_bij _ _ (fun r => src A.bal c r) (fun d => A.at d.1 d.2) (fun r _ => by simp [dest_src]) (fun _ _ => Finset.mem_univ _)
      (fun r _ => pos_src A.bal c r) (fun d h => by
        rcases d with ⟨s, j⟩
        have h' : A.Dt s j = c := by simpa using h
        have := src_place A.bal s j
        rw [h'] at this; exact this) (fun r _ => congrArg Φ (pos_src A.bal c r).symm)
  rw [e₁, sep_split _ (fun d : Duty => d.1 = c), Finset.filter_filter, Finset.filter_filter]
  have e₂ : (Finset.univ.filter fun d : Duty => A.Dt d.1 d.2 = c ∧ d.1 = c) = dutyOf A.Dt c (some .lo) := by
    ext d; simp [dutyOf, and_comm]
  have e₃ : (Finset.univ.filter fun d : Duty => A.Dt d.1 d.2 = c ∧ ¬ d.1 = c) = dutyOf A.Dt c (some .dr) := by
    ext d; simp [dutyOf, and_comm]
  rw [e₂, e₃]

/-! ## Whole arrays and their rows -/

omit [FloatOps F] in
theorem x_rows (f : S1024x512.Idx → Elt F .f32) : (((ℓx c) ↦[Finset.univ]{fullShare} f) : sProp 𝕄) = bigSep Finset.univ fun r => xRow c r f := by
  have : (((ℓx c) ↦[Finset.univ.biUnion fun r : Fin 1024 => rowSet (n := 1024) (p := 512) r]{fullShare} f) : sProp 𝕄) = bigSep Finset.univ fun r => xRow c r f :=
    pointsTo_biUnion _ _ fun r _ r' _ h => rowSet_disjoint h
  rw [biUnion_rowSet] at this; exact this
omit [FloatOps F] in
theorem o_rows (f : S1024x512.Idx → Elt F .f32) : (((ℓo c) ↦[Finset.univ]{fullShare} f) : sProp 𝕄) = bigSep Finset.univ fun r => oRow c r f := by
  have : (((ℓo c) ↦[Finset.univ.biUnion fun r : Fin 1024 => rowSet (n := 1024) (p := 512) r]{fullShare} f) : sProp 𝕄) = bigSep Finset.univ fun r => oRow c r f :=
    pointsTo_biUnion _ _ fun r _ r' _ h => rowSet_disjoint h
  rw [biUnion_rowSet] at this; exact this
omit [FloatOps F] in
theorem t_rows (f : S16x16.Idx → Elt F .i32) : (((ℓt c) ↦[Finset.univ]{fullShare} f) : sProp 𝕄) = bigSep Finset.univ fun r => tRow c r f := by
  have : (((ℓt c) ↦[Finset.univ.biUnion fun r : Fin 16 => rowSet (n := 16) (p := 16) r]{fullShare} f) : sProp 𝕄) = bigSep Finset.univ fun r => tRow c r f :=
    pointsTo_biUnion _ _ fun r _ r' _ h => rowSet_disjoint h
  rw [biUnion_rowSet] at this; exact this

/-! ## From part to part -/

/-- What the barrier brings: the rows of the others' tables and outputs that this device fills. -/
theorem bar_open : RegOut A none c ⊢ iprop(semVal (kcell (c, none)) 0 ∗ bigSep (Finset.univ.filter (· ≠ c)) (fun p => iprop(∃ f, tRow (F := F) p c f))
    ∗ bigSep (Finset.univ.filter fun j => A.Dt c j ≠ c) (fun j => iprop(∃ f, oRow (F := F) (A.Dt c j) (A.at c j) f))) := by
  unfold RegOut
  have e : bigSep (othersD c) (payOf A c none) = iprop(bigSep (Finset.univ.filter fun j => A.Dt c j ≠ c) (fun j => iprop(∃ f, oRow (F := F) (A.Dt c j) (A.at c j) f))
      ∗ bigSep (Finset.univ.filter (· ≠ c)) (fun p => iprop(∃ f, tRow (F := F) p c f))) := by
    rw [others_sep]
    show bigSep _ (fun p => iprop(bigSep (Finset.univ.filter fun j => A.Dt c j = p) (fun j => iprop(∃ f, oRow p (A.at c j) f)) ∗ ∃ f, tRow p c f)) = _
    rw [BI.bigSep_sep', bigSep_fiber (· ≠ c) (fun j => A.Dt c j) (fun p j => iprop(∃ f, oRow (F := F) p (A.at c j) f))]
  rw [e]
  iintro ⟨H1, H2, H3⟩
  isplitl [H1]; · iexact H1
  isplitl [H3]; · iexact H3
  iexact H2

/-- The duties of the copies of the count vector. -/
def CntTok : sProp 𝕄 := bigSep (Finset.univ.filter (· ≠ c)) fun p : Fin 16 =>
  iprop(dutyTok ER (kcell (c, some (.cs p))) 0 (c, 0) ∗ dutyTok ER (kcell (p, some (.cr c))) 0 (c, 0))

omit [FloatOps F] in
/-- The count vector dealt into shares, one for each copy. -/
theorem cnt_deal (f : S16.Idx → Elt F .i32) : (((ℓc c) ↦[Finset.univ]{fullShare} f) : sProp 𝕄)
    ⊢ iprop(((ℓc c) ↦[Finset.univ]{Transfers.shareDrop fullShare 16} f) ∗ cTok c c f ∗ bigSep (Finset.univ.filter (· ≠ c)) (fun p => cTok c p f)) :=
  (Transfers.pointsTo_toks_split fullShare 16).trans (Entails.of_eq (congrArg (fun z => iprop(((ℓc c) ↦[Finset.univ]{Transfers.shareDrop fullShare 16} f) ∗ z)) (sep_me c (fun p => cTok c p f))))
omit [FloatOps F] in
/-- The shares put together again. -/
theorem cnt_join (f : S16.Idx → Elt F .i32) : iprop(((ℓc c) ↦[Finset.univ]{Transfers.shareDrop fullShare 16} f) ∗ cTok c c f ∗ bigSep (Finset.univ.filter (· ≠ c)) (fun p => cTok c p f))
    ⊢ (((ℓc c) ↦[Finset.univ]{fullShare} f) : sProp 𝕄) :=
  (Entails.of_eq (congrArg (fun z => iprop(((ℓc c) ↦[Finset.univ]{Transfers.shareDrop fullShare 16} f) ∗ z)) (sep_me c (fun p => cTok c p f)).symm)).trans (Transfers.pointsTo_toks_join fullShare 16)

/-- The copies of the count vector can start. -/
theorem cnt_begin (O : CellTallies nD τ sig Unit) :
    iprop(((ℓc c) ↦[Finset.univ]{fullShare} A.MC c) ∗ CntTok (F := F) c ∗ bigSep (Finset.univ.filter (· ≠ c)) (fun p => iprop(∃ f, tRow (F := F) p c f)) ∗ Owes c (owCnt c 0 + O))
      ⊢ iprop(((ℓc c) ↦[Finset.univ]{Transfers.shareDrop fullShare 16} A.MC c) ∗ cTok c c (A.MC c) ∗ CntSt A c O 0) := by
  unfold CntSt CntTok
  rw [from_all, upto_zero, bigSep_empty]
  iintro ⟨Hc, Ht, Hr, HO⟩
  ihave Hc := (cnt_deal c (A.MC c)) $$ Hc
  icases Hc with ⟨Hd, Hm, Hc⟩
  isplitl [Hd]; · iexact Hd
  isplitl [Hm]; · iexact Hm
  isplitl [Hc Ht Hr]
  · have e : bigSep (Finset.univ.filter (· ≠ c)) (cntItem A c) = iprop(bigSep (Finset.univ.filter (· ≠ c)) (fun p => cTok c p (A.MC c))
        ∗ bigSep (Finset.univ.filter (· ≠ c)) (fun p : Fin 16 => iprop(dutyTok ER (kcell (c, some (.cs p))) 0 (c, 0) ∗ dutyTok ER (kcell (p, some (.cr c))) 0 (c, 0)))
        ∗ bigSep (Finset.univ.filter (· ≠ c)) (fun p => iprop(∃ f, tRow (F := F) p c f))) := by
      rw [← BI.bigSep_sep', ← BI.bigSep_sep']
      refine bigSep_congr fun p _ => ?_
      unfold cntItem
      exact congrArg (fun z => iprop(cTok c p (A.MC c) ∗ z)) (equiv_iff.mp ⟨BI.sep_assoc, BI.sep_assoc'⟩ : iprop((_ ∗ _) ∗ _) = iprop(_ ∗ _ ∗ _)).symm
    iapply (Entails.of_eq e.symm)
    isplitl [Hc]; · iexact Hc
    isplitl [Ht]; · iexact Ht
    iexact Hr
  isplitr; · iempintro
  iexact HO

/-- What is left once all counts are there: the cells at zero, the count vector whole again, the table. -/
def CntDone : sProp 𝕄 := iprop(bigSep (Finset.univ.filter (· ≠ c)) (fun p : Fin 16 => semVal (kcell (c, some (.cs p))) 0)
  ∗ bigSep (Finset.univ.filter (· ≠ c)) (fun p : Fin 16 => semVal (kcell (c, some (.cr p))) 0) ∗ bigSep (Finset.univ.filter (· ≠ c)) (fun p => cTok c p (A.MC c)))
theorem cnt_end (O : CellTallies nD τ sig Unit) : iprop(WtSt A c O 16 ∗ tRow c c A.CA) ⊢ iprop(CntDone A c ∗ ((ℓt c) ↦[Finset.univ]{fullShare} A.CA) ∗ Owes c O) := by
  unfold WtSt CntDone
  rw [upto_all, t_rows, sep_me c (fun r => tRow c r A.CA)]
  have e : bigSep (Finset.univ.filter (· ≠ c)) (wtDone A c) = iprop(bigSep (Finset.univ.filter (· ≠ c)) (fun p : Fin 16 => semVal (kcell (c, some (.cs p))) 0)
    ∗ bigSep (Finset.univ.filter (· ≠ c)) (fun p : Fin 16 => semVal (kcell (c, some (.cr p))) 0) ∗ bigSep (Finset.univ.filter (· ≠ c)) (fun p => cTok c p (A.MC c))
    ∗ bigSep (Finset.univ.filter (· ≠ c)) (fun p => tRow c p A.CA)) := by
    rw [← BI.bigSep_sep', ← BI.bigSep_sep', ← BI.bigSep_sep']; rfl
  rw [e]
  iintro ⟨⟨-, ⟨H1, H2, H3, H4⟩, HO⟩, Hr⟩
  isplitl [H1 H2 H3]
  · isplitl [H1]; · iexact H1
    isplitl [H2]; · iexact H2
    iexact H3
  isplitl [Hr H4]
  · isplitl [Hr]; · iexact Hr
    iexact H4
  iexact HO

/-- The duties of the rows that stay and of those that leave. -/
def RowTok : sProp 𝕄 := iprop(bigSep (Finset.univ.filter fun j => A.Dt c j = c) (fun j => dutyTok ER (kcell (c, some .lo)) 0 (c, j))
  ∗ bigSep (Finset.univ.filter fun j => A.Dt c j ≠ c) (fun j => iprop(dutyTok ER (kcell (c, some .ds)) 0 (c, j) ∗ dutyTok ER (kcell (A.Dt c j, some .dr)) 0 (c, j))))
/-- The rows of the output that this device fills itself. -/
def OwnOut : sProp 𝕄 := bigSep (Finset.univ.filter fun j => A.Dt c j = c) fun j => iprop(∃ f, oRow (F := F) c (A.at c j) f)

/-- The copies of the rows can start. -/
theorem row_begin (O : CellTallies nD τ sig Unit) :
    iprop(((ℓx c) ↦[Finset.univ]{fullShare} A.X c) ∗ RowTok A c ∗ OwnOut A c
      ∗ bigSep (Finset.univ.filter fun j => A.Dt c j ≠ c) (fun j => iprop(∃ f, oRow (F := F) (A.Dt c j) (A.at c j) f)) ∗ Owes c (owRow A c 0 + O))
      ⊢ RowSt A c O 0 0 := by
  unfold RowSt RowTok OwnOut
  rw [from_all, from_all, upto_zero, upto_zero, bigSep_empty, x_rows, sep_split _ (fun j => A.Dt c j = c)]
  have e₁ : bigSep (Finset.univ.filter fun j => A.Dt c j = c) (locItem A c) = iprop(bigSep (Finset.univ.filter fun j => A.Dt c j = c) (fun j => xRow c j (A.X c))
      ∗ bigSep (Finset.univ.filter fun j => A.Dt c j = c) (fun j => iprop(∃ f, oRow (F := F) c (A.at c j) f))
      ∗ bigSep (Finset.univ.filter fun j => A.Dt c j = c) (fun j => dutyTok ER (kcell (c, some .lo)) 0 (c, j))) := by
    rw [← BI.bigSep_sep', ← BI.bigSep_sep']; rfl
  have e₂ : bigSep (Finset.univ.filter fun j => A.Dt c j ≠ c) (sendItem A c) = iprop(bigSep (Finset.univ.filter fun j => A.Dt c j ≠ c) (fun j => xRow c j (A.X c))
      ∗ bigSep (Finset.univ.filter fun j => A.Dt c j ≠ c) (fun j => iprop(∃ f, oRow (F := F) (A.Dt c j) (A.at c j) f))
      ∗ bigSep (Finset.univ.filter fun j => A.Dt c j ≠ c) (fun j => iprop(dutyTok ER (kcell (c, some .ds)) 0 (c, j) ∗ dutyTok ER (kcell (A.Dt c j, some .dr)) 0 (c, j)))) := by
    rw [← BI.bigSep_sep', ← BI.bigSep_sep']; rfl
  rw [e₁, e₂]
  iintro ⟨⟨Hx, Hx'⟩, ⟨Ht, Ht'⟩, Ho, Ho', HO⟩
  isplitl [Hx Ht Ho]
  · isplitl [Hx]; · iexact Hx
    isplitl [Ho]; · iexact Ho
    iexact Ht
  isplitr; · iempintro
  isplitl [Hx' Ht' Ho']
  · isplitl [Hx']; · iexact Hx'
    isplitl [Ho']; · iexact Ho'
    iexact Ht'
  isplitr; · iempintro
  iexact HO

/-- All copies of rows are under way: the waiting loops can start. -/
theorem row_end (O : CellTallies nD τ sig Unit) :
    iprop(RowSt A c O 1024 1024 ∗ atPos ER (kcell (c, some .lo)) 0 ∅ 0 ∗ atPos ER (kcell (c, some .ds)) 0 ∅ 0)
      ⊢ iprop(DrainIn A c (some .lo) ∗ Owes c O ∗ DrainIn A c (some .ds)) := by
  have o₁ : owRow A c 1024 + O = O := by unfold owRow; rw [from_end, Finset.sum_empty, zero_add]
  unfold RowSt DrainIn nDuty
  rw [upto_all, upto_all, o₁, ← lo_sep A c (fun _ => cred (tallyAt (kcell (c, some .lo)) () NR)), ← ds_sep A c (fun _ => cred (tallyAt (kcell (c, some .ds)) () NR)),
    ← bigSep_count, ← bigSep_count]
  iintro ⟨⟨-, Hl, -, Hd, HO⟩, Ha, Ha'⟩
  isplitl [Hl Ha]
  · isplitl [Ha]; · iexact Ha
    iexact Hl
  isplitl [HO]; · iexact HO
  isplitl [Ha']; · iexact Ha'
  iexact Hd

/-- All rows have landed: input and output are whole. -/
theorem drain_end : iprop(DrainOut A c (some .dr) ∗ DrainOut A c (some .ds) ∗ DrainOut A c (some .lo))
    ⊢ iprop(semVal (kcell (c, some .dr)) 0 ∗ semVal (kcell (c, some .ds)) 0 ∗ semVal (kcell (c, some .lo)) 0
      ∗ ((ℓx c) ↦[Finset.univ]{fullShare} A.X c) ∗ ((ℓo c) ↦[Finset.univ]{fullShare} A.OA c)) := by
  unfold DrainOut
  rw [x_rows, o_rows, out_sep A c (fun r => oRow c r (A.OA c)), sep_split _ (fun j => A.Dt c j = c), ← lo_sep A c (fun d => xRow c d.2 (A.X c)), ← ds_sep A c (fun d => xRow c d.2 (A.X c))]
  have e : bigSep (dutyOf A.Dt c (some .lo)) (payOf A c (some .lo)) = iprop(bigSep (dutyOf A.Dt c (some .lo)) (fun d => xRow c d.2 (A.X c))
    ∗ bigSep (dutyOf A.Dt c (some .lo)) (fun d => oRow c (A.at d.1 d.2) (A.OA c))) := BI.bigSep_sep' _ _ _
  rw [e]
  iintro ⟨⟨H1, H2⟩, ⟨H3, H4⟩, H5, H6, H7⟩
  isplitl [H1]; · iexact H1
  isplitl [H3]; · iexact H3
  isplitl [H5]; · iexact H5
  isplitl [H6 H4]
  · isplitl [H6]; · iexact H6
    iexact H4
  isplitl [H7]; · iexact H7
  iexact H2

omit [FloatOps F] in
theorem bigSep_mono' {I : Type} {s : Finset I} {Φ Ψ : I → sProp 𝕄} (h : ∀ i ∈ s, Φ i ⊢ Ψ i) : bigSep s Φ ⊢ bigSep s Ψ := BI.bigSep_mono h

/-- The duties of the exit signals. -/
def ExTok : sProp 𝕄 := bigSep (Finset.univ.filter (· ≠ c)) fun p : Fin 16 => dutyTok ER (kcell (p, some .ex)) 0 (c, 0)
theorem ex_begin : iprop(ExTok (F := F) c ∗ Owes c (O₃ c)) ⊢ SigSt A (some .ex) c 0 0 := by
  unfold ExTok SigSt
  rw [from_all, add_zero]
  iintro ⟨H, HO⟩
  isplitl [H]
  · iapply (bigSep_mono' (fun p _ => (BI.sep_emp (P := dutyTok ER (kcell (p, some .ex)) 0 (c, 0))).2)); iexact H
  iexact HO

end Cert.AllToAll

end
-- ==== Proof.Segs.lean ====
/-
# The parts of the kernel as rules

Each part as a rule for the program that starts with it, and the end of the kernel.
-/
module

public import proofs.«01_k».proof.Proof.Glue

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Option Own → ℕ) (c : Dev nD)

/-- A program that begins with `X`. -/
theorem part_step {α β : Type} {P : sProp 𝕄} {Q : β → sProp 𝕄} {X : Prog (TpuEff nD τ sig (Elt F) Λ₀ .tc) α} {k : α → Prog (TpuEff nD τ sig (Elt F) Λ₀ .tc) β}
    (h : P ⊢ wpK c X (fun a => wpK c (k a) Q)) : P ⊢ wpK c (X >>= k) Q := by
  unfold wpK at h ⊢; rw [wp_bind]; exact h

set_option maxHeartbeats 4000000 in
/-- The exit signals to devices 0 to 9. -/
theorem part17_spec (v : BitVec 32) {Q : BitVec 32 → sProp 𝕄} {O : CellTallies nD τ sig Unit} {R : sProp 𝕄}
    (h : ∀ v, iprop(Ctx A K ∗ SigSt A (some .ex) c O 10 ∗ R) ⊢ Q v) :
    iprop(Ctx A K ∗ SigSt A (some .ex) c O 0 ∗ R) ⊢ wpK c (k0_part17 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) v) Q := by
  rw [k0_part17_eq_skeleton]
  unfold k0_part17_skel
  refine ex_step (cond := k0_cond51) (n := k0_dev34) A K c 0 ?_ _ ?_ ?_
  · decide +kernel
  · exact rfl
  refine ex_step (cond := k0_cond52) (n := k0_dev35) A K c 1 ?_ _ ?_ ?_
  · decide +kernel
  · exact rfl
  refine ex_step (cond := k0_cond53) (n := k0_dev36) A K c 2 ?_ _ ?_ ?_
  · decide +kernel
  · exact rfl
  refine ex_step (cond := k0_cond54) (n := k0_dev37) A K c 3 ?_ _ ?_ ?_
  · decide +kernel
  · exact rfl
  refine ex_step (cond := k0_cond55) (n := k0_dev38) A K c 4 ?_ _ ?_ ?_
  · decide +kernel
  · exact rfl
  refine ex_step (cond := k0_cond56) (n := k0_dev39) A K c 5 ?_ _ ?_ ?_
  · decide +kernel
  · exact rfl
  refine ex_step (cond := k0_cond57) (n := k0_dev40) A K c 6 ?_ _ ?_ ?_
  · decide +kernel
  · exact rfl
  refine ex_step (cond := k0_cond58) (n := k0_dev41) A K c 7 ?_ _ ?_ ?_
  · decide +kernel
  · exact rfl
  refine ex_step (cond := k0_cond59) (n := k0_dev42) A K c 8 ?_ _ ?_ ?_
  · decide +kernel
  · exact rfl
  refine ex_step (cond := k0_cond60) (n := k0_dev43) A K c 9 ?_ _ ?_ ?_
  · decide +kernel
  · exact rfl
  exact ret_step c (h _)

set_option maxHeartbeats 1000000 in
/-- The first eight barrier signals. -/
theorem seg5 {α : Type} {Q : α → sProp 𝕄} {O : CellTallies nD τ sig Unit} {k : (Σ' (d0 : Dev nD) (v2 : BitVec 32), Sems sig S_) → Prog (TpuEff nD τ sig (Elt F) Λ₀ .tc) α} :
    iprop(Ctx A K ∗ SigSt A none c O 0 ∗ (iprop(SigSt A none c O 8) -∗ wpK c (k ⟨c, me c, SemArray.scalar (sig.barrier 0 rfl)⟩) Q))
      ⊢ wpK c (k0_part5 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 >>= k) Q := by
  refine (?_ : _ ⊢ iprop(Ctx A K ∗ SigSt A none c O 0 ∗ (iprop(SigSt A none c O 8) -∗ wpK c (k ⟨c, me c, SemArray.scalar (sig.barrier 0 rfl)⟩) Q))).trans (part_step c (part5_spec A K c ?_))
  · iintro ⟨HC, H0, HW⟩
    isplitl [HC]; · iexact HC
    isplitl [H0]; · iexact H0
    iexact HW
  · iintro ⟨HC, H0, HW⟩
    iapply HW
    iexact H0

set_option maxHeartbeats 1000000 in
/-- The other barrier signals and the barrier wait. -/
theorem seg6 {α : Type} {Q : α → sProp 𝕄} {O : CellTallies nD τ sig Unit} (hO : Above 1 O) {f : S16.Idx → Elt F .i32} {k : BitVec 32 → Prog (TpuEff nD τ sig (Elt F) Λ₀ .tc) α} :
    iprop(Ctx A K ∗ SigSt A none c O 8 ∗ RegIn none c ∗ ((ℓc c) ↦[Finset.univ]{fullShare} f) ∗ (iprop(((ℓc c) ↦[Finset.univ]{fullShare} fill1 (F := F) 3 (fun _ => 0#32) f) ∗ Owes c O ∗ RegOut A none c) -∗ wpK c (k 0#32) Q))
      ⊢ wpK c (k0_part6 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) (SemArray.scalar (sig.barrier 0 rfl)) >>= k) Q := by
  refine (?_ : _ ⊢ iprop(Ctx A K ∗ SigSt A none c O 8 ∗ RegIn none c ∗ ((ℓc c) ↦[Finset.univ]{fullShare} f) ∗ (iprop(((ℓc c) ↦[Finset.univ]{fullShare} fill1 (F := F) 3 (fun _ => 0#32) f) ∗ Owes c O ∗ RegOut A none c) -∗ wpK c (k 0#32) Q))).trans (part_step c (part6_spec A K c hO ?_))
  · iintro ⟨HC, H0, H1, H2, HW⟩
    isplitl [HC]; · iexact HC
    isplitl [H0]; · iexact H0
    isplitl [H1]; · iexact H1
    isplitl [H2]; · iexact H2
    iexact HW
  · iintro ⟨H0, HC, H1, H2, HW⟩
    iapply HW
    isplitl [H0]; · iexact H0
    isplitl [H1]; · iexact H1
    iexact H2

set_option maxHeartbeats 1000000 in
/-- The counting loop. -/
theorem seg7 {α : Type} {Q : α → sProp 𝕄} {q : PosShare TreeShare} {f : S16.Idx → Elt F .i32} {g : S1024.Idx → Elt F .i32} {k : Elt F .i32 → Prog (TpuEff nD τ sig (Elt F) Λ₀ .tc) α} :
    iprop(Ctx A K ∗ ((ℓc c) ↦[Finset.univ]{fullShare} fill1 (F := F) 3 (fun _ => 0#32) f) ∗ ((ℓd c) ↦[Finset.univ]{q} A.D c) ∗ ((ℓr c) ↦[Finset.univ]{fullShare} g) ∗ (iprop(((ℓc c) ↦[Finset.univ]{fullShare} A.MC c) ∗ ((ℓd c) ↦[Finset.univ]{q} A.D c) ∗ ((ℓr c) ↦[Finset.univ]{fullShare} A.RK c)) -∗ wpK c (k (A.MC c (ix1 0))) Q))
      ⊢ wpK c (k0_part7 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 (me c) 0#32 >>= k) Q := by
  refine (?_ : _ ⊢ iprop(((ℓc c) ↦[Finset.univ]{fullShare} fill1 (F := F) 3 (fun _ => 0#32) f) ∗ ((ℓd c) ↦[Finset.univ]{q} A.D c) ∗ ((ℓr c) ↦[Finset.univ]{fullShare} g) ∗ Ctx A K ∗ (iprop(((ℓc c) ↦[Finset.univ]{fullShare} A.MC c) ∗ ((ℓd c) ↦[Finset.univ]{q} A.D c) ∗ ((ℓr c) ↦[Finset.univ]{fullShare} A.RK c)) -∗ wpK c (k (A.MC c (ix1 0))) Q))).trans (part_step c (part7_spec A c ?_))
  · iintro ⟨HC, H0, H1, H2, HW⟩
    isplitl [H0]; · iexact H0
    isplitl [H1]; · iexact H1
    isplitl [H2]; · iexact H2
    isplitl [HC]; · iexact HC
    iexact HW
  · iintro ⟨H0, H1, H2, HC, HW⟩
    iapply HW
    isplitl [H0]; · iexact H0
    isplitl [H1]; · iexact H1
    iexact H2

set_option maxHeartbeats 1000000 in
/-- The first counts go into this device's row of the table. -/
theorem seg8 {α : Type} {Q : α → sProp 𝕄} {q : PosShare TreeShare} {f : S16x16.Idx → Elt F .i32} {k : Elt F .i32 → Prog (TpuEff nD τ sig (Elt F) Λ₀ .tc) α} :
    iprop(Ctx A K ∗ tRow c c (fill2 (F := F) 0 A.CA f) ∗ ((ℓc c) ↦[Finset.univ]{q} A.MC c) ∗ (iprop(tRow c c (fill2 (F := F) 10 A.CA f) ∗ ((ℓc c) ↦[Finset.univ]{q} A.MC c)) -∗ wpK c (k (A.MC c (ix1 10))) Q))
      ⊢ wpK c (k0_part8 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) (A.MC c (ix1 0)) >>= k) Q := by
  refine (?_ : _ ⊢ iprop(tRow c c (fill2 (F := F) 0 A.CA f) ∗ ((ℓc c) ↦[Finset.univ]{q} A.MC c) ∗ Ctx A K ∗ (iprop(tRow c c (fill2 (F := F) 10 A.CA f) ∗ ((ℓc c) ↦[Finset.univ]{q} A.MC c)) -∗ wpK c (k (A.MC c (ix1 10))) Q))).trans (part_step c (part8_spec A c ?_))
  · iintro ⟨HC, H0, H1, HW⟩
    isplitl [H0]; · iexact H0
    isplitl [H1]; · iexact H1
    isplitl [HC]; · iexact HC
    iexact HW
  · iintro ⟨H0, H1, HC, HW⟩
    iapply HW
    isplitl [H0]; · iexact H0
    iexact H1

set_option maxHeartbeats 1000000 in
/-- The other counts, and the first copies of the count vector. -/
theorem seg9 {α : Type} {Q : α → sProp 𝕄} {O : CellTallies nD τ sig Unit} {q : PosShare TreeShare} {f : S16x16.Idx → Elt F .i32} {k : (Σ' (v130 : BitVec 32), BitVec 32) → Prog (TpuEff nD τ sig (Elt F) Λ₀ .tc) α} :
    iprop(Ctx A K ∗ tRow c c (fill2 (F := F) 10 A.CA f) ∗ ((ℓc c) ↦[Finset.univ]{q} A.MC c) ∗ CntSt A c O 0 ∗ (∀ v, iprop(CntSt A c O 4 ∗ tRow c c A.CA ∗ ((ℓc c) ↦[Finset.univ]{q} A.MC c)) -∗ wpK c (k v) Q))
      ⊢ wpK c (k0_part9 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) (A.MC c (ix1 10)) >>= k) Q := by
  refine (?_ : _ ⊢ iprop(tRow c c (fill2 (F := F) 10 A.CA f) ∗ ((ℓc c) ↦[Finset.univ]{q} A.MC c) ∗ Ctx A K ∗ CntSt A c O 0 ∗ (∀ v, iprop(CntSt A c O 4 ∗ tRow c c A.CA ∗ ((ℓc c) ↦[Finset.univ]{q} A.MC c)) -∗ wpK c (k v) Q))).trans (part_step c (part9_spec A K c ?_))
  · iintro ⟨HC, H0, H1, H2, HW⟩
    isplitl [H0]; · iexact H0
    isplitl [H1]; · iexact H1
    isplitl [HC]; · iexact HC
    isplitl [H2]; · iexact H2
    iexact HW
  · intro v
    iintro ⟨HC, H0, H1, H2, HW⟩
    iapply HW
    isplitl [H0]; · iexact H0
    isplitl [H1]; · iexact H1
    iexact H2

set_option maxHeartbeats 1000000 in
/-- More copies of the count vector. -/
theorem seg10 {α : Type} {Q : α → sProp 𝕄} (v w : BitVec 32) {O : CellTallies nD τ sig Unit} {k : (Σ' (v160 : BitVec 32), BitVec 32) → Prog (TpuEff nD τ sig (Elt F) Λ₀ .tc) α} :
    iprop(Ctx A K ∗ CntSt A c O 4 ∗ (∀ v, iprop(CntSt A c O 14) -∗ wpK c (k v) Q))
      ⊢ wpK c (k0_part10 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) v w >>= k) Q := by
  refine (?_ : _ ⊢ iprop(Ctx A K ∗ CntSt A c O 4 ∗ (∀ v, iprop(CntSt A c O 14) -∗ wpK c (k v) Q))).trans (part_step c (part10_spec A K c v w ?_))
  · iintro ⟨HC, H0, HW⟩
    isplitl [HC]; · iexact HC
    isplitl [H0]; · iexact H0
    iexact HW
  · intro v
    iintro ⟨HC, H0, HW⟩
    iapply HW
    iexact H0

set_option maxHeartbeats 1000000 in
/-- The last copies of the count vector, and the first waits. -/
theorem seg11 {α : Type} {Q : α → sProp 𝕄} (v w : BitVec 32) {O : CellTallies nD τ sig Unit} (hO : Above 2 O) {k : (Σ' (v190 : BitVec 32), BitVec 32) → Prog (TpuEff nD τ sig (Elt F) Λ₀ .tc) α} :
    iprop(Ctx A K ∗ CntSt A c O 14 ∗ WtIn c ∗ (iprop(WtSt A c O 8) -∗ wpK c (k ⟨Scalar.extui (Scalar.cmpi .ne (me c) 8#32), 0#32⟩) Q))
      ⊢ wpK c (k0_part11 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) v w >>= k) Q := by
  refine (?_ : _ ⊢ iprop(Ctx A K ∗ CntSt A c O 14 ∗ WtIn c ∗ (iprop(WtSt A c O 8) -∗ wpK c (k ⟨Scalar.extui (Scalar.cmpi .ne (me c) 8#32), 0#32⟩) Q))).trans (part_step c (part11_spec A K c v w hO ?_))
  · iintro ⟨HC, H0, H1, HW⟩
    isplitl [HC]; · iexact HC
    isplitl [H0]; · iexact H0
    isplitl [H1]; · iexact H1
    iexact HW
  · iintro ⟨HC, H0, HW⟩
    iapply HW
    iexact H0

set_option maxHeartbeats 1000000 in
/-- The other waits for the counts. -/
theorem seg12 {α : Type} {Q : α → sProp 𝕄} {O : CellTallies nD τ sig Unit} (hO : Above 2 O) {f : S16.Idx → Elt F .i32} {k : PUnit → Prog (TpuEff nD τ sig (Elt F) Λ₀ .tc) α} :
    iprop(Ctx A K ∗ WtSt A c O 8 ∗ ((ℓb c) ↦[Finset.univ]{fullShare} f) ∗ (iprop(((ℓb c) ↦[Finset.univ]{fullShare} fill1 (F := F) 4 (fun _ => 0#32) f) ∗ WtSt A c O 16) -∗ wpK c (k ⟨⟩) Q))
      ⊢ wpK c (k0_part12 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 (me c) (Scalar.extui (Scalar.cmpi .ne (me c) 8#32)) 0#32 >>= k) Q := by
  refine (?_ : _ ⊢ iprop(Ctx A K ∗ WtSt A c O 8 ∗ ((ℓb c) ↦[Finset.univ]{fullShare} f) ∗ (iprop(((ℓb c) ↦[Finset.univ]{fullShare} fill1 (F := F) 4 (fun _ => 0#32) f) ∗ WtSt A c O 16) -∗ wpK c (k ⟨⟩) Q))).trans (part_step c (part12_spec A K c hO ?_))
  · iintro ⟨HC, H0, H1, HW⟩
    isplitl [HC]; · iexact HC
    isplitl [H0]; · iexact H0
    isplitl [H1]; · iexact H1
    iexact HW
  · iintro ⟨H0, HC, H1, HW⟩
    iapply HW
    isplitl [H0]; · iexact H0
    iexact H1

set_option maxHeartbeats 1000000 in
/-- The first place of this device's rows at each destination. -/
theorem seg13 {α : Type} {Q : α → sProp 𝕄} {f : S16.Idx → Elt F .i32} {k : PUnit → Prog (TpuEff nD τ sig (Elt F) Λ₀ .tc) α} :
    iprop(Ctx A K ∗ ((ℓb c) ↦[Finset.univ]{fullShare} fill1 (F := F) 4 (fun _ => 0#32) f) ∗ ((ℓt c) ↦[Finset.univ]{fullShare} A.CA) ∗ (iprop(((ℓb c) ↦[Finset.univ]{fullShare} A.BS c.val) ∗ ((ℓt c) ↦[Finset.univ]{fullShare} A.CA)) -∗ wpK c (k ⟨⟩) Q))
      ⊢ wpK c (k0_part13 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) >>= k) Q := by
  refine (?_ : _ ⊢ iprop(((ℓb c) ↦[Finset.univ]{fullShare} fill1 (F := F) 4 (fun _ => 0#32) f) ∗ ((ℓt c) ↦[Finset.univ]{fullShare} A.CA) ∗ Ctx A K ∗ (iprop(((ℓb c) ↦[Finset.univ]{fullShare} A.BS c.val) ∗ ((ℓt c) ↦[Finset.univ]{fullShare} A.CA)) -∗ wpK c (k ⟨⟩) Q))).trans (part_step c (part13_spec A c ?_))
  · iintro ⟨HC, H0, H1, HW⟩
    isplitl [H0]; · iexact H0
    isplitl [H1]; · iexact H1
    isplitl [HC]; · iexact HC
    iexact HW
  · iintro ⟨H0, H1, HC, HW⟩
    iapply HW
    isplitl [H0]; · iexact H0
    iexact H1

set_option maxHeartbeats 1000000 in
/-- More counts. -/
theorem seg15 {α : Type} {Q : α → sProp 𝕄} (v : BitVec 32) (w : BitVec 1) {k : (Σ' (v269 : Elt F .i32) (v274 : Elt F .i32) (v279 : Elt F .i32) (v284 : Elt F .i32) (v289 : Elt F .i32) (v294 : Elt F .i32) (v299 : Elt F .i32) (v301 : BitVec 32) (v302 : BitVec 1) (v304 : Elt F .i32), BitVec 32) → Prog (TpuEff nD τ sig (Elt F) Λ₀ .tc) α} :
    iprop(Ctx A K ∗ ((ℓt c) ↦[Finset.univ]{fullShare} A.CA) ∗ (∀ x, ∀ y, iprop(((ℓt c) ↦[Finset.univ]{fullShare} A.CA)) -∗ wpK c (k ⟨A.CA (ix2 6 c), A.CA (ix2 7 c), A.CA (ix2 8 c), A.CA (ix2 9 c), A.CA (ix2 10 c), A.CA (ix2 11 c), A.CA (ix2 12 c), x, y, A.CA (ix2 13 c), 0#32⟩) Q))
      ⊢ wpK c (k0_part15 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) v w >>= k) Q := by
  refine (?_ : _ ⊢ iprop(((ℓt c) ↦[Finset.univ]{fullShare} A.CA) ∗ Ctx A K ∗ (∀ x, ∀ y, iprop(((ℓt c) ↦[Finset.univ]{fullShare} A.CA)) -∗ wpK c (k ⟨A.CA (ix2 6 c), A.CA (ix2 7 c), A.CA (ix2 8 c), A.CA (ix2 9 c), A.CA (ix2 10 c), A.CA (ix2 11 c), A.CA (ix2 12 c), x, y, A.CA (ix2 13 c), 0#32⟩) Q))).trans (part_step c (part15_spec A c v w ?_))
  · iintro ⟨HC, H0, HW⟩
    isplitl [H0]; · iexact H0
    isplitl [HC]; · iexact HC
    iexact HW
  · intro x y
    iintro ⟨H0, HC, HW⟩
    iapply HW
    iexact H0

set_option maxHeartbeats 1000000 in
/-- The three waiting loops. -/
theorem seg16 {α : Type} {Q : α → sProp 𝕄} {O : CellTallies nD τ sig Unit} (hO : Above 3 O) (hw : k0_chk4 (stayW A c)) (x : BitVec 32) (y : BitVec 1) {k : BitVec 32 → Prog (TpuEff nD τ sig (Elt F) Λ₀ .tc) α} :
    iprop(Ctx A K ∗ ((ℓt c) ↦[Finset.univ]{fullShare} A.CA) ∗ DrainIn A c (some .lo) ∗ Owes c O ∗ DrainIn A c (some .ds) ∗ DrainIn A c (some .dr) ∗ (∀ v, iprop(DrainOut A c (some .dr) ∗ Owes c O ∗ DrainOut A c (some .ds) ∗ DrainOut A c (some .lo) ∗ ((ℓt c) ↦[Finset.univ]{fullShare} A.CA)) -∗ wpK c (k v) Q))
      ⊢ wpK c (k0_part16 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) (stayW A c) hw (A.CA (ix2 0 c)) (A.CA (ix2 1 c)) (A.CA (ix2 2 c)) (A.CA (ix2 3 c)) (A.CA (ix2 4 c)) (A.CA (ix2 5 c)) (A.CA (ix2 6 c)) (A.CA (ix2 7 c)) (A.CA (ix2 8 c)) (A.CA (ix2 9 c)) (A.CA (ix2 10 c)) (A.CA (ix2 11 c)) (A.CA (ix2 12 c)) x y (A.CA (ix2 13 c)) 0#32 >>= k) Q := by
  refine (?_ : _ ⊢ iprop(((ℓt c) ↦[Finset.univ]{fullShare} A.CA) ∗ Ctx A K ∗ DrainIn A c (some .lo) ∗ Owes c O ∗ DrainIn A c (some .ds) ∗ DrainIn A c (some .dr) ∗ (∀ v, iprop(DrainOut A c (some .dr) ∗ Owes c O ∗ DrainOut A c (some .ds) ∗ DrainOut A c (some .lo) ∗ ((ℓt c) ↦[Finset.univ]{fullShare} A.CA)) -∗ wpK c (k v) Q))).trans (part_step c (part16_spec A K c hO hw x y ?_))
  · iintro ⟨HC, H0, H1, H2, H3, H4, HW⟩
    isplitl [H0]; · iexact H0
    isplitl [HC]; · iexact HC
    isplitl [H1]; · iexact H1
    isplitl [H2]; · iexact H2
    isplitl [H3]; · iexact H3
    isplitl [H4]; · iexact H4
    iexact HW
  · intro v
    iintro ⟨HC, H0, H1, H2, H3, H4, HW⟩
    iapply HW
    isplitl [H0]; · iexact H0
    isplitl [H1]; · iexact H1
    isplitl [H2]; · iexact H2
    isplitl [H3]; · iexact H3
    iexact H4

set_option maxHeartbeats 1000000 in
/-- The first ten exit signals. -/
theorem seg17 {α : Type} {Q : α → sProp 𝕄} (v : BitVec 32) {O : CellTallies nD τ sig Unit} {k : BitVec 32 → Prog (TpuEff nD τ sig (Elt F) Λ₀ .tc) α} :
    iprop(Ctx A K ∗ SigSt A (some .ex) c O 0 ∗ (∀ v, iprop(SigSt A (some .ex) c O 10) -∗ wpK c (k v) Q))
      ⊢ wpK c (k0_part17 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) v >>= k) Q := by
  refine (?_ : _ ⊢ iprop(Ctx A K ∗ SigSt A (some .ex) c O 0 ∗ (∀ v, iprop(SigSt A (some .ex) c O 10) -∗ wpK c (k v) Q))).trans (part_step c (part17_spec A K c v ?_))
  · iintro ⟨HC, H0, HW⟩
    isplitl [HC]; · iexact HC
    isplitl [H0]; · iexact H0
    iexact HW
  · intro v
    iintro ⟨HC, H0, HW⟩
    iapply HW
    iexact H0

set_option maxHeartbeats 1000000 in
/-- The loop that copies the rows. -/
theorem seg14 {α : Type} {Q : α → sProp 𝕄} {O : CellTallies nD τ sig Unit} {q q' : PosShare TreeShare}
    {k : (Σ' (v236 : Elt F .i32) (k0_hw4 : k0_chk4 v236) (v239 : Elt F .i32) (v244 : Elt F .i32) (v249 : Elt F .i32) (v254 : Elt F .i32) (v259 : Elt F .i32) (v264 : Elt F .i32) (v266 : BitVec 32), BitVec 1) → Prog (TpuEff nD τ sig (Elt F) Λ₀ .tc) α} :
    iprop(Ctx A K ∗ RowSt A c O 0 0 ∗ ((ℓd c) ↦[Finset.univ]{q} A.D c) ∗ ((ℓb c) ↦[Finset.univ]{fullShare} A.BS c.val) ∗ ((ℓr c) ↦[Finset.univ]{fullShare} A.RK c)
      ∗ ((ℓc c) ↦[Finset.univ]{q'} A.MC c) ∗ ((ℓt c) ↦[Finset.univ]{fullShare} A.CA)
      ∗ (∀ hw x y, iprop(RowSt A c O 1024 1024 ∗ ((ℓd c) ↦[Finset.univ]{q} A.D c) ∗ ((ℓb c) ↦[Finset.univ]{fullShare} A.BS c.val) ∗ ((ℓr c) ↦[Finset.univ]{fullShare} A.RK c)
        ∗ ((ℓc c) ↦[Finset.univ]{q'} A.MC c) ∗ ((ℓt c) ↦[Finset.univ]{fullShare} A.CA)) -∗ wpK c (k ⟨stayW A c, hw, A.CA (ix2 0 c), A.CA (ix2 1 c), A.CA (ix2 2 c), A.CA (ix2 3 c), A.CA (ix2 4 c), A.CA (ix2 5 c), x, y⟩) Q))
      ⊢ wpK c (k0_part14 (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0 c (me c) >>= k) Q := by
  refine (?_ : _ ⊢ SendSt A K c q O iprop(((ℓc c) ↦[Finset.univ]{q'} A.MC c) ∗ ((ℓt c) ↦[Finset.univ]{fullShare} A.CA)
      ∗ (∀ hw x y, iprop(RowSt A c O 1024 1024 ∗ ((ℓd c) ↦[Finset.univ]{q} A.D c) ∗ ((ℓb c) ↦[Finset.univ]{fullShare} A.BS c.val) ∗ ((ℓr c) ↦[Finset.univ]{fullShare} A.RK c)
        ∗ ((ℓc c) ↦[Finset.univ]{q'} A.MC c) ∗ ((ℓt c) ↦[Finset.univ]{fullShare} A.CA)) -∗ wpK c (k ⟨stayW A c, hw, A.CA (ix2 0 c), A.CA (ix2 1 c), A.CA (ix2 2 c), A.CA (ix2 3 c), A.CA (ix2 4 c), A.CA (ix2 5 c), x, y⟩) Q)) 0).trans (part_step c (part14_spec A K c ?_))
  · unfold SendSt
    iintro ⟨H1, H2, H3, H4, H5, H6, H7, HW⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HW
  · intro hw x y
    unfold SendSt
    iintro ⟨H7, H6, HC, H2, H3, H4, H5, HW⟩
    iapply HW
    isplitl [H2]; · iexact H2
    isplitl [H3]; · iexact H3
    isplitl [H4]; · iexact H4
    isplitl [H5]; · iexact H5
    isplitl [H6]; · iexact H6
    iexact H7

/-- The end of the kernel: the exit signals to devices 10 to 15 and the exit wait. -/
theorem tail_seg {Q : PUnit → sProp 𝕄} :
    iprop(Ctx A K ∗ SigSt A (some .ex) c 0 10 ∗ RegIn (some .ex) c ∗ (iprop(Owes c 0 ∗ semVal (kcell (c, some .ex)) 0) -∗ wpK c (pure ⟨⟩) Q))
      ⊢ wpK c (do
        if h : k0_cond61 c = 1#1 then do
          semSignalWord (⟨k0_dev44, k0_dev44_lt c h⟩ : Dev nD) exS 1#32
          pure ⟨⟩
        else do
          pure ⟨⟩
        if h : k0_cond62 c = 1#1 then do
          semSignalWord (⟨k0_dev45, k0_dev45_lt c h⟩ : Dev nD) exS 1#32
          pure ⟨⟩
        else do
          pure ⟨⟩
        if h : k0_cond63 c = 1#1 then do
          semSignalWord (⟨k0_dev46, k0_dev46_lt c h⟩ : Dev nD) exS 1#32
          pure ⟨⟩
        else do
          pure ⟨⟩
        if h : k0_cond64 c = 1#1 then do
          semSignalWord (⟨k0_dev47, k0_dev47_lt c h⟩ : Dev nD) exS 1#32
          pure ⟨⟩
        else do
          pure ⟨⟩
        if h : k0_cond65 c = 1#1 then do
          semSignalWord (⟨k0_dev48, k0_dev48_lt c h⟩ : Dev nD) exS 1#32
          pure ⟨⟩
        else do
          pure ⟨⟩
        if h : k0_cond66 c = 1#1 then do
          semSignalWord (⟨k0_dev49, k0_dev49_lt c h⟩ : Dev nD) exS 1#32
          pure ⟨⟩
        else do
          pure ⟨⟩
        semWaitWord exS 15#32
        pure ⟨⟩) Q := by
  refine ex_step (cond := k0_cond61) (n := k0_dev44) A K c 10 ?_ _ ?_ ?_
  · decide +kernel
  · exact rfl
  refine ex_step (cond := k0_cond62) (n := k0_dev45) A K c 11 ?_ _ ?_ ?_
  · decide +kernel
  · exact rfl
  refine ex_step (cond := k0_cond63) (n := k0_dev46) A K c 12 ?_ _ ?_ ?_
  · decide +kernel
  · exact rfl
  refine ex_step (cond := k0_cond64) (n := k0_dev47) A K c 13 ?_ _ ?_ ?_
  · decide +kernel
  · exact rfl
  refine ex_step (cond := k0_cond65) (n := k0_dev48) A K c 14 ?_ _ ?_ ?_
  · decide +kernel
  · exact rfl
  refine ex_step (cond := k0_cond66) (n := k0_dev49) A K c 15 ?_ _ ?_ ?_
  · decide +kernel
  · exact rfl
  refine reg_wait A K (some .ex) exS rfl rfl c rfl 4 (le_refl 4) Above.zero ?_
  unfold RegOut
  iintro ⟨-, HO, ⟨Hz, -⟩, HW⟩
  iapply HW
  isplitl [HO]; · iexact HO
  iexact Hz

end Cert.AllToAll

end
-- ==== Proof.Body.lean ====
/-
# One device's whole run

The parts of the kernel in order, between what a device starts with and what it ends with.
-/
module

public import proofs.«01_k».proof.Proof.Segs

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F) (K : Dev nD × Option Own → ℕ) (c : Dev nD)

/-- What one device starts with. -/
def BodyIn : sProp 𝕄 := iprop(Ctx A K ∗ SigSt A none c (O₁ A c) 0 ∗ RegIn none c
  ∗ (∃ f, ((ℓc c) ↦[Finset.univ]{fullShare} f)) ∗ (∃ f, ((ℓr c) ↦[Finset.univ]{fullShare} f)) ∗ (∃ f, ((ℓb c) ↦[Finset.univ]{fullShare} f)) ∗ (∃ f, tRow (F := F) c c f)
  ∗ ((ℓd c) ↦[Finset.univ]{fullShare} A.D c) ∗ ((ℓx c) ↦[Finset.univ]{fullShare} A.X c) ∗ OwnOut A c
  ∗ CntTok c ∗ WtIn c ∗ RowTok A c ∗ atPos ER (kcell (c, some .lo)) 0 ∅ 0 ∗ atPos ER (kcell (c, some .ds)) 0 ∅ 0 ∗ DrainIn A c (some .dr)
  ∗ ExTok c ∗ RegIn (some .ex) c ∗ atPos ER (kcell (c, some (.cs c))) 0 ∅ 0 ∗ atPos ER (kcell (c, some (.cr c))) 0 ∅ 0)
/-- What it ends with. -/
def BodyOut : sProp 𝕄 := iprop(semVal (kcell (c, none)) 0 ∗ (bigSep Finset.univ fun k : Own => semVal (kcell (c, some k)) 0)
  ∗ (∃ f, ((ℓc c) ↦[Finset.univ]{fullShare} f)) ∗ (∃ f, ((ℓr c) ↦[Finset.univ]{fullShare} f)) ∗ (∃ f, ((ℓt c) ↦[Finset.univ]{fullShare} f)) ∗ (∃ f, ((ℓb c) ↦[Finset.univ]{fullShare} f))
  ∗ ((ℓd c) ↦[Finset.univ]{fullShare} A.D c) ∗ ((ℓx c) ↦[Finset.univ]{fullShare} A.X c) ∗ ((ℓo c) ↦[Finset.univ]{fullShare} A.OA c) ∗ Owes c 0)

/-- A cell without duties, closed. -/
theorem idle_close (q : Own) {α : Type} {Q : α → sProp 𝕄} {X : Prog (TpuEff nD τ sig (Elt F) Λ₀ .tc) α} (hq : dutyOf A.Dt c (some q) = ∅) :
    iprop(Ctx A K ∗ atPos ER (kcell (c, some q)) 0 ∅ 0 ∗ (semVal (kcell (c, some q)) 0 -∗ wpK c X Q)) ⊢ wpK c X Q := by
  iintro ⟨#HC, Ha, HW⟩
  ihave #HI := (ctx_inv A K c (some q)) $$ HC
  imod (Rounds.cell_close ER (Rd A) (Set.mem_univ (K (c, some q))) (fun h => h) (R := 0) (fun r _ => by
    rcases Nat.eq_zero_or_pos r with h | h
    · rw [h, duties_eq, hq]
    · exact duties_later A _ r h)) $$ [Ha] with Hz
  · isplitr; · iexact HI
    iexact Ha
  iapply HW; iexact Hz

set_option maxHeartbeats 8000000 in
/-- The whole body, on any device. -/
theorem body_spec {Q : PUnit → sProp 𝕄} {R : sProp 𝕄} (h : iprop(BodyOut A c ∗ R) ⊢ Q ⟨⟩) :
    iprop(BodyIn A K c ∗ R) ⊢ wpK c (cc0_body (F := F) Md (Memref.isWhole_whole _) Mx (Memref.isWhole_whole _) Mo (Memref.isWhole_whole _) Mc (Memref.isWhole_whole _) Mr (Memref.isWhole_whole _) Mt (Memref.isWhole_whole _) Mb (Memref.isWhole_whole _) cc0_scratch4 cc0_scratch5 cc0_scratch6 cc0_scratch7 cc0_scratch8 cc0_scoped0) Q := by
  rw [cc0_body_eq_skeleton]
  unfold cc0_body_skel BodyIn
  iintro ⟨⟨#HC, Hsig, Hbar, ⟨%fc, Hc⟩, ⟨%fr, Hr⟩, ⟨%fb, Hb⟩, ⟨%ft, Ht⟩, Hd, Hx, Hown, Hctok, Hwt, Hrtok, Hlo, Hds, Hdr, Hextok, Hex, Hcs, Hcr⟩, HR⟩
  iapply (seg5 A K c)
  isplitr; · iexact HC
  isplitl [Hsig]; · iexact Hsig
  iintro Hsig
  iapply (seg6 A K c (above_O₁ A c))
  isplitr; · iexact HC
  isplitl [Hsig]; · iexact Hsig
  isplitl [Hbar]; · iexact Hbar
  isplitl [Hc]; · iexact Hc
  iintro ⟨Hc, HO, Hbar⟩
  iapply (seg7 A K c)
  isplitr; · iexact HC
  isplitl [Hc]; · iexact Hc
  isplitl [Hd]; · iexact Hd
  isplitl [Hr]; · iexact Hr
  iintro ⟨Hc, Hd, Hr⟩
  ihave Hbar := (bar_open A c) $$ Hbar
  icases Hbar with ⟨Zbar, Htr, Hor⟩
  ihave Hcnt := (cnt_begin A c (O₂ A c)) $$ [Hc Hctok Htr HO]
  · isplitl [Hc]; · iexact Hc
    isplitl [Hctok]; · iexact Hctok
    isplitl [Htr]; · iexact Htr
    iexact HO
  icases Hcnt with ⟨Hc, Hme, Hcnt⟩
  iapply (seg8 A K c (f := ft))
  isplitr; · iexact HC
  isplitl [Ht]; · rw [fill2_zero]; iexact Ht
  isplitl [Hc]; · iexact Hc
  iintro ⟨Ht, Hc⟩
  iapply (seg9 A K c)
  isplitr; · iexact HC
  isplitl [Ht]; · iexact Ht
  isplitl [Hc]; · iexact Hc
  isplitl [Hcnt]; · iexact Hcnt
  iintro %v₁ ⟨Hcnt, Ht, Hc⟩
  obtain ⟨v₁, w₁⟩ := v₁
  iapply (seg10 A K c v₁ w₁)
  isplitr; · iexact HC
  isplitl [Hcnt]; · iexact Hcnt
  iintro %v₂ Hcnt
  obtain ⟨v₂, w₂⟩ := v₂
  iapply (seg11 A K c v₂ w₂ (above_O₂ A c))
  isplitr; · iexact HC
  isplitl [Hcnt]; · iexact Hcnt
  isplitl [Hwt]; · iexact Hwt
  iintro Hwt
  iapply (seg12 A K c (above_O₂ A c))
  isplitr; · iexact HC
  isplitl [Hwt]; · iexact Hwt
  isplitl [Hb]; · iexact Hb
  iintro ⟨Hb, Hwt⟩
  ihave Hwt := (cnt_end A c (O₂ A c)) $$ [Hwt Ht]
  · isplitl [Hwt]; · iexact Hwt
    iexact Ht
  icases Hwt with ⟨Hdone, Ht, HO⟩
  iapply (seg13 A K c)
  isplitr; · iexact HC
  isplitl [Hb]; · iexact Hb
  isplitl [Ht]; · iexact Ht
  iintro ⟨Hb, Ht⟩
  ihave Hrow := (row_begin A c (O₃ c)) $$ [Hx Hrtok Hown Hor HO]
  · isplitl [Hx]; · iexact Hx
    isplitl [Hrtok]; · iexact Hrtok
    isplitl [Hown]; · iexact Hown
    isplitl [Hor]; · iexact Hor
    iexact HO
  iapply (seg14 A K c)
  isplitr; · iexact HC
  isplitl [Hrow]; · iexact Hrow
  isplitl [Hd]; · iexact Hd
  isplitl [Hb]; · iexact Hb
  isplitl [Hr]; · iexact Hr
  isplitl [Hc]; · iexact Hc
  isplitl [Ht]; · iexact Ht
  iintro %hw %x₁ %y₁ ⟨Hrow, Hd, Hb, Hr, Hc, Ht⟩
  iapply (seg15 A K c x₁ y₁)
  isplitr; · iexact HC
  isplitl [Ht]; · iexact Ht
  iintro %x₂ %y₂ Ht
  ihave Hdrain := (row_end A c (O₃ c)) $$ [Hrow Hlo Hds]
  · isplitl [Hrow]; · iexact Hrow
    isplitl [Hlo]; · iexact Hlo
    iexact Hds
  icases Hdrain with ⟨Hlo, HO, Hds⟩
  iapply (seg16 A K c (above_O₃ c) hw x₂ y₂)
  isplitr; · iexact HC
  isplitl [Ht]; · iexact Ht
  isplitl [Hlo]; · iexact Hlo
  isplitl [HO]; · iexact HO
  isplitl [Hds]; · iexact Hds
  isplitl [Hdr]; · iexact Hdr
  iintro %v₃ ⟨Hdr, HO, Hds, Hlo, Ht⟩
  ihave Hend := (drain_end A c) $$ [Hdr Hds Hlo]
  · isplitl [Hdr]; · iexact Hdr
    isplitl [Hds]; · iexact Hds
    iexact Hlo
  icases Hend with ⟨Zdr, Zds, Zlo, Hx, Ho⟩
  ihave Hsig := (ex_begin A c) $$ [Hextok HO]
  · isplitl [Hextok]; · iexact Hextok
    iexact HO
  iapply (seg17 A K c v₃)
  isplitr; · iexact HC
  isplitl [Hsig]; · iexact Hsig
  iintro %v₄ Hsig
  iapply (tail_seg A K c)
  isplitr; · iexact HC
  isplitl [Hsig]; · iexact Hsig
  isplitl [Hex]; · iexact Hex
  iintro ⟨HO, Zex⟩
  iapply (idle_close A K c (.cs c) (by simp [dutyOf]))
  isplitr; · iexact HC
  isplitl [Hcs]; · iexact Hcs
  iintro Zcs
  iapply (idle_close A K c (.cr c) (by simp [dutyOf]))
  isplitr; · iexact HC
  isplitl [Hcr]; · iexact Hcr
  iintro Zcr
  iapply (ret_step c h)
  isplitr [HR]
  · unfold BodyOut
    rw [own_split, sep_me c (fun p => semVal (kcell (c, some (.cs p))) 0), sep_me c (fun p => semVal (kcell (c, some (.cr p))) 0)]
    unfold CntDone
    icases Hdone with ⟨Zcs', Zcr', Hshares⟩
    isplitl [Zbar]; · iexact Zbar
    isplitl [Zcs Zcs' Zcr Zcr' Zds Zdr Zlo Zex]
    · isplitl [Zcs Zcs']
      · isplitl [Zcs]; · iexact Zcs
        iexact Zcs'
      isplitl [Zcr Zcr']
      · isplitl [Zcr]; · iexact Zcr
        iexact Zcr'
      isplitl [Zds]; · iexact Zds
      isplitl [Zdr]; · iexact Zdr
      isplitl [Zlo]; · iexact Zlo
      iexact Zex
    isplitl [Hc Hme Hshares]
    · iexists (A.MC c)
      iapply (cnt_join c (A.MC c))
      isplitl [Hc]; · iexact Hc
      isplitl [Hme]; · iexact Hme
      iexact Hshares
    isplitl [Hr]; · iexists _; iexact Hr
    isplitl [Ht]; · iexists _; iexact Ht
    isplitl [Hb]; · iexists _; iexact Hb
    isplitl [Hd]; · iexact Hd
    isplitl [Hx]; · iexact Hx
    isplitl [Ho]; · iexact Ho
    iexact HO
  iexact HR

end Cert.AllToAll

end
-- ==== Proof.Deal.lean ====
/-
# Dealing the duties and the credits of the launch

At launch each cell's duties are minted with the cell; every duty goes to the device that pays it. What all devices owe
a device's cells is that device's credit.
-/
module

public import proofs.«01_k».proof.Proof.Body

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Inp F)

/-! ## Families over devices and cells -/

omit [FloatOps F] in
/-- A family over the barrier cell and the kernel's own cells. -/
theorem opt_split (Φ : Option Own → sProp 𝕄) : bigSep Finset.univ Φ = iprop(Φ none ∗ bigSep Finset.univ fun k : Own => Φ (some k)) := by
  have e : (Finset.univ : Finset (Option Own)) = {none} ∪ Finset.univ.image some := by decide
  rw [e, union_sep (by decide), bigSep_singleton, BI.bigSep_image_of_injOn (fun p _ p' _ h => Option.some.inj h)]

omit [FloatOps F] in
/-- Pairs of different devices, by the one or by the other. -/
theorem swap_ne (Φ : Fin 16 → Fin 16 → sProp 𝕄) :
    (bigSep Finset.univ fun c => bigSep (Finset.univ.filter (· ≠ c)) (Φ c)) = bigSep Finset.univ fun p => bigSep (Finset.univ.filter (· ≠ p)) fun c => Φ c p := by
  have e : ∀ c, bigSep (Finset.univ.filter (· ≠ c)) (Φ c) = bigSep Finset.univ fun p => if p ≠ c then Φ c p else iprop(emp) := fun c => BI.bigSep_filter _ _ _
  have e' : ∀ p, (bigSep (Finset.univ.filter (· ≠ p)) fun c => Φ c p) = bigSep Finset.univ fun c => if c ≠ p then Φ c p else iprop(emp) := fun c => BI.bigSep_filter _ _ _
  rw [bigSep_congr fun c _ => e c, BI.bigSep_univ_comm]
  refine bigSep_congr fun p _ => ?_
  rw [e' p]
  refine bigSep_congr fun c _ => ?_
  by_cases h : p = c
  · rw [if_neg (fun h' => h' h), if_neg (fun h' => h' h.symm)]
  · rw [if_pos h, if_pos (fun h' => h h'.symm)]

omit [FloatOps F] in
theorem cs_sep (c : Fin 16) (Φ : Fin 16 → Duty → sProp 𝕄) :
    (bigSep Finset.univ fun p => bigSep (dutyOf A.Dt c (some (.cs p))) (Φ p)) = bigSep (Finset.univ.filter (· ≠ c)) fun p => Φ p (c, 0) := by
  conv_rhs => rw [BI.bigSep_filter]
  refine bigSep_congr fun p _ => ?_
  by_cases h : p ≠ c
  · rw [if_pos h, show dutyOf A.Dt c (some (.cs p)) = {(c, 0)} from by ext d; simp [dutyOf, h], bigSep_singleton]
  · rw [if_neg h, show dutyOf A.Dt c (some (.cs p)) = ∅ from Finset.filter_false_of_mem fun d _ hh => h hh.2, bigSep_empty]
omit [FloatOps F] in
theorem cr_sep (c : Fin 16) (Φ : Fin 16 → Duty → sProp 𝕄) :
    (bigSep Finset.univ fun p => bigSep (dutyOf A.Dt c (some (.cr p))) (Φ p)) = bigSep (Finset.univ.filter (· ≠ c)) fun p => Φ p (p, 0) := by
  conv_rhs => rw [BI.bigSep_filter]
  refine bigSep_congr fun p _ => ?_
  by_cases h : p ≠ c
  · rw [if_pos h, show dutyOf A.Dt c (some (.cr p)) = {(p, 0)} from by ext d; simp [dutyOf, h], bigSep_singleton]
  · rw [if_neg h, show dutyOf A.Dt c (some (.cr p)) = ∅ from Finset.filter_false_of_mem fun d _ hh => h hh.2, bigSep_empty]

/-! ## The duties -/

/-- The duties of device `c`'s own cells. -/
def toks (c : Dev nD) : sProp 𝕄 :=
  bigSep Finset.univ fun k : Option Own => bigSep (dutyOf A.Dt c k) fun d => dutyTok ER (kcell (c, k)) 0 d
/-- The barrier duties device `c` pays. -/
def BarTok (c : Dev nD) : sProp 𝕄 := bigSep (Finset.univ.filter (· ≠ c)) fun p : Fin 16 => dutyTok ER (kcell (p, none)) 0 (c, 0)
/-- The duties device `c` pays. -/
def payToks (c : Dev nD) : sProp 𝕄 := iprop(BarTok (F := F) c ∗ CntTok c ∗ RowTok A c ∗ ExTok c)

omit [FloatOps F] in
theorem toks_eq (c : Dev nD) : toks A c = iprop(
    (bigSep (Finset.univ.filter (· ≠ c)) fun p : Fin 16 => dutyTok ER (kcell (c, none)) 0 (p, 0))
    ∗ (bigSep (Finset.univ.filter (· ≠ c)) fun p : Fin 16 => dutyTok ER (kcell (c, some (.cs p))) 0 (c, 0))
    ∗ (bigSep (Finset.univ.filter (· ≠ c)) fun p : Fin 16 => dutyTok ER (kcell (c, some (.cr p))) 0 (p, 0))
    ∗ (bigSep (Finset.univ.filter fun j => A.Dt c j ≠ c) fun j => dutyTok ER (kcell (c, some .ds)) 0 (c, j))
    ∗ (bigSep (Finset.univ.filter (· ≠ c)) fun p : Fin 16 => bigSep (Finset.univ.filter fun j => A.Dt p j = c) fun j => dutyTok ER (kcell (c, some .dr)) 0 (p, j))
    ∗ (bigSep (Finset.univ.filter fun j => A.Dt c j = c) fun j => dutyTok ER (kcell (c, some .lo)) 0 (c, j))
    ∗ (bigSep (Finset.univ.filter (· ≠ c)) fun p : Fin 16 => dutyTok ER (kcell (c, some .ex)) 0 (p, 0))) := by
  unfold toks
  rw [opt_split, own_split, cs_sep A c (fun p d => dutyTok ER (kcell (c, some (.cs p))) 0 d), cr_sep A c (fun p d => dutyTok ER (kcell (c, some (.cr p))) 0 d),
    ds_sep, dr_sep, lo_sep]
  rw [show dutyOf A.Dt c none = othersD c from rfl, show dutyOf A.Dt c (some .ex) = othersD c from rfl, others_sep, others_sep]

omit [FloatOps F] in
/-- Every duty to the device that pays it. -/
theorem toks_around : (bigSep Finset.univ fun c : Dev nD => (toks A c : sProp 𝕄)) ⊢ bigSep Finset.univ fun c : Dev nD => payToks A c := by
  rw [bigSep_congr fun c _ => toks_eq A c]
  unfold payToks BarTok CntTok RowTok ExTok
  simp only [BI.bigSep_sep']
  rw [swap_ne (fun c p => (dutyTok ER (kcell (c, none)) 0 (p, 0) : sProp 𝕄)), swap_ne (fun c p => (dutyTok ER (kcell (c, some (.cr p))) 0 (p, 0) : sProp 𝕄)),
    swap_ne (fun c p => (dutyTok ER (kcell (c, some .ex)) 0 (p, 0) : sProp 𝕄)),
    swap_ne (fun c p => bigSep (Finset.univ.filter fun j => A.Dt p j = c) fun j => (dutyTok ER (kcell (c, some .dr)) 0 (p, j) : sProp 𝕄)),
    bigSep_congr fun p _ => bigSep_fiber (· ≠ p) (fun j => A.Dt p j) (fun c j => (dutyTok ER (kcell (c, some .dr)) 0 (p, j) : sProp 𝕄))]
  iintro ⟨H1, H2, H3, H4, H5, H6, H7⟩
  isplitl [H1]; · iexact H1
  isplitl [H2 H3]
  · isplitl [H2]; · iexact H2
    iexact H3
  isplitl [H4 H5 H6]
  · isplitl [H6]; · iexact H6
    isplitl [H4]; · iexact H4
    iexact H5
  iexact H7

/-! ## The credits -/

theorem tally_home {I : Type} (c : Dev nD) (s : Finset I) (k : I → Option Own) (n : ℕ) (g : GSem nD τ sig)
    (h : (∑ i ∈ s, tallyAt (kcell (c, k i)) () n : CellTallies nD τ sig Unit) g ≠ 0) : g.1 = (c.tc : Thread nD τ) := by
  obtain ⟨u, hu⟩ : ∃ u, (∑ i ∈ s, tallyAt (kcell (c, k i)) () n : CellTallies nD τ sig Unit) g u ≠ 0 := by
    by_contra hn; exact h (Finsupp.ext fun u => by by_contra hu; exact hn ⟨u, hu⟩)
  obtain ⟨i, -, e⟩ := sum_tally_pos s (fun i => kcell (c, k i)) n (Nat.pos_of_ne_zero hu)
  rw [e]

theorem tally_const {I : Type} (s : Finset I) (g : GSem nD τ sig) (n : ℕ) (h : s.card = n) : (∑ _i ∈ s, tallyAt g () 1 : CellTallies nD τ sig Unit) = tallyAt g () n := by
  rw [Finset.sum_const, h]
  funext x; refine Finsupp.ext fun u => ?_
  show n • ((tallyAt g () 1 : CellTallies nD τ sig Unit) x u) = _
  rw [tallyAt_apply, tallyAt_apply]
  split <;> simp

theorem sum_swap_ne (T : Fin 16 → Fin 16 → CellTallies nD τ sig Unit) :
    (∑ d, ∑ p ∈ from' (n := 16) 0 (· ≠ d), T d p) = ∑ c, ∑ p ∈ Finset.univ.filter (· ≠ c), T p c := by
  simp only [from_all, Finset.sum_filter]
  rw [Finset.sum_comm]
  refine Finset.sum_congr rfl fun c _ => Finset.sum_congr rfl fun p _ => ?_
  by_cases h : c = p
  · rw [if_neg (fun h' => h' h), if_neg (fun h' => h' h.symm)]
  · rw [if_pos h, if_pos (fun h' => h h'.symm)]

omit [FloatOps F] in
theorem cred_sig (q : Option Own) (c : Dev nD) : (Pipeline.launchCred (fun d => owSig q d 0) c : sProp 𝕄) = cred (tallyAt (kcell (c, q)) () 15) := by
  rw [Pipeline.launchCred_of_sum (fun d => owSig q d 0) (fun c => ∑ p ∈ Finset.univ.filter (fun p : Fin 16 => p ≠ c), tallyAt (kcell (c, q)) () 1)
    (sum_swap_ne fun d p => tallyAt (kcell (p, q)) () 1) (fun d g => tally_home d _ (fun _ => q) 1 g) c]
  exact congrArg cred (tally_const _ _ 15 (by revert c; decide))

omit [FloatOps F] in
theorem cred_cnt (c : Dev nD) : (Pipeline.launchCred (fun d => owCnt d 0) c : sProp 𝕄)
    = bigSep (Finset.univ.filter (· ≠ c)) fun p : Fin 16 => cred (tallyAt (kcell (c, some (.cr p))) () NC) := by
  rw [Pipeline.launchCred_of_sum (fun d => owCnt d 0) (fun c => ∑ p ∈ Finset.univ.filter (fun p : Fin 16 => p ≠ c), tallyAt (kcell (c, some (.cr p))) () NC)
    (sum_swap_ne fun d p => tallyAt (kcell (p, some (.cr d))) () NC) (fun d g => tally_home d _ (fun p => some (.cr p)) NC g) c, Pipeline.cred_finsetSum]

theorem sum_rows (T : Fin 16 → CellTallies nD τ sig Unit) :
    (∑ d, ∑ j ∈ from' (n := 1024) 0 (fun j => A.Dt d j ≠ d), T (A.Dt d j)) = ∑ c, ∑ _d ∈ dutyOf A.Dt c (some .dr), T c := by
  unfold dutyOf
  simp only [from_all, Finset.sum_filter]
  conv_rhs => rw [Finset.sum_comm]
  rw [Fintype.sum_prod_type]
  refine Finset.sum_congr rfl fun d _ => Finset.sum_congr rfl fun j _ => ?_
  rw [Finset.sum_eq_single (A.Dt d j) (fun c _ hc => if_neg fun h => hc h.2.symm) (fun h => absurd (Finset.mem_univ _) h)]
  by_cases h : A.Dt d j = d
  · rw [if_neg (fun h' => h' h), if_neg (fun h' => h'.1 h.symm)]
  · rw [if_pos h, if_pos ⟨fun h' => h h'.symm, rfl⟩]

theorem cred_row (c : Dev nD) : (Pipeline.launchCred (fun d => owRow A d 0) c : sProp 𝕄)
    = bigSep (Finset.range (nDuty A c (some .dr))) fun _ => cred (tallyAt (kcell (c, some .dr)) () NR) := by
  rw [Pipeline.launchCred_of_sum (fun d => owRow A d 0) (fun c => ∑ _d ∈ dutyOf A.Dt c (some .dr), tallyAt (kcell (c, some .dr)) () NR)
    (sum_rows A fun p => tallyAt (kcell (p, some .dr)) () NR) (fun d g => tally_home d _ (fun _ => some .dr) NR g) c, Pipeline.cred_finsetSum,
    bigSep_count (dutyOf A.Dt c (some .dr)) (cred (tallyAt (kcell (c, some .dr)) () NR))]

/-- What device `c` is owed at launch. -/
theorem creds (c : Dev nD) : (Pipeline.launchCred (O₀ A) c : sProp 𝕄) = iprop(cred (tallyAt (kcell (c, none)) () 15)
    ∗ (bigSep (Finset.univ.filter (· ≠ c)) fun p : Fin 16 => cred (tallyAt (kcell (c, some (.cr p))) () NC))
    ∗ (bigSep (Finset.range (nDuty A c (some .dr))) fun _ => cred (tallyAt (kcell (c, some .dr)) () NR))
    ∗ cred (tallyAt (kcell (c, some .ex)) () 15)) := by
  rw [← cred_sig, ← cred_sig, ← cred_cnt, ← cred_row, ← Pipeline.launchCred_add, ← Pipeline.launchCred_add, ← Pipeline.launchCred_add]
  rfl

end Cert.AllToAll

end
-- ==== Proof.Launch.lean ====
/-
# The run

The kernel's launch on all sixteen devices: every fair execution ends, each device's output holds the rows meant for it,
its inputs are as they were, and every semaphore is at zero.
-/
module

public import proofs.«01_k».proof.Proof.Deal
public import Idealize.ShloMosaic.Lib.Pipeline.CollectiveSegs

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (A : Inp F) (ρ : Dev nD → PrngReg)

/-! ## What a device starts from -/

/-- Its positions at its own cells and the duties it pays. -/
def linear (c : Dev nD) : sProp 𝕄 := iprop((bigSep Finset.univ fun k : Option Own => atPos ER (kcell (c, k)) 0 ∅ 0) ∗ payToks A c)
/-- What it is owed. -/
def owed (c : Dev nD) : sProp 𝕄 := iprop(cred (tallyAt (kcell (c, none)) () 15)
    ∗ (bigSep (Finset.univ.filter (· ≠ c)) fun p : Fin 16 => cred (tallyAt (kcell (c, some (.cr p))) () NC))
    ∗ (bigSep (Finset.range (nDuty A c (some .dr))) fun _ => cred (tallyAt (kcell (c, some .dr)) () NR))
    ∗ cred (tallyAt (kcell (c, some .ex)) () 15))
/-- Both, with the invariants of all cells. -/
def start (c : Dev nD) : sProp 𝕄 := iprop((∃ K, Ctx A K ∗ linear A c) ∗ owed A c)
/-- The four buffers the kernel works in. -/
def scratch (c : Dev nD) : sProp 𝕄 := iprop((∃ f : Buf (Elt F) (ℓc c), ((ℓc c) ↦[Finset.univ]{fullShare} f)) ∗ (∃ f : Buf (Elt F) (ℓr c), ((ℓr c) ↦[Finset.univ]{fullShare} f))
  ∗ (∃ f : Buf (Elt F) (ℓt c), ((ℓt c) ↦[Finset.univ]{fullShare} f)) ∗ (∃ f : Buf (Elt F) (ℓb c), ((ℓb c) ↦[Finset.univ]{fullShare} f)))
def Φ₀ (c : Dev nD) : sProp 𝕄 := iprop(start A c ∗ scratch (F := F) c)
/-- What it ends with, but for its staged arrays: every cell at zero. -/
def Φ₁ (c : Dev nD) : sProp 𝕄 := iprop(semVal (kcell (c, none)) 0 ∗ (bigSep Finset.univ fun k : Own => semVal (kcell (c, some k)) 0) ∗ scratch (F := F) c)

theorem some_row (f : S1024x512.Idx → Elt F .f32) (c : Dev nD) (r : Fin 1024) : oRow c r f ⊢ iprop(∃ f, oRow (F := F) c r f) := by
  iintro H; iexists f; iexact H
theorem some_tab (f : S16x16.Idx → Elt F .i32) (c : Dev nD) (r : Fin 16) : tRow c r f ⊢ iprop(∃ f, tRow (F := F) c r f) := by
  iintro H; iexists f; iexact H

/-- The output, as the rows this device fills and those the others fill. -/
theorem out_open (c : Dev nD) (f : S1024x512.Idx → Elt F .f32) : ((ℓo c) ↦[Finset.univ]{fullShare} f) ⊢ iprop(OwnOut A c
    ∗ bigSep (Finset.univ.filter (· ≠ c)) fun p : Fin 16 => bigSep (Finset.univ.filter fun j => A.Dt p j = c) fun j => iprop(∃ f, oRow (F := F) c (A.at p j) f)) := by
  rw [o_rows]
  refine (bigSep_mono' fun r _ => some_row f c r).trans (Entails.of_eq ?_)
  rw [out_sep A c, lo_sep, dr_sep]
  rfl
/-- The count table, by rows. -/
theorem tab_open (c : Dev nD) (f : S16x16.Idx → Elt F .i32) : ((ℓt c) ↦[Finset.univ]{fullShare} f) ⊢ iprop((∃ f, tRow (F := F) c c f)
    ∗ bigSep (Finset.univ.filter (· ≠ c)) fun p : Fin 16 => iprop(∃ f, tRow (F := F) c p f)) := by
  rw [t_rows]
  refine (bigSep_mono' fun r _ => some_tab f c r).trans (Entails.of_eq ?_)
  rw [sep_me c]

/-- The barrier signals can start. -/
theorem sig_begin (c : Dev nD) : iprop(BarTok (F := F) c
    ∗ (bigSep (Finset.univ.filter (· ≠ c)) fun p : Fin 16 => bigSep (Finset.univ.filter fun j => A.Dt p j = c) fun j => iprop(∃ f, oRow (F := F) c (A.at p j) f))
    ∗ (bigSep (Finset.univ.filter (· ≠ c)) fun p : Fin 16 => iprop(∃ f, tRow (F := F) c p f)) ∗ Owes c (O₀ A c)) ⊢ SigSt A none c (O₁ A c) 0 := by
  unfold SigSt
  rw [from_all]
  have e : bigSep (Finset.univ.filter (· ≠ c)) (sigItem A none c) = iprop(BarTok (F := F) c
    ∗ (bigSep (Finset.univ.filter (· ≠ c)) fun p : Fin 16 => bigSep (Finset.univ.filter fun j => A.Dt p j = c) fun j => iprop(∃ f, oRow (F := F) c (A.at p j) f))
    ∗ (bigSep (Finset.univ.filter (· ≠ c)) fun p : Fin 16 => iprop(∃ f, tRow (F := F) c p f))) := by
    unfold BarTok
    rw [← BI.bigSep_sep', ← BI.bigSep_sep']
    rfl
  iintro ⟨H1, H2, H3, HO⟩
  isplitl [H1 H2 H3]
  · iapply (Entails.of_eq e.symm)
    isplitl [H1]; · iexact H1
    isplitl [H2]; · iexact H2
    iexact H3
  iexact HO

omit [FloatOps F] in
/-- The positions, by use. -/
theorem pos_open (c : Dev nD) : (bigSep Finset.univ fun k : Option Own => (atPos ER (kcell (c, k)) 0 ∅ 0 : sProp 𝕄)) = iprop(atPos ER (kcell (c, none)) 0 ∅ 0
    ∗ (atPos ER (kcell (c, some (.cs c))) 0 ∅ 0 ∗ bigSep (Finset.univ.filter (· ≠ c)) fun p : Fin 16 => atPos ER (kcell (c, some (.cs p))) 0 ∅ 0)
    ∗ (atPos ER (kcell (c, some (.cr c))) 0 ∅ 0 ∗ bigSep (Finset.univ.filter (· ≠ c)) fun p : Fin 16 => atPos ER (kcell (c, some (.cr p))) 0 ∅ 0)
    ∗ atPos ER (kcell (c, some .ds)) 0 ∅ 0 ∗ atPos ER (kcell (c, some .dr)) 0 ∅ 0 ∗ atPos ER (kcell (c, some .lo)) 0 ∅ 0 ∗ atPos ER (kcell (c, some .ex)) 0 ∅ 0) := by
  rw [opt_split, own_split, sep_me c (fun p : Fin 16 => (atPos ER (kcell (c, some (.cs p))) 0 ∅ 0 : sProp 𝕄)),
    sep_me c (fun p : Fin 16 => (atPos ER (kcell (c, some (.cr p))) 0 ∅ 0 : sProp 𝕄))]

variable (K : Dev nD × Option Own → ℕ)

/-- All a device has at its start, arranged as its body takes it. -/
theorem body_in (c : Dev nD) : iprop((Ctx A K ∗ linear A c) ∗ owed A c ∗ scratch (F := F) c ∗ Owes c (O₀ A c)
    ∗ ((ℓd c) ↦[Finset.univ]{fullShare} A.D c) ∗ ((ℓx c) ↦[Finset.univ]{fullShare} A.X c) ∗ (∃ f, ((ℓo c) ↦[Finset.univ]{fullShare} f))) ⊢ BodyIn A K c := by
  unfold linear owed scratch payToks BodyIn RegIn WtIn DrainIn
  rw [pos_open]
  simp only [BI.bigSep_sep']
  iintro ⟨⟨#HC, ⟨Hp1, ⟨Hp2, Hp3⟩, ⟨Hp4, Hp5⟩, Hp6, Hp7, Hp8, Hp9⟩, Ht1, Ht2, Ht3, Ht4⟩, ⟨Hc1, Hc2, Hc3, Hc4⟩, ⟨Hs1, Hs2, ⟨%ft, Hs3⟩, Hs4⟩, HO, Hd, Hx, ⟨%fo, Ho⟩⟩
  ihave Ho := (out_open A c fo) $$ Ho
  icases Ho with ⟨Ho1, Ho2⟩
  ihave Hs3 := (tab_open (F := F) c ft) $$ Hs3
  icases Hs3 with ⟨Hs3, Hs5⟩
  isplitr; · iexact HC
  isplitl [Ht1 Ho2 Hs5 HO]
  · iapply (sig_begin A c)
    isplitl [Ht1]; · iexact Ht1
    isplitl [Ho2]; · iexact Ho2
    isplitl [Hs5]; · iexact Hs5
    iexact HO
  isplitl [Hc1 Hp1]
  · isplitl [Hc1]; · iexact Hc1
    iexact Hp1
  isplitl [Hs1]; · iexact Hs1
  isplitl [Hs2]; · iexact Hs2
  isplitl [Hs4]; · iexact Hs4
  isplitl [Hs3]; · iexact Hs3
  isplitl [Hd]; · iexact Hd
  isplitl [Hx]; · iexact Hx
  isplitl [Ho1]; · iexact Ho1
  isplitl [Ht2]; · iexact Ht2
  isplitl [Hc2 Hp3 Hp5]
  · isplitl [Hc2]; · iexact Hc2
    isplitl [Hp3]; · iexact Hp3
    iexact Hp5
  isplitl [Ht3]; · iexact Ht3
  isplitl [Hp8]; · iexact Hp8
  isplitl [Hp6]; · iexact Hp6
  isplitl [Hp7 Hc3]
  · isplitl [Hp7]; · iexact Hp7
    iexact Hc3
  isplitl [Ht4]; · iexact Ht4
  isplitl [Hc4 Hp9]
  · isplitl [Hc4]; · iexact Hc4
    iexact Hp9
  isplitl [Hp2]; · iexact Hp2
  iexact Hp4

/-! ## The body of the region -/

/-- The memory at launch: every semaphore at zero. -/
def s₀ : MemSt nD τ sig (Elt F) := ⟨A.m, fun _ => 0, ρ⟩

def dats (_ : Fin 1) (c : Dev nD) : Dat τ (Elt F) Unit ℕ UU ℕ cfg0 c where
  A w := (s₀ A ρ).mem ((cfg0.win w).arr.view.loc (c : Thread nD τ))
  after w _ := match w with
    | ⟨0, _⟩ => dstg A.m c
    | ⟨1, _⟩ => xstg A.m c
    | ⟨2, _⟩ => A.OA c
  Φ t := match t with
    | ⟨0, _⟩ => Φ₀ A c
    | ⟨_ + 1, _⟩ => Φ₁ c
  q _ := fullShare
  owed t := match t with
    | ⟨0, _⟩ => O₀ A c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ A c ∗ (dats A ρ 0 c).owesAt () t0_0.castSucc
    ∗ (∃ d, stg c cc0_stg0_0 ((dats A ρ 0 c).before (0 : Fin 3) t0_0 d))
    ∗ (∃ d, stg c cc0_stg1_0 ((dats A ρ 0 c).before (1 : Fin 3) t0_0 d))
    ∗ (∃ d, stg c cc0_stg2_0 ((dats A ρ 0 c).before (2 : Fin 3) t0_0 d)))

def bodyPost (c : Dev nD) : sProp 𝕄 :=
  iprop(Φ₁ (F := F) c ∗ (dats A ρ 0 c).owesAt () t0_0.succ ∗ stg c cc0_stg0_0 (dstg A.m c) ∗ stg c cc0_stg1_0 (xstg A.m c) ∗ stg c cc0_stg2_0 (A.OA c))

theorem body_out (c : Dev nD) : BodyOut A c ⊢ bodyPost A ρ c := by
  unfold BodyOut bodyPost Φ₁ scratch Owes Dat.owesAt Pipeline.owesWithin
  iintro ⟨H1, H2, H3, H4, H5, H6, Hd, Hx, Ho, ⟨%W, HO⟩⟩
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HO]
  · iexists W
    isplitr; · ipureintro; exact fun _ _ => Or.inl trivial
    iexact HO
  isplitl [Hd]
  · iexists _; isplitr; · ipureintro; exact (dstg_eq A c).symm
    iexact Hd
  isplitl [Hx]
  · iexists _; isplitr; · ipureintro; rfl
    iexact Hx
  iexists _; isplitr; · ipureintro; rfl
  iexact Ho

theorem body_run (c : Dev nD) : bodyPre A ρ c ⊢ wpK c (cc0_body (F := F) Md (Memref.isWhole_whole _) Mx (Memref.isWhole_whole _) Mo (Memref.isWhole_whole _)
    Mc (Memref.isWhole_whole _) Mr (Memref.isWhole_whole _) Mt (Memref.isWhole_whole _) Mb (Memref.isWhole_whole _) cc0_scratch4 cc0_scratch5 cc0_scratch6 cc0_scratch7 cc0_scratch8 cc0_scoped0)
    (fun _ => bodyPost A ρ c) := by
  unfold bodyPre Φ₀ start
  iintro ⟨⟨⟨⟨%K, Hl⟩, Hc⟩, Hs⟩, Ho, ⟨%d0, %g0, %hg0, Hd⟩, ⟨%d1, %g1, %hg1, Hx⟩, ⟨%d2, %g2, %hg2, Hout⟩⟩
  have hd : g0 = A.D c := by rw [hg0]; unfold Dat.before; rw [if_pos (fetch_0 t0_0)]; exact dstg_eq A c
  have hx : g1 = A.X c := by rw [hg1]; unfold Dat.before; rw [if_pos (fetch_1 t0_0)]; rfl
  subst hd
  subst hx
  unfold Dat.owesAt Pipeline.owesWithin
  icases Ho with ⟨%W, %hW, HO⟩
  rw [show (dats A ρ 0 c).owed t0_0.castSucc = O₀ A c from rfl]
  iapply (body_spec A K c (R := iprop(emp)) (Q := fun _ => bodyPost A ρ c) (by
    iintro ⟨H, -⟩; iapply (body_out A ρ c); iexact H))
  isplitl
  · iapply (body_in A K c)
    isplitl [Hl]; · iexact Hl
    isplitl [Hc]; · iexact Hc
    isplitl [Hs]; · iexact Hs
    isplitl [HO]; · unfold Owes; iexists W; iexact HO
    isplitl [Hd]; · iexact Hd
    isplitl [Hx]; · iexact Hx
    iexists g2; iexact Hout
  iempintro

set_option maxRecDepth 4000 in
/-- The body of the region, on any device. -/
theorem body_obligation (c : Dev nD) : BodyObligation (dats (F := F) A ρ 0 c) (defs₀ (F := F)) 𝒱₀ () Set.univ := fun t => by
  rw [fin_N0 t]
  rw [bigSep_W, bigSep_W]
  simp only [owns_whole_eq]
  exact body_run A ρ c

/-! ## The launch -/

theorem share_eq (c : Dev nD) (w : Fin cfg0.W) : (dats A ρ 0 c).share w = fullShare := by unfold Dat.share; split <;> rfl

def allCells : Finset (GSem nD τ sig) := Finset.univ.map ⟨kcell, kcell_injective⟩

/-- A duty of a cell, as minted. -/
def tokOf (x : (Dev nD × Option Own) × Duty) : GSem nD τ sig × ℕ × Duty := (kcell x.1, 0, x.2)
theorem tokOf_injective : Function.Injective tokOf := fun x y h => by
  obtain ⟨h1, h2⟩ := Prod.mk.inj h
  exact Prod.ext (kcell_injective h1) (Prod.mk.inj h2).2
def allToks : Finset (GSem nD τ sig × ℕ × Duty) :=
  (Finset.univ.filter fun x : (Dev nD × Option Own) × Duty => x.2 ∈ dutyOf A.Dt x.1.1 x.1.2).map ⟨tokOf, tokOf_injective⟩

def u₀ : UU :=
  (initOf (Pipeline.cells cfgs cellOf_inj) (Pipeline.launchToks cfgs cellOf_inj), initOf allCells (allToks A))

/-- What the launch deals device `c`. -/
def G (c : Dev nD) : sProp 𝕄 :=
  iprop((bigSep Finset.univ fun k : Option Own => roundState ER (Rd A) (kcell (c, k)) 0)
    ∗ (bigSep Finset.univ fun k : Option Own => iprop(atPos ER (kcell (c, k)) 0 ∅ 0 ∗ reached ER (kcell (c, k)) 0)) ∗ toks A c)

/-- The invariants of all cells under the names `K`, and the marks that all are in their first round. -/
def records : sProp 𝕄 :=
  iprop((bigSep Finset.univ fun ck : Dev nD × Option Own => cellInv ER (Rd A) (K ck) (kcell ck))
    ∗ bigSep Finset.univ fun ck : Dev nD × Option Own => reached ER (kcell ck) 0)
instance records_persistent : BI.Persistent (records A K) := by unfold records; infer_instance

/-- What device `c` has once the invariants stand. -/
def G' (c : Dev nD) : sProp 𝕄 := iprop(∃ K, records A K ∗ linear A c)

omit [FloatOps F] in
theorem cells_sep (Φ : GSem nD τ sig → sProp 𝕄) : bigSep allCells Φ = bigSep Finset.univ fun c : Dev nD => bigSep Finset.univ fun k : Option Own => Φ (kcell (c, k)) := by
  unfold allCells; rw [BI.bigSep_map, BI.bigSep_univ_prod]; rfl

omit [FloatOps F] in
theorem toks_sep : bigSep (allToks A) (fun x => (dutyTok ER x.1 x.2.1 x.2.2 : sProp 𝕄)) = bigSep Finset.univ fun c : Dev nD => toks A c := by
  unfold allToks
  rw [BI.bigSep_map, BI.bigSep_filter, BI.bigSep_univ_prod, BI.bigSep_univ_prod]
  refine bigSep_congr fun c _ => ?_
  unfold toks
  refine bigSep_congr fun k _ => ?_
  have e : bigSep (dutyOf A.Dt c k) (fun d => (dutyTok ER (kcell (c, k)) 0 d : sProp 𝕄))
      = bigSep (Finset.univ.filter fun d => d ∈ dutyOf A.Dt c k) (fun d => (dutyTok ER (kcell (c, k)) 0 d : sProp 𝕄)) :=
    congrArg (fun s => bigSep s _) (by ext d; simp)
  rw [e, BI.bigSep_filter]
  rfl

omit [FloatOps F] in
theorem fund_all : BI.own (ER (initOf allCells (allToks A))) ⊢ (|==> bigSep Finset.univ (G A) : sProp 𝕄) := by
  iintro HX
  imod (Rounds.fund ER (Rd A) allCells (allToks A)) $$ HX with ⟨Hst, Hr, Hat, Htok⟩
  imodintro
  ihave Hst' := (Entails.of_eq (cells_sep fun g => roundState ER (Rd A) g 0)) $$ Hst
  ihave Hat' := (Entails.of_eq (cells_sep fun g => atPos ER g 0 ∅ 0)) $$ Hat
  ihave Hr' := (Entails.of_eq (cells_sep fun g => reached ER g 0)) $$ Hr
  ihave Htok' := (Entails.of_eq (toks_sep A)) $$ Htok
  unfold G; simp only [BI.bigSep_sep']
  isplitl [Hst']; · iexact Hst'
  isplitl [Hat' Hr']
  · isplitl [Hat'] <;> iassumption
  iexact Htok'

omit [FloatOps F] in
/-- The barrier is the one semaphore the launch did not scope. -/
theorem unscopedSems0_eq (c : Dev nD) : (unscopedSems0 c : sProp 𝕄) = semVal (kcell (c, none)) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Own => semVal (kcell (c, some k)) 0 := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Own => semVal (kcell (c, k)) 0 : sProp 𝕄) := by
  rw [ownSems0_eq, unscopedSems0_eq, opt_split]
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks A c) := by
  unfold G
  iintro ⟨Hos, Hus, Hst, Hat, Htok⟩
  ihave Hv := (sems0_eq (F := F) c) $$ [Hos Hus]
  · isplitl [Hos] <;> iassumption
  imod (show iprop((bigSep Finset.univ fun k : Option Own => semVal (kcell (c, k)) 0) ∗ bigSep Finset.univ fun k : Option Own => roundState ER (Rd A) (kcell (c, k)) 0)
      ⊢ (|={Set.univ}=> bigSep Finset.univ fun k => iprop(∃ κ : ℕ, cellInv ER (Rd A) κ (kcell (c, k))) : sProp 𝕄) from by
        rw [← BI.bigSep_sep']
        exact (bigSep_mono fun k _ => (Rounds.body_intro ER (Rd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem keep_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact bigSep_mono h)

omit [FloatOps F] in
theorem deal_intro (c : Dev nD) : iprop(records A K ∗ linear A c) ⊢ G' A c := by
  unfold G'; iintro H; iexists K; iexact H

omit [FloatOps F] in
theorem regroup :
    (bigSep Finset.univ fun c : Dev nD => iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks A c) : sProp 𝕄)
      ⊢ bigSep Finset.univ (G' A) := by
  rw [BI.bigSep_sep', BI.bigSep_sep', ← BI.bigSep_univ_prod (fun ck : Dev nD × Option Own => iprop(∃ κ : ℕ, cellInv ER (Rd A) κ (kcell ck))),
    bigSep_congr (s := Finset.univ) (fun (c : Dev nD) _ => BI.bigSep_sep' Finset.univ (fun k : Option Own => (atPos ER (kcell (c, k)) 0 ∅ 0 : sProp 𝕄)) (fun k => reached ER (kcell (c, k)) 0)),
    BI.bigSep_sep', ← BI.bigSep_univ_prod (fun ck : Dev nD × Option Own => (reached ER (kcell ck) 0 : sProp 𝕄))]
  iintro ⟨HI, ⟨Hat, #HR⟩, Htok⟩
  ihave HK := (BI.bigSep_exists_pi Finset.univ (fun (ck : Dev nD × Option Own) (κ : ℕ) => (cellInv ER (Rd A) κ (kcell ck) : sProp 𝕄))) $$ HI
  icases HK with ⟨%K, #HI⟩
  ihave Htk := (toks_around A) $$ Htok
  iapply (keep_all (R := records A K) fun c _ => deal_intro A K c)
  isplitr
  · unfold records; isplitl; · iexact HI
    iexact HR
  · unfold linear
    iapply (Entails.of_eq (BI.bigSep_sep' Finset.univ (fun c : Dev nD => bigSep Finset.univ fun k : Option Own => (atPos ER (kcell (c, k)) 0 ∅ 0 : sProp 𝕄)) (payToks A)).symm)
    isplitl [Hat]; · iexact Hat
    iexact Htk

omit [FloatOps F] in
/-- The invariants of all cells of all devices, at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

theorem start_intro (c : Dev nD) :
    iprop(Pipeline.unscopedRestP Pipeline.Prefetch.none cfg0.spec c (fun b => A.m ((c : Thread nD τ).loc b)) ∗ levAts L lv
        ∗ Pipeline.launchCred (O₀ A) c ∗ prngReg c (ρ c) ∗ G' A c)
      ⊢ |={Set.univ}=> iprop(start A c ∗ emp) := by
  iintro ⟨-, #Hlev, Hcr, -, HG⟩
  ihave Hc := (Entails.of_eq (creds A c)) $$ Hcr
  unfold G' records
  icases HG with ⟨%K, ⟨#HI, #HR⟩, HL⟩
  imodintro
  unfold start owed
  isplitl
  · isplitl [HL]
    · iexists K
      isplitr
      · unfold Ctx
        isplitr; · iexact HI
        isplitr; · iexact HR
        iexact Hlev
      iexact HL
    iexact Hc
  · iempintro

theorem scratch_eq (c : Dev nD) : (Pipeline.scopedRest cfg0.spec c : sProp 𝕄) = scratch (F := F) c := by
  rw [scopedRest0_eq]; rfl

theorem phi0_intro (c : Dev nD) :
    iprop(start A c ∗ Pipeline.prefHeld Pipeline.Prefetch.none c (fun _ => fullShare.right) (fun k => k.elim0) ∗ Pipeline.scopedRest cfg0.spec c)
      ⊢ (dats A ρ 0 c).Φ 0 := by
  rw [show (dats A ρ 0 c).Φ 0 = Φ₀ A c from rfl, scratch_eq]
  unfold Φ₀
  iintro ⟨Hs, -, Hr⟩
  isplitl [Hs]; · iexact Hs
  iexact Hr

theorem phi1_exit (c : Dev nD) :
    (dats A ρ 0 c).Φ (Fin.last cfg0.N) ⊢ iprop(unscopedSems0 c ∗ Pipeline.ownSems0 osem c ∗ Pipeline.scopedRest cfg0.spec c) := by
  rw [show (dats A ρ 0 c).Φ (Fin.last cfg0.N) = Φ₁ (F := F) c from rfl, scratch_eq, ownSems0_eq, unscopedSems0_eq]
  unfold Φ₁
  exact BI.Entails.refl _

theorem dec_other (s : SemLoc sig) (h : ∀ k, csem k ≠ s) : dec s = none := by
  unfold dec; exact dif_neg fun ⟨k, hk⟩ => h k hk

theorem stage_other (w : Fin cfg0.W) (s : Fin (cfg0.win w).nbuf) : ∀ k : Option Own, csem k ≠ .dma ((cfg0.win w).sem s) := by
  fin_cases w <;> fin_cases s <;> decide

theorem waits (c : Dev nD) : (levAts L lv : sProp 𝕄) ⊢ Pipeline.cellsWaits cfgs (dats A ρ) () 0 c :=
  Pipeline.cellsWaits_intro cfgs (dats A ρ) () 0 c fun w s t =>
    mayWait c _ 0 (by
      rcases t with ⟨_ | _, ht⟩
      · exact above_O₀ A c
      · exact Above.zero) (by
      show (match dec (.dma _) with | none => 0 | some k => lvOf k) ≤ 0
      rw [dec_other _ (stage_other w s)])

/-! ## The run -/

def finalA (c : Dev nD) (w : Fin cfg0.W) : Buf (Elt F) ((cfg0.win w).arr.view.loc (c : Thread nD τ)) := (dats A ρ 0 c).arrAt w cfg0.N

/-- Every device's arrays at the end. -/
def QC : PUnit × MemSt nD τ sig (Elt F) → Prop := fun r =>
  ∀ c : Dev nD, ∀ w : Fin cfg0.W, r.2.mem ((cfg0.win w).arr.view.loc (c : Thread nD τ)) = finalA A ρ c w

set_option maxRecDepth 8000 in
/-- From any memory whose destinations are device numbers, each wanted 1024 times in all, with semaphores at zero: every
    weakly fair execution of the sixteen kernels ends, with the arrays as computed and every semaphore at zero. -/
theorem run_main : θ_run defs (onTc (τ := τ) (main (F := F))) (s₀ A ρ) (fun r => QC A ρ r ∧ r.2.sem = fun _ => 0) :=
  Pipeline.θ_run_region_owing_glob_pf (fun p => (cfgs p).toPCfg) (fun p => (cfgs p).toPCfg_adm) (dats A ρ) () cellOf_inj (0 : Fin 1)
    winFacts0.to₀ ownSemFacts (Pipeline.PreFacts.none _) EP defs₀ 𝒱₀ A.m ρ main
    (hmain := fun _ => rfl)
    (hbody := body_obligation A ρ) (hne := fun w => by fin_cases w <;> exact Nat.succ_pos _) (harr := arr_whole0) (hstage := stage_whole0) (hshare := share_eq A ρ)
    (hdistinct := winFacts0.arr_inj)
    (O₀ := O₀ A) (howed₀ := fun _ => rfl) (howedN := fun _ => rfl)
    (L := L) (lv := lv) (hL := L_of_ne) (hwaits := waits A ρ)
    (G := G A) (G' := G' A) (u₀ := u₀ A)
    (hu₀ := by
      unfold u₀
      iintro Hu
      ihave H := (ownU_pair _ _) $$ Hu
      icases H with ⟨HP, HX⟩
      imod (fund_all A) $$ HX with HG
      imodintro
      isplitl [HP] <;> iassumption)
    (hglob := glob A)
    (hA := fun _ _ => rfl) (hpf := fun _ k => k.elim0)
    (X := start A) (Y := fun c => unscopedSems0 c) (Z := fun _ => iprop(emp))
    (hX := start_intro A ρ) (hin := phi0_intro A ρ) (hout := phi1_exit A ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The destinations are not changed. -/
theorem finalA_d (c : Dev nD) : finalA A ρ c (0 : Fin 3) = A.m (win0_0.arr.view.loc (c : Thread nD τ)) :=
  (dats (F := F) A ρ 0 c).arrAt_in (0 : Fin 3) rfl _
/-- The rows are not changed. -/
theorem finalA_x (c : Dev nD) : finalA A ρ c (1 : Fin 3) = A.m (win0_1.arr.view.loc (c : Thread nD τ)) :=
  (dats (F := F) A ρ 0 c).arrAt_in (1 : Fin 3) rfl _

end Cert.AllToAll

end
-- ==== Proof.Input.lean ====
/-
# The run, from the precondition

Every device's destination array passes the balance test when each of the sixteen device numbers stands in it 64 times.
Then every word of it is a device number, and over the sixteen devices every destination is wanted 1024 times. This
module reads that off the printed test, and reads the result array at the end of the run.
-/
module

public import proofs.«01_k».proof.Proof.Launch
public import proofs.«01_k».proof.Proof.Gen.Pre_balanced_Kernel
public import Idealize.ShloMosaic.Lib.StableHlo.Predicate

@[expose] public section

noncomputable section

namespace Cert.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The test -/

/-- An array that passes the test holds each device number 64 times. -/
theorem count_of_test (x : FVec F Cert.Pre_balanced_Kernel.S1024x512 .f32) (w : IVec ⟨1, ![1024]⟩ 32)
    (h : Cert.Pre_balanced_Kernel.fn (F := F) x w = fun _ => 1#1) (e : Fin 16) :
    (Finset.univ.filter fun j : Fin 1024 => w (ix1 j) = BitVec.ofNat 32 e.val).card = 64 := by
  have h1 := congrFun h (Shape.Idx.ofFin e)
  unfold Cert.Pre_balanced_Kernel.fn at h1
  have h2 := StableHlo.Predicate.cmpi_eq_iff.mp h1
  have h3 := congrArg BitVec.toNat h2
  rw [StableHlo.Predicate.toNat_reduce_count_rows (by decide)] at h3
  refine Eq.trans (congrArg Finset.card (Finset.filter_congr fun j _ => ?_)) h3
  refine Iff.trans ?_ StableHlo.Predicate.cmpi_eq_iff.symm
  exact Eq.congr (StableHlo.Predicate.bcast_rows _ _ w j e).symm (StableHlo.Predicate.bcast_cols _ _ (iotaInDim ⟨1, ![16]⟩ 32 0) j e).symm

/-- The device number a word stands for (0 for a word that is none). -/
def destOf (w : IVec ⟨1, ![1024]⟩ 32) (j : Fin 1024) : Fin 16 :=
  if h : (w (ix1 j)).toNat < 16 then ⟨(w (ix1 j)).toNat, h⟩ else 0

theorem ofNat_inj16 {a b : Fin 16} (h : BitVec.ofNat 32 a.val = BitVec.ofNat 32 b.val) : a = b := by
  have := congrArg BitVec.toNat h
  simp only [BitVec.toNat_ofNat] at this
  exact Fin.ext (by omega)

/-- Where each device number stands 64 times, every word is a device number. -/
theorem word_of_count (w : IVec ⟨1, ![1024]⟩ 32)
    (H : ∀ e : Fin 16, (Finset.univ.filter fun j : Fin 1024 => w (ix1 j) = BitVec.ofNat 32 e.val).card = 64) (j : Fin 1024) :
    w (ix1 j) = BitVec.ofNat 32 (destOf w j).val := by
  have hU : (Finset.univ.biUnion fun e : Fin 16 => Finset.univ.filter fun j : Fin 1024 => w (ix1 j) = BitVec.ofNat 32 e.val) = Finset.univ := by
    apply Finset.eq_univ_of_card
    rw [Finset.card_biUnion]
    · rw [Finset.sum_congr rfl fun e _ => H e]; simp
    · intro a _ b _ hab
      rw [Function.onFun, Finset.disjoint_left]
      intro j ha hb
      exact hab (ofNat_inj16 ((Finset.mem_filter.mp ha).2.symm.trans (Finset.mem_filter.mp hb).2))
  have hj : j ∈ (Finset.univ.biUnion fun e : Fin 16 => Finset.univ.filter fun j : Fin 1024 => w (ix1 j) = BitVec.ofNat 32 e.val) := by rw [hU]; exact Finset.mem_univ j
  obtain ⟨e, -, he⟩ := Finset.mem_biUnion.mp hj
  replace he := (Finset.mem_filter.mp he).2
  have ht : (w (ix1 j)).toNat = e.val := by rw [he, BitVec.toNat_ofNat]; have := e.isLt; omega
  rw [show destOf w j = e from by
    unfold destOf; rw [dif_pos (by rw [ht]; exact e.isLt)]; exact Fin.ext ht]
  exact he

/-- … and the rows sent to each device number are 64. -/
theorem card_destOf (w : IVec ⟨1, ![1024]⟩ 32)
    (H : ∀ e : Fin 16, (Finset.univ.filter fun j : Fin 1024 => w (ix1 j) = BitVec.ofNat 32 e.val).card = 64) (d : Fin 16) :
    (Finset.univ.filter fun j : Fin 1024 => destOf w j = d).card = 64 := by
  rw [← H d]
  refine congrArg Finset.card (Finset.filter_congr fun j _ => ?_)
  have hw := word_of_count w H j
  exact ⟨fun h => by rw [hw, h], fun h => ofNat_inj16 (hw.symm.trans h)⟩

/-! ## Blocks that are whole arrays -/

/-- The block of destinations read is the whole array. -/
theorem dstg_whole (m : (ℓ : Loc nD τ sig) → Buf (Elt F) ℓ) (c : Dev nD) : dstg m c = m ((c : Thread nD τ).loc main_arg1) :=
  Memref.read_access_unit_zero (Elt F) main_arg1 (funext fun a => by fin_cases a <;> decide) (fun a => by fin_cases a <;> decide) _
/-- The block of rows read is the whole array. -/
theorem xstg_whole (m : (ℓ : Loc nD τ sig) → Buf (Elt F) ℓ) (c : Dev nD) : xstg m c = m ((c : Thread nD τ).loc main_arg0) :=
  Memref.read_access_unit_zero (Elt F) main_arg0 (funext fun a => by fin_cases a <;> decide) (fun a => by fin_cases a <;> decide) _

/-- A memory every device's destination array of which passes the test. -/
def Passes (m : (ℓ : Loc nD τ sig) → Buf (Elt F) ℓ) : Prop := ∀ c : Dev nD,
  Cert.Pre_balanced_Kernel.fn (F := F) (m ((c.tc : Thread nD τ).loc main_arg0)) (m ((c.tc : Thread nD τ).loc main_arg1)) = fun _ => 1#1

/-- The destination of every row in a memory. -/
def destsOf (m : (ℓ : Loc nD τ sig) → Buf (Elt F) ℓ) : Dests := fun c j => destOf (m ((Dev.tc (c : Dev nD) : Thread nD τ).loc main_arg1)) j

theorem word_destsOf {m : (ℓ : Loc nD τ sig) → Buf (Elt F) ℓ} (h : Passes m) (c : Dev nD) (j : Fin 1024) :
    (m ((c.tc : Thread nD τ).loc main_arg1) : IVec ⟨1, ![1024]⟩ 32) (ix1 j) = BitVec.ofNat 32 (destsOf m c j).val :=
  word_of_count _ (count_of_test _ _ (h c)) j

theorem balanced_destsOf {m : (ℓ : Loc nD τ sig) → Buf (Elt F) ℓ} (h : Passes m) : Balanced (destsOf m) := fun d => by
  rw [Finset.sum_congr rfl fun s _ => show cnt (destsOf m) s d = 64 from card_destOf _ (count_of_test _ _ (h s)) d]
  simp

/-- The input of a run from a memory that passes. -/
def inp {m : (ℓ : Loc nD τ sig) → Buf (Elt F) ℓ} (h : Passes m) : Inp F where
  m := m
  Dt := destsOf m
  bal := balanced_destsOf h
  words c j := by rw [dstg_whole]; exact word_destsOf h c j

variable (A : Inp F) (ρ : Dev nD → PrngReg)

/-- The result array at the end holds, on each device, the rows sent to it in order. -/
theorem finalA_o (c : Dev nD) : finalA A ρ c (2 : Fin 3) = A.OA c := by
  have h : (win0_2.blk (0 : Fin 1)).view.read (Elt F) (finalA A ρ c (2 : Fin 3)) = A.OA c := by
    unfold finalA
    rw [show cfg0.N = ((0 : Fin 1) : Fin cfg0.N).val + 1 from rfl, (dats A ρ 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt F) main_v1 (funext fun a => by fin_cases a <;> decide) (fun a => by fin_cases a <;> decide) _).symm

/-- Every weakly fair execution ends with the arguments unchanged, the result as `Inp.OA` says and every semaphore at
    zero. -/
theorem run : θ_run defs (onTc (τ := τ) (main (F := F))) ⟨A.m, fun _ => 0, ρ⟩ fun r =>
    (∀ c : Dev nD, r.2.mem ((c.tc : Thread nD τ).loc main_v1) = A.OA c
      ∧ r.2.mem ((c.tc : Thread nD τ).loc main_arg0) = A.m ((c.tc : Thread nD τ).loc main_arg0)
      ∧ r.2.mem ((c.tc : Thread nD τ).loc main_arg1) = A.m ((c.tc : Thread nD τ).loc main_arg1))
    ∧ r.2.sem = fun _ => 0 :=
  (θ_run defs _ _).mono (fun _ h => ⟨fun c => ⟨(h.1 c (2 : Fin 3)).trans (finalA_o A ρ c),
    (h.1 c (1 : Fin 3)).trans (finalA_x A ρ c), (h.1 c (0 : Fin 3)).trans (finalA_d A ρ c)⟩, h.2⟩) (run_main A ρ)

end Cert.AllToAll

end
-- ==== Proof.Argsort.lean ====
/-
# What the reference computes

The reference sorts the 16384 destinations, keeping rows of one destination in their order, and takes the rows of the
input in that order. When every destination is wanted 1024 times, row `1024 d + r` of the result is the row `src d r` of
the input: the map `1024 d + r ↦ src d r` lists all rows with their pairs (destination, row number) ascending, and a
stable sort's list of positions is the only one that does.
-/
module

public import proofs.«01_k».proof.Proof.Pos
public import proofs.«01_k».proof.Proof.Gen.ReferenceIdeal.Run
public import Idealize.ShloMosaic.Lib.SortPrefix
public import Idealize.ShloMosaic.Lib.Routing.Ops

@[expose] public section

noncomputable section

namespace Cert.AllToAll

open Idealize.ShloMosaic

/-! ## A stable sort by a key -/

/-- Inserting depends only on how the list's elements compare with the new one. -/
theorem insertBefore_congr {ι : Type} (R B : ι → ι → Bool) (a : ι) (l : List ι) (h : ∀ b ∈ l, R b a = B b a) :
    insertBefore R a l = insertBefore B a l := by
  induction l with
  | nil => rfl
  | cons b l ih =>
    unfold insertBefore
    rw [h b (List.mem_cons_self ..), ih fun c hc => h c (List.mem_cons_of_mem _ hc)]

/-- Two comparisons that agree whenever the second operand stands earlier in the list sort it alike. -/
theorem stableSort_congr_earlier {ι : Type} (R B : ι → ι → Bool) (l : List ι) (h : l.Pairwise fun a b => R b a = B b a) :
    stableSort R l = stableSort B l := by
  induction l with
  | nil => rfl
  | cons a l ih =>
    obtain ⟨h1, h2⟩ := List.pairwise_cons.mp h
    unfold stableSort
    rw [ih h2]
    exact insertBefore_congr R B a _ fun b hb => h1 b ((perm_stableSort B l).mem_iff.mp hb)

/-- A map along which the pairs (key, position) ascend is the stable sort by the key. -/
theorem sortedFrom_key {n : ℕ} (key : Fin n → ℕ) (σ : Fin n → Fin n)
    (hσ : ∀ i j, i < j → key (σ i) < key (σ j) ∨ key (σ i) = key (σ j) ∧ σ i < σ j) (i : Fin n) :
    sortedFrom (fun a b => decide (key a < key b)) i = σ i := by
  have hB := StrictTotalBefore.of_key_then_position (fun a b : ℕ => decide (a < b)) key (by simp)
    (by simp only [decide_eq_true_eq]; exact fun a b c => Nat.lt_trans) (by simp only [decide_eq_true_eq]; omega)
  have hs : sortPositions n (fun a b => decide (key a < key b))
      = sortPositions n (fun k k' : Fin n => decide (key k < key k') || (decide (key k = key k') && decide (k < k'))) :=
    stableSort_congr_earlier _ _ _ ((List.pairwise_lt_finRange n).imp fun {a b} hab => by
      have : ¬ b < a := by omega
      simp [this])
  have hinj : Function.Injective σ := fun i j e => by
    rcases Nat.lt_trichotomy i.val j.val with h | h | h
    · have := hσ i j h; rw [e] at this; omega
    · exact Fin.ext h
    · have := hσ j i h; rw [e] at this; omega
  have hsurj := Finite.surjective_of_injective hinj
  have key_lemma := hB.sortedFrom_eq_of_prefix (Nat.le_refl n) σ hinj
    (fun i j hij => hB.asymm _ _ (by
      have := hσ i j hij
      simp only [Bool.or_eq_true, Bool.and_eq_true, decide_eq_true_eq]
      exact this))
    (fun _ p hp => by obtain ⟨j, hj⟩ := hsurj p; exact absurd hj (hp j)) i
  refine Eq.trans ?_ key_lemma
  unfold sortedFrom
  rw [List.get_of_eq hs]
  rfl

/-! ## The rows of one destination -/

/-- The number of row `j` of device `s` among all rows. -/
def pack (s : Fin 16) (j : Fin 1024) : Fin 16384 := ⟨1024 * s.val + j.val, by omega⟩
/-- The device of a row number. -/
def devOf (p : Fin 16384) : Fin 16 := ⟨p.val / 1024, by omega⟩
/-- The row of a row number on its device. -/
def idxOf (p : Fin 16384) : Fin 1024 := ⟨p.val % 1024, by omega⟩

theorem devOf_pack (s j) : devOf (pack s j) = s := Fin.ext (by show (1024 * s.val + j.val) / 1024 = s.val; omega)
theorem idxOf_pack (s j) : idxOf (pack s j) = j := Fin.ext (by show (1024 * s.val + j.val) % 1024 = j.val; omega)
theorem pack_eta (p) : pack (devOf p) (idxOf p) = p := Fin.ext (by show 1024 * (p.val / 1024) + p.val % 1024 = p.val; omega)

variable {Dt : Dests} (hB : Balanced Dt)

/-- The row number that row `1024 d + r` of the result comes from. -/
def order (p : Fin 16384) : Fin 16384 := pack (src hB (devOf p) (idxOf p)).1 (src hB (devOf p) (idxOf p)).2

theorem order_pack (d r) : order hB (pack d r) = pack (src hB d r).1 (src hB d r).2 := by
  unfold order; rw [devOf_pack, idxOf_pack]

/-- The destination of a row number. -/
def keyOf (Dt : Dests) (p : Fin 16384) : ℕ := (Dt (devOf p) (idxOf p)).val

theorem keyOf_order (p) : keyOf Dt (order hB p) = (devOf p).val := by
  unfold keyOf order; rw [devOf_pack, idxOf_pack, dest_src hB]

/-- Along `order` the pairs (destination, row number) ascend. -/
theorem order_lt (p q : Fin 16384) (h : p < q) :
    keyOf Dt (order hB p) < keyOf Dt (order hB q) ∨ keyOf Dt (order hB p) = keyOf Dt (order hB q) ∧ order hB p < order hB q := by
  rw [keyOf_order, keyOf_order]
  have hpq : p.val < q.val := h
  by_cases hd : devOf p = devOf q
  · refine .inr ⟨by rw [hd], ?_⟩
    have hv : p.val / 1024 = q.val / 1024 := congrArg Fin.val hd
    have hr : idxOf p < idxOf q := by show p.val % 1024 < q.val % 1024; omega
    unfold order
    rw [← hd]
    have h1 := src_lt_src hB (devOf p) hr
    show 1024 * _ + _ < 1024 * _ + _
    rcases h1 with h1 | ⟨h1, h2⟩
    · have : (src hB (devOf p) (idxOf p)).1.val < (src hB (devOf p) (idxOf q)).1.val := h1
      omega
    · have e : (src hB (devOf p) (idxOf p)).1.val = (src hB (devOf p) (idxOf q)).1.val := congrArg Fin.val h1
      have : (src hB (devOf p) (idxOf p)).2.val < (src hB (devOf p) (idxOf q)).2.val := h2
      omega
  · have : p.val / 1024 ≠ q.val / 1024 := fun e => hd (Fin.ext e)
    exact .inl (show p.val / 1024 < q.val / 1024 by omega)

/-! ## The reference's operations -/

section Ref

open Cert.ReferenceIdeal Cert.ReferenceIdeal.Gen

/-- The positions the reference sorts the destinations into. -/
abbrev refSort (w : IVec S16384 32) : IVec S16384 32 := (Host.sort2 S16384 0 comparator_i32_i32_d0 w (iotaInDim S16384 32 0)).2

/-- The rows the reference takes. -/
abbrev refOut {α : Type} (x : S16384x512.Idx → α) (w : IVec S16384 32) : S16384x512.Idx → α :=
  Host.gather gather_S16384x512_S16384x1_S16384x512_1_0_n_n_0_1_1512 x
    (broadcastInDim S16384x1 ![0] bcast_S16384_S16384x1_0
      (select (cmpi .slt (refSort w) (broadcastInDim S16384 ![] bcast_S_S16384 (constantI S_ 32 0#32)))
        (addi (refSort w) (broadcastInDim S16384 ![] bcast_S_S16384 (constantI S_ 32 16384#32))) (refSort w)))

/-- Comparing two destination words is comparing the destinations. -/
theorem comparator_eq {a b : ℕ} (ha : a < 16) (hb : b < 16) (y y' : BitVec 32) :
    (comparator_i32_i32_d0 (BitVec.ofNat 32 a, y) (BitVec.ofNat 32 b, y') == 1#1) = decide (a < b) := by
  have h := StableHlo.Predicate.slt_iff_toNat (a := BitVec.ofNat 32 a) (b := BitVec.ofNat 32 b)
    (by rw [BitVec.toNat_ofNat]; omega) (by rw [BitVec.toNat_ofNat]; omega)
  rw [BitVec.toNat_ofNat, BitVec.toNat_ofNat, Nat.mod_eq_of_lt (by omega), Nat.mod_eq_of_lt (by omega)] at h
  rw [Bool.eq_iff_iff, beq_iff_eq, decide_eq_true_eq]
  exact h

/-- The positions in sorted order are `order`'s. -/
theorem refSort_eq (w : IVec S16384 32) (hw : ∀ p, w (ValueIdx.ix1 p) = BitVec.ofNat 32 (keyOf Dt p)) (p : Fin 16384) :
    refSort w (ValueIdx.ix1 p) = BitVec.ofNat 32 (order hB p).val := by
  have hd : 0 < S16384.rank := Nat.zero_lt_one
  have e : ∀ (j : S16384.Idx) (c : Fin 16384), j.along (⟨0, hd⟩ : Fin S16384.rank) c = ValueIdx.ix1 c := fun j c =>
    (Shape.Idx.along_rank1 j c).trans (Routing.ofFin_eq_ix1 c)
  have hs : sortedFrom (n := 16384) (fun a b : Fin 16384 =>
      comparator_i32_i32_d0 (w ((ValueIdx.ix1 p).along (⟨0, hd⟩ : Fin S16384.rank) a), iotaInDim S16384 32 0 ((ValueIdx.ix1 p).along (⟨0, hd⟩ : Fin S16384.rank) a))
        (w ((ValueIdx.ix1 p).along (⟨0, hd⟩ : Fin S16384.rank) b), iotaInDim S16384 32 0 ((ValueIdx.ix1 p).along (⟨0, hd⟩ : Fin S16384.rank) b)) == 1#1) p
      = order hB p := by
    rw [show (fun a b : Fin 16384 =>
      comparator_i32_i32_d0 (w ((ValueIdx.ix1 p).along (⟨0, hd⟩ : Fin S16384.rank) a), iotaInDim S16384 32 0 ((ValueIdx.ix1 p).along (⟨0, hd⟩ : Fin S16384.rank) a))
        (w ((ValueIdx.ix1 p).along (⟨0, hd⟩ : Fin S16384.rank) b), iotaInDim S16384 32 0 ((ValueIdx.ix1 p).along (⟨0, hd⟩ : Fin S16384.rank) b)) == 1#1)
      = fun a b => decide (keyOf Dt a < keyOf Dt b) from funext fun a => funext fun b => by
        rw [e _ a, e _ b, hw, hw]
        exact comparator_eq (Fin.isLt _) (Fin.isLt _) _ _]
    exact sortedFrom_key (keyOf Dt) (order hB) (order_lt hB) p
  unfold refSort Host.sort2
  rw [dif_pos hd]
  exact (congrArg (fun c : Fin 16384 => iotaInDim S16384 32 0 ((ValueIdx.ix1 p).along (⟨0, hd⟩ : Fin S16384.rank) c)) hs).trans
    (congrArg (iotaInDim S16384 32 0) (e _ _))

/-- The reference's row `1024 d + r` is the input's row `src d r`. -/
theorem refOut_eq {α : Type} (x : S16384x512.Idx → α) (w : IVec S16384 32)
    (hw : ∀ p, w (ValueIdx.ix1 p) = BitVec.ofNat 32 (keyOf Dt p)) (p : Fin 16384) (l : Fin 512) :
    refOut x w (ValueIdx.ix2 p l) = x (ValueIdx.ix2 (order hB p) l) := by
  refine Routing.gather_row (nb := 16384) (B := 512) (n := 16384) _ rfl rfl rfl rfl rfl x _ p l (order hB p) ?_ (by decide)
  refine (Routing.bcCol (n := 16384) bcast_S16384_S16384x1_0 _ p).trans ?_
  have h := refSort_eq hB w hw p
  show Scalar.select (IntOp.cmpi .slt (refSort w (ValueIdx.ix1 p)) 0#32) _ (refSort w (ValueIdx.ix1 p)) = _
  rw [h]
  have hc : ¬ IntOp.cmpi .slt (BitVec.ofNat 32 (order hB p).val) 0#32 = 1#1 := fun hc => by
    have hlt := (order hB p).isLt
    have := (StableHlo.Predicate.slt_iff_toNat (by rw [BitVec.toNat_ofNat]; omega) (by decide)).mp hc
    simp at this
  unfold Scalar.select
  exact if_neg hc

end Ref

end Cert.AllToAll

end
-- ==== Proof.lean ====
/-
# The claims of the all-to-all

The kernel exchanges rows between sixteen devices by destination. Its run is proved once, for any float values
(`Cert.AllToAll.run`), and read here at bit patterns and at the ideal values; the reference's run is its operations
composed, and the two results are the same rows.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_balanced_Kernel
public import proofs.«01_k».proof.Proof.Gen.Pre_balanced_ReferenceIdeal
public import proofs.«01_k».proof.Proof.Input
public import proofs.«01_k».proof.Proof.Argsort

@[expose] public section

noncomputable section

namespace Cert.Proof

open Idealize.ShloMosaic Idealize.SL.Sem Cert.AllToAll
open Idealize.ShloMosaic.TcCoe

/-- At any float values: the run ends with the arguments unchanged and every semaphore at zero. -/
theorem quiet {F : FTy → Type} [FloatOps F] (m : (ℓ : Loc Cert.KernelIdeal.nD Cert.KernelIdeal.τ Cert.KernelIdeal.sig) → Buf (Elt F) ℓ)
    (ρ : Dev Cert.KernelIdeal.nD → PrngReg) (h : Passes m) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => (h.1 c).2, h.2⟩) (Cert.AllToAll.run (inp h) ρ)

/-! ## The printed program and its idealization have one text -/

set_option maxHeartbeats 4000000 in
/-- The two bodies are the same. -/
theorem defs₀_eq {F : FTy → Type} [FloatOps F] : @Cert.Kernel.defs₀ F _ = @Cert.KernelIdeal.defs₀ F _ := by
  refine congrArg (Defs.onTc (nD := Cert.Kernel.nD) (τ := Cert.Kernel.τ) (sig := Cert.Kernel.sig) (Val := Elt F) (Λ := Cert.Kernel.Λ₀)) ?_
  funext l a
  match l, a with
  | 0, (t, s) => rfl

/-- The two tables of bodies are the same. -/
theorem defs_eq {F : FTy → Type} [FloatOps F] : @Cert.Kernel.defs F _ = @Cert.KernelIdeal.defs F _ :=
  congrArg (Pipeline.defs Cert.Kernel.pcfgs) defs₀_eq

/-! ## The frames -/

/-- The kernel ends, its arguments unchanged and every semaphore at zero. -/
theorem frame_kernel : Cert.quiescent_Kernel := fun m ρ h => by
  rw [defs_eq]
  exact quiet (F := Bits) m ρ h

/-- So does its idealization. -/
theorem frame_kernelideal : Cert.quiescent_KernelIdeal := fun m ρ h => quiet m ρ h

/-- So does the reference, which has no semaphore. -/
theorem frame_referenceideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The same from an input that passes the test. -/
theorem frame_referenceideal_balanced : Cert.quiescent_ReferenceIdeal_pre_balanced_ReferenceIdeal := fun m ρ _ =>
  frame_referenceideal m ρ trivial

/-! ## The result -/

/-- Entry `j` of block `c` of the destinations is entry `1024 c + j` of the whole. -/
theorem block_dest (w : IVec Cert.ReferenceIdeal.S16384 32) (c : Fin 16) (j : Fin 1024) :
    Layout.block ⟨1, ![1024]⟩ ⟨1, ![16384]⟩ 0 16 c w (by decide) (ix1 j) = w (ValueIdx.ix1 (pack c j)) := by
  refine congrArg w (funext fun a => Fin.ext ?_)
  match a with
  | ⟨0, _⟩ => show c.val * 1024 + j.val = 1024 * c.val + j.val; omega

/-- Row `j` of block `c` of a matrix is row `1024 c + j` of the whole. -/
theorem block_row {α : Type} (x : Cert.ReferenceIdeal.S16384x512.Idx → α) (c : Fin 16) (j : Fin 1024) (l : Fin 512) :
    Layout.block ⟨2, ![1024, 512]⟩ ⟨2, ![16384, 512]⟩ 0 16 c x (by decide) (ix2 j l) = x (ValueIdx.ix2 (pack c j) l) := by
  refine congrArg x (funext fun a => Fin.ext ?_)
  match a with
  | ⟨0, _⟩ => show c.val * 1024 + j.val = 1024 * c.val + j.val; omega
  | ⟨1, _⟩ => rfl

/-- From blocks of whole arrays, device `c` ends with block `c` of what the reference computes of the whole arrays. -/
theorem result_eq {F : FTy → Type} [FloatOps F] {m : (ℓ : Loc Cert.KernelIdeal.nD Cert.KernelIdeal.τ Cert.KernelIdeal.sig) → Buf (Elt F) ℓ}
    (h : Passes m) (x : Cert.ReferenceIdeal.S16384x512.Idx → Elt F .f32) (w : IVec Cert.ReferenceIdeal.S16384 32)
    (hx : ∀ c : Dev Cert.KernelIdeal.nD, m ((c.tc : Thread Cert.KernelIdeal.nD Cert.KernelIdeal.τ).loc Cert.KernelIdeal.main_arg0)
      = Layout.block ⟨2, ![1024, 512]⟩ ⟨2, ![16384, 512]⟩ 0 16 c x)
    (hw : ∀ c : Dev Cert.KernelIdeal.nD, m ((c.tc : Thread Cert.KernelIdeal.nD Cert.KernelIdeal.τ).loc Cert.KernelIdeal.main_arg1)
      = Layout.block ⟨1, ![1024]⟩ ⟨1, ![16384]⟩ 0 16 c w) (c : Dev Cert.KernelIdeal.nD) :
    (inp h).OA c = Layout.block ⟨2, ![1024, 512]⟩ ⟨2, ![16384, 512]⟩ 0 16 c (refOut x w) := by
  have hkey : ∀ p, w (ValueIdx.ix1 p) = BitVec.ofNat 32 (keyOf (destsOf m) p) := fun p => by
    have h1 := word_destsOf h (devOf p) (idxOf p)
    rw [hw, block_dest, pack_eta] at h1
    exact h1
  funext i
  obtain ⟨r, l, rfl⟩ : ∃ r l, i = ix2 r l := ⟨rowOf i, colOf i, (ix2_eta i).symm⟩
  rw [block_row, refOut_eq (balanced_destsOf h) x w hkey, order_pack, ← block_row x]
  show xstg m _ (ix2 _ l) = _
  rw [xstg_whole, hx]
  rfl

/-- The kernel and the reference, at the ideal values, compute the same rows. -/
theorem algebraic : Cert.algebraic_KernelIdeal_ReferenceIdeal := fun m ρ m' ρ' hp hagree =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (result_eq hp _ _ (fun c => (hagree c).1) (fun c => (hagree c).2) c), (h.1 c).2⟩)
      (Cert.AllToAll.run (inp hp) ρ),
    (θ_run Cert.ReferenceIdeal.defs _ _).mono (fun _ h => h 0) (Cert.ReferenceIdeal.Value.run m' ρ')⟩

/-- All the claims. -/
theorem claim : Cert.Claim :=
  ⟨Cert.Kernel.Gen.facts, Cert.KernelIdeal.Gen.facts, Cert.ReferenceIdeal.Gen.facts, Cert.Pre_balanced_Kernel.Gen.facts,
    Cert.Pre_balanced_ReferenceIdeal.Gen.facts, frame_kernel, frame_kernelideal, frame_referenceideal,
    frame_referenceideal_balanced, trivial, algebraic⟩

end Cert.Proof

end
